-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_flags [hPre_flags : Cert.Pre_flags.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_flags.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_flags [hPre_flags : Cert.Pre_flags.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_flags.fn (F := Ideal) (m ((c.tc : Thread Cert.Reference2Ideal.nD Cert.Reference2Ideal.τ).loc Cert.Reference2Ideal.main_arg0))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_layout [hPre_layout : Cert.Pre_layout.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_layout.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_layout [hPre_layout : Cert.Pre_layout.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_layout.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_flags [hKernel2Ideal : Cert.Kernel2Ideal.Facts] [hPre_flags : Cert.Pre_flags.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_flags m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_flags [hReference2Ideal : Cert.Reference2Ideal.Facts] [hPre_flags : Cert.Pre_flags.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_flags m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_layout [hKernel3Ideal : Cert.Kernel3Ideal.Facts] [hPre_layout : Cert.Pre_layout.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_layout m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_layout [hReference3Ideal : Cert.Reference3Ideal.Facts] [hPre_layout : Cert.Pre_layout.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_layout m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_flags [hKernel2Ideal : Cert.Kernel2Ideal.Facts] [hReference2Ideal : Cert.Reference2Ideal.Facts] [hPre_flags : Cert.Pre_flags.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_flags m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v13) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v111) = v0 c
          ∧ r.2.mem ((c.tc : Thread Cert.Reference2Ideal.nD Cert.Reference2Ideal.τ).loc Cert.Reference2Ideal.main_v121) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  True

def algebraic_Kernel3Ideal_Reference3Ideal_pre_layout [hKernel3Ideal : Cert.Kernel3Ideal.Facts] [hReference3Ideal : Cert.Reference3Ideal.Facts] [hPre_layout : Cert.Pre_layout.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_layout m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v84) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_flags : Cert.Pre_flags.Facts) (hPre_layout : Cert.Pre_layout.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_flags (hKernel2Ideal := hKernel2Ideal) (hPre_flags := hPre_flags)
    ∧ quiescent_Reference2Ideal (hReference2Ideal := hReference2Ideal)
    ∧ quiescent_Reference2Ideal_pre_flags (hReference2Ideal := hReference2Ideal) (hPre_flags := hPre_flags)
    ∧ quiescent_Kernel3 (hKernel3 := hKernel3)
    ∧ quiescent_Kernel3Ideal (hKernel3Ideal := hKernel3Ideal)
    ∧ quiescent_Kernel3Ideal_pre_layout (hKernel3Ideal := hKernel3Ideal) (hPre_layout := hPre_layout)
    ∧ quiescent_Reference3Ideal (hReference3Ideal := hReference3Ideal)
    ∧ quiescent_Reference3Ideal_pre_layout (hReference3Ideal := hReference3Ideal) (hPre_layout := hPre_layout)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_flags (hKernel2Ideal := hKernel2Ideal) (hReference2Ideal := hReference2Ideal) (hPre_flags := hPre_flags)
    ∧ preserves_Kernel3_Kernel3Ideal
    ∧ algebraic_Kernel3Ideal_Reference3Ideal_pre_layout (hKernel3Ideal := hKernel3Ideal) (hReference3Ideal := hReference3Ideal) (hPre_layout := hPre_layout)
-- ==== Pre_flags.lean ====
abbrev S6x2048 : Shape := ⟨2, ![6, 2048]⟩
abbrev S1x2000 : Shape := ⟨2, ![1, 2000]⟩
abbrev S2000 : Shape := ⟨1, ![2000]⟩
abbrev S_ : Shape := ⟨0, ![]⟩

class Facts : Prop where
  slices_S6x2048_S1x2000_5_0 : S6x2048.Slices ![5, 0] S1x2000
  shapeCasts_S1x2000_S2000 : S1x2000.ShapeCasts S2000
  bcast_S_S2000 : S_.BroadcastsInDim S2000 (![] : Fin 0 → Fin S2000.rank)

variable [Facts]

def fn {F : FTy → Type} [FloatOps F] (main_arg0 : FVec F S6x2048 .f32) : IVec S2000 1 :=
  let main_v0 : FVec F S1x2000 .f32 := (extractStridedSlice S1x2000 ![5, 0] · slices_S6x2048_S1x2000_5_0) main_arg0
  let main_v1 : FVec F S2000 .f32 := shapeCast S2000 main_v0 shapeCasts_S1x2000_S2000
  let main_cst : FVec F S_ .f32 := constant S_ .f32 0x00000000#32
  let main_v2 : FVec F S2000 .f32 := broadcastInDim S2000 ![] bcast_S_S2000 main_cst
  let main_v3 : IVec S2000 1 := cmpf .oeq main_v1 main_v2
  let main_cst_0 : FVec F S_ .f32 := constant S_ .f32 0x3F800000#32
  let main_v4 : FVec F S2000 .f32 := broadcastInDim S2000 ![] bcast_S_S2000 main_cst_0
  let main_v5 : IVec S2000 1 := cmpf .oeq main_v1 main_v4
  let main_v6 : IVec S2000 1 := ori main_v3 main_v5
  main_v6
-- ==== Pre_layout.lean ====
abbrev S7500 : Shape := ⟨1, ![7500]⟩
abbrev S7500x4 : Shape := ⟨2, ![7500, 4]⟩
abbrev S60x128 : Shape := ⟨2, ![60, 128]⟩
abbrev S7680 : Shape := ⟨1, ![7680]⟩
abbrev S_ : Shape := ⟨0, ![]⟩

class Facts : Prop where
  shapeCasts_S7680_S60x128 : S7680.ShapeCasts S60x128
  bcast_S_S60x128 : S_.BroadcastsInDim S60x128 (![] : Fin 0 → Fin S60x128.rank)

variable [Facts]

def fn {F : FTy → Type} [FloatOps F] (main_arg0 : FVec F S7500 .f32) (main_arg1 : FVec F S7500x4 .f32) (main_arg2 : FVec F S60x128 .f32) (main_arg3 : FVec F S60x128 .f32) (main_arg4 : FVec F S60x128 .f32) (main_arg5 : FVec F S60x128 .f32) (main_arg6 : FVec F S60x128 .f32) (main_arg7 : FVec F S60x128 .f32) : IVec S60x128 1 :=
  let main_v0 : IVec S7680 32 := iotaInDim S7680 32 0
  let main_v1 : IVec S60x128 32 := shapeCast S60x128 main_v0 shapeCasts_S7680_S60x128
  let main_c : IVec S_ 32 := constantI S_ 32 7500#32
  let main_v2 : IVec S60x128 32 := broadcastInDim S60x128 ![] bcast_S_S60x128 main_c
  let main_v3 : IVec S60x128 1 := cmpi .slt main_v1 main_v2
  let main_v4 : FVec F S60x128 .f32 := uitofp .f32 main_v3
  let main_v5 : IVec S60x128 1 := cmpf .oeq main_arg6 main_v4
  let main_v6 : FVec F S60x128 .f32 := sitofp .f32 main_v1
  let main_v7 : IVec S60x128 1 := cmpf .oeq main_arg7 main_v6
  let main_v8 : IVec S60x128 1 := andi main_v5 main_v7
  main_v8
-- ==== Kernel.lean ====
abbrev S1x256x50x50 : Shape := ⟨4, ![1, 256, 50, 50]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S256x50x50 : Shape := ⟨3, ![256, 50, 50]⟩
abbrev S_ : Shape := ⟨0, ![]⟩
abbrev S256x52x52 : Shape := ⟨3, ![256, 52, 52]⟩
abbrev S256x2704 : Shape := ⟨2, ![256, 2704]⟩
abbrev S256x2706 : Shape := ⟨2, ![256, 2706]⟩
abbrev S256x2600 : Shape := ⟨2, ![256, 2600]⟩
abbrev S256x256x1x1 : Shape := ⟨4, ![256, 256, 1, 1]⟩
abbrev S256x256 : Shape := ⟨2, ![256, 256]⟩
abbrev S2304x2600 : Shape := ⟨2, ![2304, 2600]⟩
abbrev S2304x256 : Shape := ⟨2, ![2304, 256]⟩
abbrev S3x256 : Shape := ⟨2, ![3, 256]⟩
abbrev S256x3 : Shape := ⟨2, ![256, 3]⟩
abbrev S12x256 : Shape := ⟨2, ![12, 256]⟩
abbrev S256x12 : Shape := ⟨2, ![256, 12]⟩
abbrev S256x1 : Shape := ⟨2, ![256, 1]⟩
abbrev S256x16 : Shape := ⟨2, ![256, 16]⟩
abbrev S1 : Shape := ⟨1, ![1]⟩
abbrev S16 : Shape := ⟨1, ![16]⟩
abbrev S1x16 : Shape := ⟨2, ![1, 16]⟩
abbrev S1x256 : Shape := ⟨2, ![1, 256]⟩
abbrev S2600x16 : Shape := ⟨2, ![2600, 16]⟩
abbrev S2600x256 : Shape := ⟨2, ![2600, 256]⟩
abbrev S50x52x16 : Shape := ⟨3, ![50, 52, 16]⟩
abbrev S50x50x16 : Shape := ⟨3, ![50, 50, 16]⟩
abbrev S2500x16 : Shape := ⟨2, ![2500, 16]⟩
abbrev S2500x3 : Shape := ⟨2, ![2500, 3]⟩
abbrev S7500 : Shape := ⟨1, ![7500]⟩
abbrev S2500x12 : Shape := ⟨2, ![2500, 12]⟩
abbrev S7500x4 : Shape := ⟨2, ![7500, 4]⟩

abbrev nBuf : Space → Nat
  | .hbm => 96
  | .vmem => 6
  | .smem => 0
  | _ => 0

abbrev bufTy : (tb : Table) → Fin (tcTables nBuf tb) → BufTy
  | .hbm, ⟨0, _⟩ => ⟨S1x256x50x50, .f32⟩
  | .hbm, ⟨1, _⟩ => ⟨S256x256x3x3, .f32⟩
  | .hbm, ⟨2, _⟩ => ⟨S256, .f32⟩
  | .hbm, ⟨3, _⟩ => ⟨S3x256x1x1, .f32⟩
  | .hbm, ⟨4, _⟩ => ⟨S3, .f32⟩
  | .hbm, ⟨5, _⟩ => ⟨S12x256x1x1, .f32⟩
  | .hbm, ⟨6, _⟩ => ⟨S12, .f32⟩
  | .hbm, ⟨7, _⟩ => ⟨S256x50x50, .f32⟩
  | .hbm, ⟨8, _⟩ => ⟨S_, .i32⟩
  | .hbm, ⟨9, _⟩ => ⟨S_, .f32⟩
  | .hbm, ⟨10, _⟩ => ⟨S256x52x52, .f32⟩
  | .hbm, ⟨11, _⟩ => ⟨S256x2704, .f32⟩
  | .hbm, ⟨12, _⟩ => ⟨S_, .i32⟩
  | .hbm, ⟨13, _⟩ => ⟨S_, .f32⟩
  | .hbm, ⟨14, _⟩ => ⟨S256x2706, .f32⟩
  | .hbm, ⟨15, _⟩ => ⟨S256x2706, .bf16⟩
  | .hbm, ⟨16, _⟩ => ⟨S_, .i32⟩
  | .hbm, ⟨17, _⟩ => ⟨S_, .i32⟩
  | .hbm, ⟨18, _⟩ => ⟨S256x2600, .bf16⟩
  | .hbm, ⟨19, _⟩ => ⟨S256x256x1x1, .f32⟩
  | .hbm, ⟨20, _⟩ => ⟨S256x256, .f32⟩
  | .hbm, ⟨21, _⟩ => ⟨S256x256, .f32⟩
  | .hbm, ⟨22, _⟩ => ⟨S_, .i32⟩
  | .hbm, ⟨23, _⟩ => ⟨S_, .i32⟩
  | .hbm, ⟨24, _⟩ => ⟨S256x2600, .bf16⟩
  | .hbm, ⟨25, _⟩ => ⟨S256x256x1x1, .f32⟩
  | .hbm, ⟨26, _⟩ => ⟨S256x256, .f32⟩
  | .hbm, ⟨27, _⟩ => ⟨S256x256, .f32⟩
  | .hbm, ⟨28, _⟩ => ⟨S_, .i32⟩
  | .hbm, ⟨29, _⟩ => ⟨S_, .i32⟩
  | .hbm, ⟨30, _⟩ => ⟨S256x2600, .bf16⟩
  | .hbm, ⟨31, _⟩ => ⟨S256x256x1x1, .f32⟩
  | .hbm, ⟨32, _⟩ => ⟨S256x256, .f32⟩
  | .hbm, ⟨33, _⟩ => ⟨S256x256, .f32⟩
  | .hbm, ⟨34, _⟩ => ⟨S_, .i32⟩
  | .hbm, ⟨35, _⟩ => ⟨S_, .i32⟩
  | .hbm, ⟨36, _⟩ => ⟨S256x2600, .bf16⟩
  | .hbm, ⟨37, _⟩ => ⟨S256x256x1x1, .f32⟩
  | .hbm, ⟨38, _⟩ => ⟨S256x256, .f32⟩
  | .hbm, ⟨39, _⟩ => ⟨S256x256, .f32⟩
  | .hbm, ⟨40, _⟩ => ⟨S_, .i32⟩
  | .hbm, ⟨41, _⟩ => ⟨S_, .i32⟩
  | .hbm, ⟨42, _⟩ => ⟨S256x2600, .bf16⟩
  | .hbm, ⟨43, _⟩ => ⟨S256x256x1x1, .f32⟩
  | .hbm, ⟨44, _⟩ => ⟨S256x256, .f32⟩
  | .hbm, ⟨45, _⟩ => ⟨S256x256, .f32⟩
  | .hbm, ⟨46, _⟩ => ⟨S_, .i32⟩
  | .hbm, ⟨47, _⟩ => ⟨S_, .i32⟩
  | .hbm, ⟨48, _⟩ => ⟨S256x2600, .bf16⟩
  | .hbm, ⟨49, _⟩ => ⟨S256x256x1x1, .f32⟩
  | .hbm, ⟨50, _⟩ => ⟨S256x256, .f32⟩
  | .hbm, ⟨51, _⟩ => ⟨S256x256, .f32⟩
  | .hbm, ⟨52, _⟩ => ⟨S_, .i32⟩
  | .hbm, ⟨53, _⟩ => ⟨S_, .i32⟩
  | .hbm, ⟨54, _⟩ => ⟨S256x2600, .bf16⟩
  | .hbm, ⟨55, _⟩ => ⟨S256x256x1x1, .f32⟩
  | .hbm, ⟨56, _⟩ => ⟨S256x256, .f32⟩
  | .hbm, ⟨57, _⟩ => ⟨S256x256, .f32⟩
  | .hbm, ⟨58, _⟩ => ⟨S_, .i32⟩
  | .hbm, ⟨59, _⟩ => ⟨S_, .i32⟩
  | .hbm, ⟨60, _⟩ => ⟨S256x2600, .bf16⟩
  | .hbm, ⟨61, _⟩ => ⟨S256x256x1x1, .f32⟩
  | .hbm, ⟨62, _⟩ => ⟨S256x256, .f32⟩
  | .hbm, ⟨63, _⟩ => ⟨S256x256, .f32⟩
  | .hbm, ⟨64, _⟩ => ⟨S_, .i32⟩
  | .hbm, ⟨65, _⟩ => ⟨S_, .i32⟩
  | .hbm, ⟨66, _⟩ => ⟨S256x2600, .bf16⟩
  | .hbm, ⟨67, _⟩ => ⟨S256x256x1x1, .f32⟩
  | .hbm, ⟨68, _⟩ => ⟨S256x256, .f32⟩
  | .hbm, ⟨69, _⟩ => ⟨S256x256, .f32⟩
  | .hbm, ⟨70, _⟩ => ⟨S2304x2600, .bf16⟩
  | .hbm, ⟨71, _⟩ => ⟨S2304x256, .f32⟩
  | .hbm, ⟨72, _⟩ => ⟨S3x256, .f32⟩
  | .hbm, ⟨73, _⟩ => ⟨S256x3, .f32⟩
  | .hbm, ⟨74, _⟩ => ⟨S256x3, .bf16⟩
  | .hbm, ⟨75, _⟩ => ⟨S256x3, .f32⟩
  | .hbm, ⟨76, _⟩ => ⟨S12x256, .f32⟩
  | .hbm, ⟨77, _⟩ => ⟨S256x12, .f32⟩
  | .hbm, ⟨78, _⟩ => ⟨S256x12, .bf16⟩
  | .hbm, ⟨79, _⟩ => ⟨S256x12, .f32⟩
  | .hbm, ⟨80, _⟩ => ⟨S_, .f32⟩
  | .hbm, ⟨81, _⟩ => ⟨S256x1, .f32⟩
  | .hbm, ⟨82, _⟩ => ⟨S256x16, .f32⟩
  | .hbm, ⟨83, _⟩ => ⟨S_, .f32⟩
  | .hbm, ⟨84, _⟩ => ⟨S1, .f32⟩
  | .hbm, ⟨85, _⟩ => ⟨S16, .f32⟩
  | .hbm, ⟨86, _⟩ => ⟨S1x16, .f32⟩
  | .hbm, ⟨87, _⟩ => ⟨S1x256, .f32⟩
  | .hbm, ⟨88, _⟩ => ⟨S2600x16, .f32⟩
  | .hbm, ⟨89, _⟩ => ⟨S50x52x16, .f32⟩
  | .hbm, ⟨90, _⟩ => ⟨S50x50x16, .f32⟩
  | .hbm, ⟨91, _⟩ => ⟨S2500x16, .f32⟩
  | .hbm, ⟨92, _⟩ => ⟨S2500x3, .f32⟩
  | .hbm, ⟨93, _⟩ => ⟨S7500, .f32⟩
  | .hbm, ⟨94, _⟩ => ⟨S2500x12, .f32⟩
  | .hbm, ⟨95, _⟩ => ⟨S7500x4, .f32⟩
  | .local _ .vmem, ⟨0, _⟩ => ⟨S2304x2600, .bf16⟩
  | .local _ .vmem, ⟨1, _⟩ => ⟨S2304x256, .f32⟩
  | .local _ .vmem, ⟨2, _⟩ => ⟨S1x256, .f32⟩
  | .local _ .vmem, ⟨3, _⟩ => ⟨S256x16, .f32⟩
  | .local _ .vmem, ⟨4, _⟩ => ⟨S1x16, .f32⟩
  | .local _ .vmem, ⟨5, _⟩ => ⟨S2600x16, .f32⟩
  | _, _ => ⟨S1x256x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_c_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_7 : Ref sig .tc := ⟨.hbm, 34, rfl⟩
abbrev main_c_8 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_9 : Ref sig .tc := ⟨.hbm, 40, rfl⟩
abbrev main_c_10 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_11 : Ref sig .tc := ⟨.hbm, 46, rfl⟩
abbrev main_c_12 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_13 : Ref sig .tc := ⟨.hbm, 52, rfl⟩
abbrev main_c_14 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_15 : Ref sig .tc := ⟨.hbm, 58, rfl⟩
abbrev main_c_16 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_17 : Ref sig .tc := ⟨.hbm, 64, rfl⟩
abbrev main_c_18 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst : Ref sig .tc := ⟨.hbm, 80, rfl⟩
abbrev main_v51 : Ref sig .tc := ⟨.hbm, 81, rfl⟩
abbrev main_v52 : Ref sig .tc := ⟨.hbm, 82, rfl⟩
abbrev main_cst_19 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2304x2600 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2600x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x50x50 : Shape := ⟨4, ![1, 256, 50, 50]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S256x50x50 : Shape := ⟨3, ![256, 50, 50]⟩
abbrev S_ : Shape := ⟨0, ![]⟩
abbrev S256x52x52 : Shape := ⟨3, ![256, 52, 52]⟩
abbrev S256x256x1x1 : Shape := ⟨4, ![256, 256, 1, 1]⟩
abbrev S256x256 : Shape := ⟨2, ![256, 256]⟩
abbrev S256x1x1 : Shape := ⟨3, ![256, 1, 1]⟩
abbrev S3x256 : Shape := ⟨2, ![3, 256]⟩
abbrev S3x50x50 : Shape := ⟨3, ![3, 50, 50]⟩
abbrev S3x1x1 : Shape := ⟨3, ![3, 1, 1]⟩
abbrev S12x256 : Shape := ⟨2, ![12, 256]⟩
abbrev S12x50x50 : Shape := ⟨3, ![12, 50, 50]⟩
abbrev S12x1x1 : Shape := ⟨3, ![12, 1, 1]⟩
abbrev S50x50x3 : Shape := ⟨3, ![50, 50, 3]⟩
abbrev S7500 : Shape := ⟨1, ![7500]⟩
abbrev S3x4x50x50 : Shape := ⟨4, ![3, 4, 50, 50]⟩
abbrev S50x50x3x4 : Shape := ⟨4, ![50, 50, 3, 4]⟩
abbrev S7500x4 : Shape := ⟨2, ![7500, 4]⟩

abbrev nBuf : Space → Nat
  | .hbm => 79
  | .vmem => 0
  | .smem => 0
  | _ => 0

abbrev bufTy : (tb : Table) → Fin (tcTables nBuf tb) → BufTy
  | .hbm, ⟨0, _⟩ => ⟨S1x256x50x50, .f32⟩
  | .hbm, ⟨1, _⟩ => ⟨S256x256x3x3, .f32⟩
  | .hbm, ⟨2, _⟩ => ⟨S256, .f32⟩
  | .hbm, ⟨3, _⟩ => ⟨S3x256x1x1, .f32⟩
  | .hbm, ⟨4, _⟩ => ⟨S3, .f32⟩
  | .hbm, ⟨5, _⟩ => ⟨S12x256x1x1, .f32⟩
  | .hbm, ⟨6, _⟩ => ⟨S12, .f32⟩
  | .hbm, ⟨7, _⟩ => ⟨S256x50x50, .f32⟩
  | .hbm, ⟨8, _⟩ => ⟨S_, .i32⟩
  | .hbm, ⟨9, _⟩ => ⟨S_, .f32⟩
  | .hbm, ⟨10, _⟩ => ⟨S256x52x52, .f32⟩
  | .hbm, ⟨11, _⟩ => ⟨S_, .f32⟩
  | .hbm, ⟨12, _⟩ => ⟨S256x50x50, .f32⟩
  | .hbm, ⟨13, _⟩ => ⟨S256x256x1x1, .f32⟩
  | .hbm, ⟨14, _⟩ => ⟨S256x256, .f32⟩
  | .hbm, ⟨15, _⟩ => ⟨S256x50x50, .f32⟩
  | .hbm, ⟨16, _⟩ => ⟨S256x50x50, .f32⟩
  | .hbm, ⟨17, _⟩ => ⟨S256x50x50, .f32⟩
  | .hbm, ⟨18, _⟩ => ⟨S256x256x1x1, .f32⟩
  | .hbm, ⟨19, _⟩ => ⟨S256x256, .f32⟩
  | .hbm, ⟨20, _⟩ => ⟨S256x50x50, .f32⟩
  | .hbm, ⟨21, _⟩ => ⟨S256x50x50, .f32⟩
  | .hbm, ⟨22, _⟩ => ⟨S256x50x50, .f32⟩
  | .hbm, ⟨23, _⟩ => ⟨S256x256x1x1, .f32⟩
  | .hbm, ⟨24, _⟩ => ⟨S256x256, .f32⟩
  | .hbm, ⟨25, _⟩ => ⟨S256x50x50, .f32⟩
  | .hbm, ⟨26, _⟩ => ⟨S256x50x50, .f32⟩
  | .hbm, ⟨27, _⟩ => ⟨S256x50x50, .f32⟩
  | .hbm, ⟨28, _⟩ => ⟨S256x256x1x1, .f32⟩
  | .hbm, ⟨29, _⟩ => ⟨S256x256, .f32⟩
  | .hbm, ⟨30, _⟩ => ⟨S256x50x50, .f32⟩
  | .hbm, ⟨31, _⟩ => ⟨S256x50x50, .f32⟩
  | .hbm, ⟨32, _⟩ => ⟨S256x50x50, .f32⟩
  | .hbm, ⟨33, _⟩ => ⟨S256x256x1x1, .f32⟩
  | .hbm, ⟨34, _⟩ => ⟨S256x256, .f32⟩
  | .hbm, ⟨35, _⟩ => ⟨S256x50x50, .f32⟩
  | .hbm, ⟨36, _⟩ => ⟨S256x50x50, .f32⟩
  | .hbm, ⟨37, _⟩ => ⟨S256x50x50, .f32⟩
  | .hbm, ⟨38, _⟩ => ⟨S256x256x1x1, .f32⟩
  | .hbm, ⟨39, _⟩ => ⟨S256x256, .f32⟩
  | .hbm, ⟨40, _⟩ => ⟨S256x50x50, .f32⟩
  | .hbm, ⟨41, _⟩ => ⟨S256x50x50, .f32⟩
  | .hbm, ⟨42, _⟩ => ⟨S256x50x50, .f32⟩
  | .hbm, ⟨43, _⟩ => ⟨S256x256x1x1, .f32⟩
  | .hbm, ⟨44, _⟩ => ⟨S256x256, .f32⟩
  | .hbm, ⟨45, _⟩ => ⟨S256x50x50, .f32⟩
  | .hbm, ⟨46, _⟩ => ⟨S256x50x50, .f32⟩
  | .hbm, ⟨47, _⟩ => ⟨S256x50x50, .f32⟩
  | .hbm, ⟨48, _⟩ => ⟨S256x256x1x1, .f32⟩
  | .hbm, ⟨49, _⟩ => ⟨S256x256, .f32⟩
  | .hbm, ⟨50, _⟩ => ⟨S256x50x50, .f32⟩
  | .hbm, ⟨51, _⟩ => ⟨S256x50x50, .f32⟩
  | .hbm, ⟨52, _⟩ => ⟨S256x50x50, .f32⟩
  | .hbm, ⟨53, _⟩ => ⟨S256x256x1x1, .f32⟩
  | .hbm, ⟨54, _⟩ => ⟨S256x256, .f32⟩
  | .hbm, ⟨55, _⟩ => ⟨S256x50x50, .f32⟩
  | .hbm, ⟨56, _⟩ => ⟨S256x50x50, .f32⟩
  | .hbm, ⟨57, _⟩ => ⟨S256x50x50, .f32⟩
  | .hbm, ⟨58, _⟩ => ⟨S256x1x1, .f32⟩
  | .hbm, ⟨59, _⟩ => ⟨S256x50x50, .f32⟩
  | .hbm, ⟨60, _⟩ => ⟨S256x50x50, .f32⟩
  | .hbm, ⟨61, _⟩ => ⟨S_, .f32⟩
  | .hbm, ⟨62, _⟩ => ⟨S256x50x50, .f32⟩
  | .hbm, ⟨63, _⟩ => ⟨S256x50x50, .f32⟩
  | .hbm, ⟨64, _⟩ => ⟨S3x256, .f32⟩
  | .hbm, ⟨65, _⟩ => ⟨S3x50x50, .f32⟩
  | .hbm, ⟨66, _⟩ => ⟨S3x1x1, .f32⟩
  | .hbm, ⟨67, _⟩ => ⟨S3x50x50, .f32⟩
  | .hbm, ⟨68, _⟩ => ⟨S3x50x50, .f32⟩
  | .hbm, ⟨69, _⟩ => ⟨S12x256, .f32⟩
  | .hbm, ⟨70, _⟩ => ⟨S12x50x50, .f32⟩
  | .hbm, ⟨71, _⟩ => ⟨S12x1x1, .f32⟩
  | .hbm, ⟨72, _⟩ => ⟨S12x50x50, .f32⟩
  | .hbm, ⟨73, _⟩ => ⟨S12x50x50, .f32⟩
  | .hbm, ⟨74, _⟩ => ⟨S50x50x3, .f32⟩
  | .hbm, ⟨75, _⟩ => ⟨S7500, .f32⟩
  | .hbm, ⟨76, _⟩ => ⟨S3x4x50x50, .f32⟩
  | .hbm, ⟨77, _⟩ => ⟨S50x50x3x4, .f32⟩
  | .hbm, ⟨78, _⟩ => ⟨S7500x4, .f32⟩
  | _, _ => ⟨S1x256x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_0 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩

abbrev nD : Nat := 1
abbrev τ : Topo := Topo.v7x

variable {F : FTy → Type} [FloatOps F]
-- ==== Kernel2.lean ====
abbrev S6x2048 : Shape := ⟨2, ![6, 2048]⟩
abbrev S6x16x128 : Shape := ⟨3, ![6, 16, 128]⟩
abbrev S5x1024 : Shape := ⟨2, ![5, 1024]⟩
abbrev S1x128 : Shape := ⟨2, ![1, 128]⟩
abbrev S128x128 : Shape := ⟨2, ![128, 128]⟩
abbrev S1x16x128 : Shape := ⟨3, ![1, 16, 128]⟩
abbrev S16x128 : Shape := ⟨2, ![16, 128]⟩
abbrev S128x1 : Shape := ⟨2, ![128, 1]⟩
abbrev S128x1x1 : Shape := ⟨3, ![128, 1, 1]⟩
abbrev S128x16x128 : Shape := ⟨3, ![128, 16, 128]⟩
abbrev S128x1x128 : Shape := ⟨3, ![128, 1, 128]⟩
abbrev S1x1x128 : Shape := ⟨3, ![1, 1, 128]⟩
abbrev S1 : Shape := ⟨1, ![1]⟩
abbrev S1x1x1 : Shape := ⟨3, ![1, 1, 1]⟩
abbrev S1x1024 : Shape := ⟨2, ![1, 1024]⟩
abbrev S128 : Shape := ⟨1, ![128]⟩
abbrev S128x1024 : Shape := ⟨2, ![128, 1024]⟩
abbrev S1024 : Shape := ⟨1, ![1024]⟩
abbrev S1x1 : Shape := ⟨2, ![1, 1]⟩
abbrev S_ : Shape := ⟨0, ![]⟩
abbrev S1000 : Shape := ⟨1, ![1000]⟩
abbrev S1000x1 : Shape := ⟨2, ![1000, 1]⟩
abbrev S4x1000 : Shape := ⟨2, ![4, 1000]⟩
abbrev S1000x4 : Shape := ⟨2, ![1000, 4]⟩
abbrev S1x1000 : Shape := ⟨2, ![1, 1000]⟩

abbrev nBuf : Space → Nat
  | .hbm => 23
  | .vmem => 4
  | .smem => 0
  | _ => 0

abbrev bufTy : (tb : Table) → Fin (tcTables nBuf tb) → BufTy
  | .hbm, ⟨0, _⟩ => ⟨S6x2048, .f32⟩
  | .hbm, ⟨1, _⟩ => ⟨S6x16x128, .f32⟩
  | .hbm, ⟨2, _⟩ => ⟨S5x1024, .f32⟩
  | .hbm, ⟨3, _⟩ => ⟨S1x128, .f32⟩
  | .hbm, ⟨4, _⟩ => ⟨S1x1, .f32⟩
  | .hbm, ⟨5, _⟩ => ⟨S_, .f32⟩
  | .hbm, ⟨6, _⟩ => ⟨S1000, .f32⟩
  | .hbm, ⟨7, _⟩ => ⟨S1000, .f32⟩
  | .hbm, ⟨8, _⟩ => ⟨S1000, .i1⟩
  | .hbm, ⟨9, _⟩ => ⟨S1000x1, .i1⟩
  | .hbm, ⟨10, _⟩ => ⟨S4x1000, .f32⟩
  | .hbm, ⟨11, _⟩ => ⟨S1000x4, .f32⟩
  | .hbm, ⟨12, _⟩ => ⟨S_, .f32⟩
  | .hbm, ⟨13, _⟩ => ⟨S_, .f32⟩
  | .hbm, ⟨14, _⟩ => ⟨S1000x4, .i1⟩
  | .hbm, ⟨15, _⟩ => ⟨S1000x4, .f32⟩
  | .hbm, ⟨16, _⟩ => ⟨S1000x4, .f32⟩
  | .hbm, ⟨17, _⟩ => ⟨S1x1000, .f32⟩
  | .hbm, ⟨18, _⟩ => ⟨S1000, .f32⟩
  | .hbm, ⟨19, _⟩ => ⟨S_, .f32⟩
  | .hbm, ⟨20, _⟩ => ⟨S_, .f32⟩
  | .hbm, ⟨21, _⟩ => ⟨S1000, .f32⟩
  | .hbm, ⟨22, _⟩ => ⟨S1000, .f32⟩
  | .local _ .vmem, ⟨0, _⟩ => ⟨S6x16x128, .f32⟩
  | .local _ .vmem, ⟨1, _⟩ => ⟨S5x1024, .f32⟩
  | .local _ .vmem, ⟨2, _⟩ => ⟨S1x128, .f32⟩
  | .local _ .vmem, ⟨3, _⟩ => ⟨S128x128, .f32⟩
  | _, _ => ⟨S6x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v85 : BitVec 32 := Scalar.addi c0_i32 c128_i32
  let c1_i32 : BitVec 32 := 1#32
  ⟨c0_i32, v85, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let v2457 : Index := Scalar.indexCast arg4
  let c0_642 : Index := 0#32
  ![v2457.toNat, 0]
@[reducible] def k0_t2_loop : Scf.Loop 32 :=
  let c0_i32_40 : BitVec 32 := 0#32
  let c128_i32_41 : BitVec 32 := 128#32
  let v163 : BitVec 32 := Scalar.addi c0_i32_40 c128_i32_41
  let c1_i32_42 : BitVec 32 := 1#32
  ⟨c0_i32_40, v163, c1_i32_42⟩
def k0_off2 (k0_t2 : Fin k0_t2_loop.trips) : Fin 2 → Nat :=
  let c0_i32_40 : BitVec 32 := 0#32
  let c1_i32_42 : BitVec 32 := 1#32
  let arg4 : BitVec 32 := Scf.iv c0_i32_40 c1_i32_42 k0_t2
  let v2457 : Index := Scalar.indexCast arg4
  let c0_642 : Index := 0#32
  ![v2457.toNat, 0]
@[reducible] def k0_t3_loop : Scf.Loop 32 :=
  let c0_i32_61 : BitVec 32 := 0#32
  let c128_i32_62 : BitVec 32 := 128#32
  let v241 : BitVec 32 := Scalar.addi c0_i32_61 c128_i32_62
  let c1_i32_63 : BitVec 32 := 1#32
  ⟨c0_i32_61, v241, c1_i32_63⟩
def k0_off3 (k0_t3 : Fin k0_t3_loop.trips) : Fin 2 → Nat :=
  let c0_i32_61 : BitVec 32 := 0#32
  let c1_i32_63 : BitVec 32 := 1#32
  let arg4 : BitVec 32 := Scf.iv c0_i32_61 c1_i32_63 k0_t3
  let v2457 : Index := Scalar.indexCast arg4
  let c0_642 : Index := 0#32
  ![v2457.toNat, 0]
@[reducible] def k0_t4_loop : Scf.Loop 32 :=
  let c0_i32_82 : BitVec 32 := 0#32
  let c128_i32_83 : BitVec 32 := 128#32
  let v319 : BitVec 32 := Scalar.addi c0_i32_82 c128_i32_83
  let c1_i32_84 : BitVec 32 := 1#32
  ⟨c0_i32_82, v319, c1_i32_84⟩
def k0_off4 (k0_t4 : Fin k0_t4_loop.trips) : Fin 2 → Nat :=
  let c0_i32_82 : BitVec 32 := 0#32
  let c1_i32_84 : BitVec 32 := 1#32
  let arg4 : BitVec 32 := Scf.iv c0_i32_82 c1_i32_84 k0_t4
  let v2457 : Index := Scalar.indexCast arg4
  let c0_642 : Index := 0#32
  ![v2457.toNat, 0]
@[reducible] def k0_t5_loop : Scf.Loop 32 :=
  let c0_i32_103 : BitVec 32 := 0#32
  let c128_i32_104 : BitVec 32 := 128#32
  let v397 : BitVec 32 := Scalar.addi c0_i32_103 c128_i32_104
  let c1_i32_105 : BitVec 32 := 1#32
  ⟨c0_i32_103, v397, c1_i32_105⟩
def k0_off5 (k0_t5 : Fin k0_t5_loop.trips) : Fin 2 → Nat :=
  let c0_i32_103 : BitVec 32 := 0#32
  let c1_i32_105 : BitVec 32 := 1#32
  let arg4 : BitVec 32 := Scf.iv c0_i32_103 c1_i32_105 k0_t5
  let v2457 : Index := Scalar.indexCast arg4
  let c0_642 : Index := 0#32
  ![v2457.toNat, 0]
@[reducible] def k0_t6_loop : Scf.Loop 32 :=
  let c0_i32_124 : BitVec 32 := 0#32
  let c128_i32_125 : BitVec 32 := 128#32
  let v475 : BitVec 32 := Scalar.addi c0_i32_124 c128_i32_125
  let c1_i32_126 : BitVec 32 := 1#32
  ⟨c0_i32_124, v475, c1_i32_126⟩
def k0_off6 (k0_t6 : Fin k0_t6_loop.trips) : Fin 2 → Nat :=
  let c0_i32_124 : BitVec 32 := 0#32
  let c1_i32_126 : BitVec 32 := 1#32
  let arg4 : BitVec 32 := Scf.iv c0_i32_124 c1_i32_126 k0_t6
  let v2457 : Index := Scalar.indexCast arg4
  let c0_642 : Index := 0#32
  ![v2457.toNat, 0]
@[reducible] def k0_t7_loop : Scf.Loop 32 :=
  let c0_i32_145 : BitVec 32 := 0#32
  let c128_i32_146 : BitVec 32 := 128#32
  let v553 : BitVec 32 := Scalar.addi c0_i32_145 c128_i32_146
  let c1_i32_147 : BitVec 32 := 1#32
  ⟨c0_i32_145, v553, c1_i32_147⟩
def k0_off7 (k0_t7 : Fin k0_t7_loop.trips) : Fin 2 → Nat :=
  let c0_i32_145 : BitVec 32 := 0#32
  let c1_i32_147 : BitVec 32 := 1#32
  let arg4 : BitVec 32 := Scf.iv c0_i32_145 c1_i32_147 k0_t7
  let v2457 : Index := Scalar.indexCast arg4
  let c0_642 : Index := 0#32
  ![v2457.toNat, 0]
@[reducible] def k0_t8_loop : Scf.Loop 32 :=
  let c0_i32_166 : BitVec 32 := 0#32
  let c128_i32_167 : BitVec 32 := 128#32
  let v631 : BitVec 32 := Scalar.addi c0_i32_166 c128_i32_167
  let c1_i32_168 : BitVec 32 := 1#32
  ⟨c0_i32_166, v631, c1_i32_168⟩
def k0_off8 (k0_t8 : Fin k0_t8_loop.trips) : Fin 2 → Nat :=
  let c0_i32_166 : BitVec 32 := 0#32
  let c1_i32_168 : BitVec 32 := 1#32
  let arg4 : BitVec 32 := Scf.iv c0_i32_166 c1_i32_168 k0_t8
  let v2457 : Index := Scalar.indexCast arg4
  let c0_642 : Index := 0#32
  ![v2457.toNat, 0]
@[reducible] def k0_t9_loop : Scf.Loop 32 :=
  let c0_i32_187 : BitVec 32 := 0#32
  let c128_i32_188 : BitVec 32 := 128#32
  let v709 : BitVec 32 := Scalar.addi c0_i32_187 c128_i32_188
  let c1_i32_189 : BitVec 32 := 1#32
  ⟨c0_i32_187, v709, c1_i32_189⟩
def k0_off9 (k0_t9 : Fin k0_t9_loop.trips) : Fin 2 → Nat :=
  let c0_i32_187 : BitVec 32 := 0#32
  let c1_i32_189 : BitVec 32 := 1#32
  let arg4 : BitVec 32 := Scf.iv c0_i32_187 c1_i32_189 k0_t9
  let v2457 : Index := Scalar.indexCast arg4
  let c0_642 : Index := 0#32
  ![v2457.toNat, 0]
@[reducible] def k0_t10_loop : Scf.Loop 32 :=
  let c0_i32_208 : BitVec 32 := 0#32
  let c128_i32_209 : BitVec 32 := 128#32
  let v787 : BitVec 32 := Scalar.addi c0_i32_208 c128_i32_209
  let c1_i32_210 : BitVec 32 := 1#32
  ⟨c0_i32_208, v787, c1_i32_210⟩
def k0_off10 (k0_t10 : Fin k0_t10_loop.trips) : Fin 2 → Nat :=
  let c0_i32_208 : BitVec 32 := 0#32
  let c1_i32_210 : BitVec 32 := 1#32
  let arg4 : BitVec 32 := Scf.iv c0_i32_208 c1_i32_210 k0_t10
  let v2457 : Index := Scalar.indexCast arg4
  let c0_642 : Index := 0#32
  ![v2457.toNat, 0]
@[reducible] def k0_t11_loop : Scf.Loop 32 :=
  let c0_i32_229 : BitVec 32 := 0#32
  let c128_i32_230 : BitVec 32 := 128#32
  let v865 : BitVec 32 := Scalar.addi c0_i32_229 c128_i32_230
  let c1_i32_231 : BitVec 32 := 1#32
  ⟨c0_i32_229, v865, c1_i32_231⟩
def k0_off11 (k0_t11 : Fin k0_t11_loop.trips) : Fin 2 → Nat :=
  let c0_i32_229 : BitVec 32 := 0#32
  let c1_i32_231 : BitVec 32 := 1#32
  let arg4 : BitVec 32 := Scf.iv c0_i32_229 c1_i32_231 k0_t11
  let v2457 : Index := Scalar.indexCast arg4
  let c0_642 : Index := 0#32
  ![v2457.toNat, 0]
@[reducible] def k0_t12_loop : Scf.Loop 32 :=
  let c0_i32_250 : BitVec 32 := 0#32
  let c128_i32_251 : BitVec 32 := 128#32
  let v943 : BitVec 32 := Scalar.addi c0_i32_250 c128_i32_251
  let c1_i32_252 : BitVec 32 := 1#32
  ⟨c0_i32_250, v943, c1_i32_252⟩
def k0_off12 (k0_t12 : Fin k0_t12_loop.trips) : Fin 2 → Nat :=
  let c0_i32_250 : BitVec 32 := 0#32
  let c1_i32_252 : BitVec 32 := 1#32
  let arg4 : BitVec 32 := Scf.iv c0_i32_250 c1_i32_252 k0_t12
  let v2457 : Index := Scalar.indexCast arg4
  let c0_642 : Index := 0#32
  ![v2457.toNat, 0]
@[reducible] def k0_t13_loop : Scf.Loop 32 :=
  let c0_i32_271 : BitVec 32 := 0#32
  let c128_i32_272 : BitVec 32 := 128#32
  let v1021 : BitVec 32 := Scalar.addi c0_i32_271 c128_i32_272
  let c1_i32_273 : BitVec 32 := 1#32
  ⟨c0_i32_271, v1021, c1_i32_273⟩
def k0_off13 (k0_t13 : Fin k0_t13_loop.trips) : Fin 2 → Nat :=
  let c0_i32_271 : BitVec 32 := 0#32
  let c1_i32_273 : BitVec 32 := 1#32
  let arg4 : BitVec 32 := Scf.iv c0_i32_271 c1_i32_273 k0_t13
  let v2457 : Index := Scalar.indexCast arg4
  let c0_642 : Index := 0#32
  ![v2457.toNat, 0]
@[reducible] def k0_t14_loop : Scf.Loop 32 :=
  let c0_i32_292 : BitVec 32 := 0#32
  let c128_i32_293 : BitVec 32 := 128#32
  let v1099 : BitVec 32 := Scalar.addi c0_i32_292 c128_i32_293
  let c1_i32_294 : BitVec 32 := 1#32
  ⟨c0_i32_292, v1099, c1_i32_294⟩
def k0_off14 (k0_t14 : Fin k0_t14_loop.trips) : Fin 2 → Nat :=
  let c0_i32_292 : BitVec 32 := 0#32
  let c1_i32_294 : BitVec 32 := 1#32
  let arg4 : BitVec 32 := Scf.iv c0_i32_292 c1_i32_294 k0_t14
  let v2457 : Index := Scalar.indexCast arg4
  let c0_642 : Index := 0#32
  ![v2457.toNat, 0]
@[reducible] def k0_t15_loop : Scf.Loop 32 :=
  let c0_i32_313 : BitVec 32 := 0#32
  let c128_i32_314 : BitVec 32 := 128#32
  let v1177 : BitVec 32 := Scalar.addi c0_i32_313 c128_i32_314
  let c1_i32_315 : BitVec 32 := 1#32
  ⟨c0_i32_313, v1177, c1_i32_315⟩
def k0_off15 (k0_t15 : Fin k0_t15_loop.trips) : Fin 2 → Nat :=
  let c0_i32_313 : BitVec 32 := 0#32
  let c1_i32_315 : BitVec 32 := 1#32
  let arg4 : BitVec 32 := Scf.iv c0_i32_313 c1_i32_315 k0_t15
  let v2457 : Index := Scalar.indexCast arg4
  let c0_642 : Index := 0#32
  ![v2457.toNat, 0]
@[reducible] def k0_t16_loop : Scf.Loop 32 :=
  let c0_i32_334 : BitVec 32 := 0#32
  let c128_i32_335 : BitVec 32 := 128#32
  let v1255 : BitVec 32 := Scalar.addi c0_i32_334 c128_i32_335
  let c1_i32_336 : BitVec 32 := 1#32
  ⟨c0_i32_334, v1255, c1_i32_336⟩
def k0_off16 (k0_t16 : Fin k0_t16_loop.trips) : Fin 2 → Nat :=
  let c0_i32_334 : BitVec 32 := 0#32
  let c1_i32_336 : BitVec 32 := 1#32
  let arg4 : BitVec 32 := Scf.iv c0_i32_334 c1_i32_336 k0_t16
  let v2457 : Index := Scalar.indexCast arg4
  let c0_642 : Index := 0#32
  ![v2457.toNat, 0]
abbrev stage0_0 : Fin 1 → Memref sig .tc .vmem S6x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference2Ideal.lean ====
abbrev S6x2048 : Shape := ⟨2, ![6, 2048]⟩
abbrev S4x2000 : Shape := ⟨2, ![4, 2000]⟩
abbrev S2000x4 : Shape := ⟨2, ![2000, 4]⟩
abbrev S1x2000 : Shape := ⟨2, ![1, 2000]⟩
abbrev S2000 : Shape := ⟨1, ![2000]⟩
abbrev S_ : Shape := ⟨0, ![]⟩
abbrev S2000x1 : Shape := ⟨2, ![2000, 1]⟩
abbrev S2000x2000 : Shape := ⟨2, ![2000, 2000]⟩
abbrev S1 : Shape := ⟨1, ![1]⟩
abbrev S1000 : Shape := ⟨1, ![1000]⟩
abbrev S1000x1 : Shape := ⟨2, ![1000, 1]⟩
abbrev S1000x2000 : Shape := ⟨2, ![1000, 2000]⟩
abbrev S1000x4 : Shape := ⟨2, ![1000, 4]⟩

abbrev nBuf : Space → Nat
  | .hbm => 181
  | .vmem => 0
  | .smem => 0
  | _ => 0

abbrev hbmTy0_0 (i : Nat) : BufTy := match i % 128 with
  | 0 => ⟨S6x2048, .f32⟩
  | 1 => ⟨S4x2000, .f32⟩
  | 2 => ⟨S2000x4, .f32⟩
  | 3 => ⟨S1x2000, .f32⟩
  | 4 => ⟨S2000, .f32⟩
  | 5 => ⟨S_, .f32⟩
  | 6 => ⟨S2000, .f32⟩
  | 7 => ⟨S2000, .i1⟩
  | 8 => ⟨S2000x1, .f32⟩
  | 9 => ⟨S2000, .f32⟩
  | 10 => ⟨S2000x1, .f32⟩
  | 11 => ⟨S2000, .f32⟩
  | 12 => ⟨S2000, .f32⟩
  | 13 => ⟨S2000x1, .f32⟩
  | 14 => ⟨S2000, .f32⟩
  | 15 => ⟨S2000x1, .f32⟩
  | 16 => ⟨S2000, .f32⟩
  | 17 => ⟨S2000, .f32⟩
  | 18 => ⟨S2000, .f32⟩
  | 19 => ⟨S2000x1, .f32⟩
  | 20 => ⟨S2000, .f32⟩
  | 21 => ⟨S2000x1, .f32⟩
  | 22 => ⟨S2000x1, .f32⟩
  | 23 => ⟨S2000, .f32⟩
  | 24 => ⟨S1x2000, .f32⟩
  | 25 => ⟨S2000x2000, .f32⟩
  | 26 => ⟨S2000x2000, .f32⟩
  | 27 => ⟨S2000x2000, .f32⟩
  | 28 => ⟨S2000x1, .f32⟩
  | 29 => ⟨S2000, .f32⟩
  | 30 => ⟨S2000x1, .f32⟩
  | 31 => ⟨S2000x1, .f32⟩
  | 32 => ⟨S2000, .f32⟩
  | 33 => ⟨S1x2000, .f32⟩
  | 34 => ⟨S2000x2000, .f32⟩
  | 35 => ⟨S2000x2000, .f32⟩
  | 36 => ⟨S2000x2000, .f32⟩
  | 37 => ⟨S2000x1, .f32⟩
  | 38 => ⟨S2000, .f32⟩
  | 39 => ⟨S2000x1, .f32⟩
  | 40 => ⟨S2000x1, .f32⟩
  | 41 => ⟨S2000, .f32⟩
  | 42 => ⟨S1x2000, .f32⟩
  | 43 => ⟨S2000x2000, .f32⟩
  | 44 => ⟨S2000x2000, .f32⟩
  | 45 => ⟨S2000x2000, .f32⟩
  | 46 => ⟨S2000x1, .f32⟩
  | 47 => ⟨S2000, .f32⟩
  | 48 => ⟨S2000x1, .f32⟩
  | 49 => ⟨S2000x1, .f32⟩
  | 50 => ⟨S2000, .f32⟩
  | 51 => ⟨S1x2000, .f32⟩
  | 52 => ⟨S2000x2000, .f32⟩
  | 53 => ⟨S2000x2000, .f32⟩
  | 54 => ⟨S2000x2000, .f32⟩
  | 55 => ⟨S2000x2000, .f32⟩
  | 56 => ⟨S_, .f32⟩
  | 57 => ⟨S2000x2000, .f32⟩
  | 58 => ⟨S2000x2000, .f32⟩
  | 59 => ⟨S2000x2000, .f32⟩
  | 60 => ⟨S_, .f32⟩
  | 61 => ⟨S2000x2000, .f32⟩
  | 62 => ⟨S2000x2000, .f32⟩
  | 63 => ⟨S2000x2000, .f32⟩
  | 64 => ⟨S2000x1, .f32⟩
  | 65 => ⟨S1x2000, .f32⟩
  | 66 => ⟨S2000x2000, .f32⟩
  | 67 => ⟨S2000x2000, .f32⟩
  | 68 => ⟨S2000x2000, .f32⟩
  | 69 => ⟨S2000x2000, .f32⟩
  | 70 => ⟨S_, .f32⟩
  | 71 => ⟨S2000x2000, .f32⟩
  | 72 => ⟨S2000x2000, .f32⟩
  | 73 => ⟨S2000x2000, .f32⟩
  | 74 => ⟨S2000, .i32⟩
  | 75 => ⟨S_, .i32⟩
  | 76 => ⟨S_, .i32⟩
  | 77 => ⟨S2000x2000, .f32⟩
  | 78 => ⟨S2000, .i32⟩
  | 79 => ⟨S_, .i32⟩
  | 80 => ⟨S_, .i32⟩
  | 81 => ⟨S2000, .i1⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S1x2000, .f32⟩
  | 101 => ⟨S2000, .f32⟩
  | 102 => ⟨S_, .f32⟩
  | 103 => ⟨S2000, .f32⟩
  | 104 => ⟨S2000, .i1⟩
  | 105 => ⟨S_, .i32⟩
  | 106 => ⟨S2000, .i32⟩
  | 107 => ⟨S2000, .i1⟩
  | 108 => ⟨S2000, .i1⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S1, .i1⟩
  | 116 => ⟨S_, .i1⟩
  | 117 => ⟨S2000, .i1⟩
  | 118 => ⟨S2000, .i1⟩
  | 119 => ⟨S2000, .i1⟩
  | 120 => ⟨S2000, .i1⟩
  | 121 => ⟨S_, .i32⟩
  | 122 => ⟨S_, .i32⟩
  | 123 => ⟨S2000, .i32⟩
  | 124 => ⟨S1x2000, .i32⟩
  | 125 => ⟨S2000x1, .i32⟩
  | 126 => ⟨S2000x2000, .i32⟩
  | 127 => ⟨S2000x2000, .i32⟩
  | _ => ⟨S6x2048, .f32⟩

abbrev hbmTy0_1 (i : Nat) : BufTy := match i % 128 with
  | 0 => ⟨S2000x2000, .i1⟩
  | 1 => ⟨S1x2000, .i1⟩
  | 2 => ⟨S2000x2000, .i1⟩
  | 3 => ⟨S2000x2000, .i1⟩
  | 4 => ⟨S2000x2000, .i32⟩
  | 5 => ⟨S_, .i32⟩
  | 6 => ⟨S2000, .i32⟩
  | 7 => ⟨S2000, .i32⟩
  | 8 => ⟨S_, .i32⟩
  | 9 => ⟨S_, .i32⟩
  | 10 => ⟨S1000, .i32⟩
  | 11 => ⟨S1x2000, .i32⟩
  | 12 => ⟨S1000x1, .i32⟩
  | 13 => ⟨S1000x2000, .i32⟩
  | 14 => ⟨S1000x2000, .i32⟩
  | 15 => ⟨S1000x2000, .i1⟩
  | 16 => ⟨S1000, .i32⟩
  | 17 => ⟨S1000, .i1⟩
  | 18 => ⟨S1000x1, .i1⟩
  | 19 => ⟨S1000x2000, .i1⟩
  | 20 => ⟨S1000x2000, .i1⟩
  | 21 => ⟨S1000x2000, .i32⟩
  | 22 => ⟨S_, .i32⟩
  | 23 => ⟨S1000, .i32⟩
  | 24 => ⟨S1000, .i32⟩
  | 25 => ⟨S1000, .i1⟩
  | 26 => ⟨S1000, .f32⟩
  | 27 => ⟨S4x2000, .f32⟩
  | 28 => ⟨S2000x4, .f32⟩
  | 29 => ⟨S_, .i32⟩
  | 30 => ⟨S1000, .i32⟩
  | 31 => ⟨S1000, .i1⟩
  | 32 => ⟨S_, .i32⟩
  | 33 => ⟨S1000, .i32⟩
  | 34 => ⟨S1000, .i32⟩
  | 35 => ⟨S1000, .i32⟩
  | 36 => ⟨S1000x1, .i32⟩
  | 37 => ⟨S1000x4, .f32⟩
  | 38 => ⟨S1000x1, .f32⟩
  | 39 => ⟨S1000x4, .f32⟩
  | 40 => ⟨S1000x4, .f32⟩
  | 41 => ⟨S1x2000, .f32⟩
  | 42 => ⟨S2000, .f32⟩
  | 43 => ⟨S_, .i32⟩
  | 44 => ⟨S1000, .i32⟩
  | 45 => ⟨S1000, .i1⟩
  | 46 => ⟨S_, .i32⟩
  | 47 => ⟨S1000, .i32⟩
  | 48 => ⟨S1000, .i32⟩
  | 49 => ⟨S1000, .i32⟩
  | 50 => ⟨S1000x1, .i32⟩
  | 51 => ⟨S1000, .f32⟩
  | 52 => ⟨S1000, .f32⟩
  | _ => ⟨S6x2048, .f32⟩

abbrev hbmTy (i : Nat) : BufTy := match i / 128 with
  | 0 => hbmTy0_0 i
  | 1 => hbmTy0_1 i
  | _ => ⟨S6x2048, .f32⟩

abbrev bufTy : (tb : Table) → Fin (tcTables nBuf tb) → BufTy
  | .hbm, ⟨i, _⟩ => hbmTy i
  | _, _ => ⟨S6x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_cst_0 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_cst_1 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_cst_2 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_c : Ref sig .tc := ⟨.hbm, 75, rfl⟩
abbrev main_c_3 : Ref sig .tc := ⟨.hbm, 76, rfl⟩
abbrev main_v70_0 : Ref sig .tc := ⟨.hbm, 77, rfl⟩
abbrev main_v70_1 : Ref sig .tc := ⟨.hbm, 78, rfl⟩
abbrev main_v70_2 : Ref sig .tc := ⟨.hbm, 79, rfl⟩
abbrev main_v70_3 : Ref sig .tc := ⟨.hbm, 80, rfl⟩
abbrev main_v70_4 : Ref sig .tc := ⟨.hbm, 81, rfl⟩
abbrev main_while0c_c_15 : Ref sig .tc := ⟨.hbm, 82, rfl⟩
abbrev main_while0c_v122 : Ref sig .tc := ⟨.hbm, 83, rfl⟩
abbrev main_while0b_c_15 : Ref sig .tc := ⟨.hbm, 84, rfl⟩
abbrev main_while0b_v122 : Ref sig .tc := ⟨.hbm, 85, rfl⟩
abbrev main_while0b_v123 : Ref sig .tc := ⟨.hbm, 86, rfl⟩
abbrev main_while0b_c_16 : Ref sig .tc := ⟨.hbm, 87, rfl⟩
abbrev main_while0b_v124 : Ref sig .tc := ⟨.hbm, 88, rfl⟩
abbrev main_while0b_c_17 : Ref sig .tc := ⟨.hbm, 89, rfl⟩
abbrev main_while0b_v125 : Ref sig .tc := ⟨.hbm, 90, rfl⟩
abbrev main_while0b_v126 : Ref sig .tc := ⟨.hbm, 91, rfl⟩
abbrev main_while0b_c_18 : Ref sig .tc := ⟨.hbm, 92, rfl⟩
abbrev main_while0b_c_19 : Ref sig .tc := ⟨.hbm, 93, rfl⟩
abbrev main_while0b_v127 : Ref sig .tc := ⟨.hbm, 94, rfl⟩
abbrev main_while0b_c_20 : Ref sig .tc := ⟨.hbm, 95, rfl⟩
abbrev main_while0b_c_21 : Ref sig .tc := ⟨.hbm, 96, rfl⟩
abbrev main_while0b_v128 : Ref sig .tc := ⟨.hbm, 97, rfl⟩
abbrev main_while0b_c_22 : Ref sig .tc := ⟨.hbm, 98, rfl⟩
abbrev main_while0b_v129 : Ref sig .tc := ⟨.hbm, 99, rfl⟩
abbrev main_while0b_v130 : Ref sig .tc := ⟨.hbm, 100, rfl⟩
abbrev main_while0b_v131 : Ref sig .tc := ⟨.hbm, 101, rfl⟩
abbrev main_while0b_cst_23 : Ref sig .tc := ⟨.hbm, 102, rfl⟩
abbrev main_while0b_v132 : Ref sig .tc := ⟨.hbm, 103, rfl⟩
abbrev main_while0b_v133 : Ref sig .tc := ⟨.hbm, 104, rfl⟩
abbrev main_while0b_v134 : Ref sig .tc := ⟨.hbm, 105, rfl⟩
abbrev main_while0b_v135 : Ref sig .tc := ⟨.hbm, 106, rfl⟩
abbrev main_while0b_v136 : Ref sig .tc := ⟨.hbm, 107, rfl⟩
abbrev main_while0b_v137 : Ref sig .tc := ⟨.hbm, 108, rfl⟩
abbrev main_while0b_c_24 : Ref sig .tc := ⟨.hbm, 109, rfl⟩
abbrev main_while0b_v138 : Ref sig .tc := ⟨.hbm, 110, rfl⟩
abbrev main_while0b_v139 : Ref sig .tc := ⟨.hbm, 111, rfl⟩
abbrev main_while0b_c_25 : Ref sig .tc := ⟨.hbm, 112, rfl⟩
abbrev main_while0b_v140 : Ref sig .tc := ⟨.hbm, 113, rfl⟩
abbrev main_while0b_v141 : Ref sig .tc := ⟨.hbm, 114, rfl⟩
abbrev main_while0b_v142 : Ref sig .tc := ⟨.hbm, 115, rfl⟩
abbrev main_while0b_v143 : Ref sig .tc := ⟨.hbm, 116, rfl⟩
abbrev main_while0b_v144 : Ref sig .tc := ⟨.hbm, 117, rfl⟩
abbrev main_while0b_v145 : Ref sig .tc := ⟨.hbm, 118, rfl⟩
abbrev main_while0b_v146 : Ref sig .tc := ⟨.hbm, 119, rfl⟩
abbrev main_while0b_v147 : Ref sig .tc := ⟨.hbm, 120, rfl⟩
abbrev main_while0b_c_26 : Ref sig .tc := ⟨.hbm, 121, rfl⟩
abbrev main_while0b_v148 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_c_4 : Ref sig .tc := ⟨.hbm, 133, rfl⟩
abbrev main_v81 : Ref sig .tc := ⟨.hbm, 134, rfl⟩
abbrev main_v82 : Ref sig .tc := ⟨.hbm, 135, rfl⟩
abbrev main_c_5 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_c_6 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_c_7 : Ref sig .tc := ⟨.hbm, 157, rfl⟩
abbrev main_v102 : Ref sig .tc := ⟨.hbm, 158, rfl⟩
abbrev main_v103 : Ref sig .tc := ⟨.hbm, 159, rfl⟩
abbrev main_c_8 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_c_9 : Ref sig .tc := ⟨.hbm, 171, rfl⟩
abbrev main_v114 : Ref sig .tc := ⟨.hbm, 172, rfl⟩
abbrev main_v115 : Ref sig .tc := ⟨.hbm, 173, rfl⟩
abbrev main_c_10 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩

abbrev nD : Nat := 1
abbrev τ : Topo := Topo.v7x

variable {F : FTy → Type} [FloatOps F]

abbrev main_while0_count : Scf.Loop 32 := ⟨0#32, 2000#32, 1#32⟩
-- ==== Kernel3.lean ====
abbrev S7500 : Shape := ⟨1, ![7500]⟩
abbrev S7500x4 : Shape := ⟨2, ![7500, 4]⟩
abbrev S60x128 : Shape := ⟨2, ![60, 128]⟩
abbrev S_ : Shape := ⟨0, ![]⟩
abbrev S7680 : Shape := ⟨1, ![7680]⟩
abbrev S7500x1 : Shape := ⟨2, ![7500, 1]⟩
abbrev S6x2048 : Shape := ⟨2, ![6, 2048]⟩
abbrev S8x60x128 : Shape := ⟨3, ![8, 60, 128]⟩
abbrev S1x60x128 : Shape := ⟨3, ![1, 60, 128]⟩
abbrev S60x128x1 : Shape := ⟨3, ![60, 128, 1]⟩
abbrev S1x1x128 : Shape := ⟨3, ![1, 1, 128]⟩
abbrev S1x128 : Shape := ⟨2, ![1, 128]⟩
abbrev S60x128x128 : Shape := ⟨3, ![60, 128, 128]⟩
abbrev S1x2048 : Shape := ⟨2, ![1, 2048]⟩
abbrev S128x1 : Shape := ⟨2, ![128, 1]⟩
abbrev S128x2048 : Shape := ⟨2, ![128, 2048]⟩
abbrev S2048 : Shape := ⟨1, ![2048]⟩
abbrev S6x2000 : Shape := ⟨2, ![6, 2000]⟩

abbrev nBuf : Space → Nat
  | .hbm => 38
  | .vmem => 13
  | .smem => 0
  | _ => 0

abbrev bufTy : (tb : Table) → Fin (tcTables nBuf tb) → BufTy
  | .hbm, ⟨0, _⟩ => ⟨S7500, .f32⟩
  | .hbm, ⟨1, _⟩ => ⟨S7500x4, .f32⟩
  | .hbm, ⟨2, _⟩ => ⟨S60x128, .f32⟩
  | .hbm, ⟨3, _⟩ => ⟨S60x128, .f32⟩
  | .hbm, ⟨4, _⟩ => ⟨S60x128, .f32⟩
  | .hbm, ⟨5, _⟩ => ⟨S60x128, .f32⟩
  | .hbm, ⟨6, _⟩ => ⟨S60x128, .f32⟩
  | .hbm, ⟨7, _⟩ => ⟨S60x128, .f32⟩
  | .hbm, ⟨8, _⟩ => ⟨S_, .i32⟩
  | .hbm, ⟨9, _⟩ => ⟨S_, .f32⟩
  | .hbm, ⟨10, _⟩ => ⟨S7680, .f32⟩
  | .hbm, ⟨11, _⟩ => ⟨S60x128, .f32⟩
  | .hbm, ⟨12, _⟩ => ⟨S7500x1, .f32⟩
  | .hbm, ⟨13, _⟩ => ⟨S7500, .f32⟩
  | .hbm, ⟨14, _⟩ => ⟨S_, .i32⟩
  | .hbm, ⟨15, _⟩ => ⟨S_, .f32⟩
  | .hbm, ⟨16, _⟩ => ⟨S7680, .f32⟩
  | .hbm, ⟨17, _⟩ => ⟨S60x128, .f32⟩
  | .hbm, ⟨18, _⟩ => ⟨S7500x1, .f32⟩
  | .hbm, ⟨19, _⟩ => ⟨S7500, .f32⟩
  | .hbm, ⟨20, _⟩ => ⟨S_, .i32⟩
  | .hbm, ⟨21, _⟩ => ⟨S_, .f32⟩
  | .hbm, ⟨22, _⟩ => ⟨S7680, .f32⟩
  | .hbm, ⟨23, _⟩ => ⟨S60x128, .f32⟩
  | .hbm, ⟨24, _⟩ => ⟨S7500x1, .f32⟩
  | .hbm, ⟨25, _⟩ => ⟨S7500, .f32⟩
  | .hbm, ⟨26, _⟩ => ⟨S_, .i32⟩
  | .hbm, ⟨27, _⟩ => ⟨S_, .f32⟩
  | .hbm, ⟨28, _⟩ => ⟨S7680, .f32⟩
  | .hbm, ⟨29, _⟩ => ⟨S60x128, .f32⟩
  | .hbm, ⟨30, _⟩ => ⟨S7500x1, .f32⟩
  | .hbm, ⟨31, _⟩ => ⟨S7500, .f32⟩
  | .hbm, ⟨32, _⟩ => ⟨S_, .i32⟩
  | .hbm, ⟨33, _⟩ => ⟨S_, .f32⟩
  | .hbm, ⟨34, _⟩ => ⟨S7680, .f32⟩
  | .hbm, ⟨35, _⟩ => ⟨S60x128, .f32⟩
  | .hbm, ⟨36, _⟩ => ⟨S6x2048, .f32⟩
  | .hbm, ⟨37, _⟩ => ⟨S6x2000, .f32⟩
  | .local _ .vmem, ⟨0, _⟩ => ⟨S60x128, .f32⟩
  | .local _ .vmem, ⟨1, _⟩ => ⟨S60x128, .f32⟩
  | .local _ .vmem, ⟨2, _⟩ => ⟨S60x128, .f32⟩
  | .local _ .vmem, ⟨3, _⟩ => ⟨S60x128, .f32⟩
  | .local _ .vmem, ⟨4, _⟩ => ⟨S60x128, .f32⟩
  | .local _ .vmem, ⟨5, _⟩ => ⟨S60x128, .f32⟩
  | .local _ .vmem, ⟨6, _⟩ => ⟨S60x128, .f32⟩
  | .local _ .vmem, ⟨7, _⟩ => ⟨S60x128, .f32⟩
  | .local _ .vmem, ⟨8, _⟩ => ⟨S60x128, .f32⟩
  | .local _ .vmem, ⟨9, _⟩ => ⟨S60x128, .f32⟩
  | .local _ .vmem, ⟨10, _⟩ => ⟨S60x128, .f32⟩
  | .local _ .vmem, ⟨11, _⟩ => ⟨S6x2048, .f32⟩
  | .local _ .vmem, ⟨12, _⟩ => ⟨S8x60x128, .f32⟩
  | _, _ => ⟨S7500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_call3_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_call4_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c60_i32 : BitVec 32 := 60#32
  let v89 : BitVec 32 := Scalar.addi c0_i32 c60_i32
  let c1_i32 : BitVec 32 := 1#32
  ⟨c0_i32, v89, c1_i32⟩
def k0_off1 (k0_t1 : Fin k0_t1_loop.trips) : Fin 3 → Nat :=
  let c0_71 : Index := 0#32
  let c0_i32 : BitVec 32 := 0#32
  let c1_i32 : BitVec 32 := 1#32
  let arg13 : BitVec 32 := Scf.iv c0_i32 c1_i32 k0_t1
  let v117 : Index := Scalar.indexCast arg13
  let c0_72 : Index := 0#32
  ![0, v117.toNat, 0]
def k0_off2 (k0_t1 : Fin k0_t1_loop.trips) : Fin 3 → Nat :=
  let c7_73 : Index := 7#32
  let c0_i32 : BitVec 32 := 0#32
  let c1_i32 : BitVec 32 := 1#32
  let arg13 : BitVec 32 := Scf.iv c0_i32 c1_i32 k0_t1
  let v121 : Index := Scalar.indexCast arg13
  let c0_74 : Index := 0#32
  ![7, v121.toNat, 0]
@[reducible] def k0_t2_loop : Scf.Loop 32 :=
  let c0_i32_65 : BitVec 32 := 0#32
  let c60_i32_66 : BitVec 32 := 60#32
  let v114 : BitVec 32 := Scalar.addi c0_i32_65 c60_i32_66
  let c1_i32_67 : BitVec 32 := 1#32
  ⟨c0_i32_65, v114, c1_i32_67⟩
def k0_off3 (k0_t2 : Fin k0_t2_loop.trips) : Fin 3 → Nat :=
  let c6_71 : Index := 6#32
  let c0_i32_65 : BitVec 32 := 0#32
  let c1_i32_67 : BitVec 32 := 1#32
  let arg13 : BitVec 32 := Scf.iv c0_i32_65 c1_i32_67 k0_t2
  let v117 : Index := Scalar.indexCast arg13
  let c0_72 : Index := 0#32
  ![6, v117.toNat, 0]
def k0_off4 (k0_t2 : Fin k0_t2_loop.trips) : Fin 3 → Nat :=
  let c0_73 : Index := 0#32
  let c0_i32_65 : BitVec 32 := 0#32
  let c1_i32_67 : BitVec 32 := 1#32
  let arg13 : BitVec 32 := Scf.iv c0_i32_65 c1_i32_67 k0_t2
  let v124 : Index := Scalar.indexCast arg13
  let c0_74 : Index := 0#32
  ![0, v124.toNat, 0]
def k0_off5 (k0_t2 : Fin k0_t2_loop.trips) : Fin 3 → Nat :=
  let c1_77 : Index := 1#32
  let c0_i32_65 : BitVec 32 := 0#32
  let c1_i32_67 : BitVec 32 := 1#32
  let arg13 : BitVec 32 := Scf.iv c0_i32_65 c1_i32_67 k0_t2
  let v134 : Index := Scalar.indexCast arg13
  let c0_78 : Index := 0#32
  ![1, v134.toNat, 0]
def k0_off6 (k0_t2 : Fin k0_t2_loop.trips) : Fin 3 → Nat :=
  let c2_81 : Index := 2#32
  let c0_i32_65 : BitVec 32 := 0#32
  let c1_i32_67 : BitVec 32 := 1#32
  let arg13 : BitVec 32 := Scf.iv c0_i32_65 c1_i32_67 k0_t2
  let v144 : Index := Scalar.indexCast arg13
  let c0_82 : Index := 0#32
  ![2, v144.toNat, 0]
def k0_off7 (k0_t2 : Fin k0_t2_loop.trips) : Fin 3 → Nat :=
  let c3_85 : Index := 3#32
  let c0_i32_65 : BitVec 32 := 0#32
  let c1_i32_67 : BitVec 32 := 1#32
  let arg13 : BitVec 32 := Scf.iv c0_i32_65 c1_i32_67 k0_t2
  let v154 : Index := Scalar.indexCast arg13
  let c0_86 : Index := 0#32
  ![3, v154.toNat, 0]
def k0_off8 (k0_t2 : Fin k0_t2_loop.trips) : Fin 3 → Nat :=
  let c4_89 : Index := 4#32
  let c0_i32_65 : BitVec 32 := 0#32
  let c1_i32_67 : BitVec 32 := 1#32
  let arg13 : BitVec 32 := Scf.iv c0_i32_65 c1_i32_67 k0_t2
  let v164 : Index := Scalar.indexCast arg13
  let c0_90 : Index := 0#32
  ![4, v164.toNat, 0]
def k0_off9 (k0_t2 : Fin k0_t2_loop.trips) : Fin 3 → Nat :=
  let c5_93 : Index := 5#32
  let c0_i32_65 : BitVec 32 := 0#32
  let c1_i32_67 : BitVec 32 := 1#32
  let arg13 : BitVec 32 := Scf.iv c0_i32_65 c1_i32_67 k0_t2
  let v174 : Index := Scalar.indexCast arg13
  let c0_94 : Index := 0#32
  ![5, v174.toNat, 0]
abbrev stage0_0 : Fin 1 → Memref sig .tc .vmem S60x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S60x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S60x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S60x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S60x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S60x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S60x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S60x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S60x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S60x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S60x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Reference3Ideal.lean ====
abbrev S7500 : Shape := ⟨1, ![7500]⟩
abbrev S7500x4 : Shape := ⟨2, ![7500, 4]⟩
abbrev S60x128 : Shape := ⟨2, ![60, 128]⟩
abbrev S7680 : Shape := ⟨1, ![7680]⟩
abbrev S7500x1 : Shape := ⟨2, ![7500, 1]⟩
abbrev S_ : Shape := ⟨0, ![]⟩
abbrev S2000 : Shape := ⟨1, ![2000]⟩
abbrev S2000x1 : Shape := ⟨2, ![2000, 1]⟩
abbrev S2000x4 : Shape := ⟨2, ![2000, 4]⟩
abbrev S1x2000 : Shape := ⟨2, ![1, 2000]⟩
abbrev S4x2000 : Shape := ⟨2, ![4, 2000]⟩
abbrev S6x2000 : Shape := ⟨2, ![6, 2000]⟩

abbrev nBuf : Space → Nat
  | .hbm => 110
  | .vmem => 0
  | .smem => 0
  | _ => 0

abbrev bufTy : (tb : Table) → Fin (tcTables nBuf tb) → BufTy
  | .hbm, ⟨0, _⟩ => ⟨S7500, .f32⟩
  | .hbm, ⟨1, _⟩ => ⟨S7500x4, .f32⟩
  | .hbm, ⟨2, _⟩ => ⟨S60x128, .f32⟩
  | .hbm, ⟨3, _⟩ => ⟨S60x128, .f32⟩
  | .hbm, ⟨4, _⟩ => ⟨S60x128, .f32⟩
  | .hbm, ⟨5, _⟩ => ⟨S60x128, .f32⟩
  | .hbm, ⟨6, _⟩ => ⟨S60x128, .f32⟩
  | .hbm, ⟨7, _⟩ => ⟨S60x128, .f32⟩
  | .hbm, ⟨8, _⟩ => ⟨S7680, .f32⟩
  | .hbm, ⟨9, _⟩ => ⟨S7500, .f32⟩
  | .hbm, ⟨10, _⟩ => ⟨S7680, .f32⟩
  | .hbm, ⟨11, _⟩ => ⟨S7500, .f32⟩
  | .hbm, ⟨12, _⟩ => ⟨S7680, .f32⟩
  | .hbm, ⟨13, _⟩ => ⟨S7500, .f32⟩
  | .hbm, ⟨14, _⟩ => ⟨S7680, .f32⟩
  | .hbm, ⟨15, _⟩ => ⟨S7500, .f32⟩
  | .hbm, ⟨16, _⟩ => ⟨S7500x1, .f32⟩
  | .hbm, ⟨17, _⟩ => ⟨S7500, .f32⟩
  | .hbm, ⟨18, _⟩ => ⟨S7500, .f32⟩
  | .hbm, ⟨19, _⟩ => ⟨S7500, .f32⟩
  | .hbm, ⟨20, _⟩ => ⟨S7500x1, .f32⟩
  | .hbm, ⟨21, _⟩ => ⟨S7500, .f32⟩
  | .hbm, ⟨22, _⟩ => ⟨S7500, .f32⟩
  | .hbm, ⟨23, _⟩ => ⟨S7500, .f32⟩
  | .hbm, ⟨24, _⟩ => ⟨S7500x1, .f32⟩
  | .hbm, ⟨25, _⟩ => ⟨S7500, .f32⟩
  | .hbm, ⟨26, _⟩ => ⟨S_, .f32⟩
  | .hbm, ⟨27, _⟩ => ⟨S7500, .f32⟩
  | .hbm, ⟨28, _⟩ => ⟨S7500, .f32⟩
  | .hbm, ⟨29, _⟩ => ⟨S7500, .f32⟩
  | .hbm, ⟨30, _⟩ => ⟨S7500, .f32⟩
  | .hbm, ⟨31, _⟩ => ⟨S7500x1, .f32⟩
  | .hbm, ⟨32, _⟩ => ⟨S7500, .f32⟩
  | .hbm, ⟨33, _⟩ => ⟨S_, .f32⟩
  | .hbm, ⟨34, _⟩ => ⟨S7500, .f32⟩
  | .hbm, ⟨35, _⟩ => ⟨S7500, .f32⟩
  | .hbm, ⟨36, _⟩ => ⟨S7500, .f32⟩
  | .hbm, ⟨37, _⟩ => ⟨S7500, .f32⟩
  | .hbm, ⟨38, _⟩ => ⟨S_, .f32⟩
  | .hbm, ⟨39, _⟩ => ⟨S7500, .f32⟩
  | .hbm, ⟨40, _⟩ => ⟨S7500, .f32⟩
  | .hbm, ⟨41, _⟩ => ⟨S7500, .f32⟩
  | .hbm, ⟨42, _⟩ => ⟨S_, .f32⟩
  | .hbm, ⟨43, _⟩ => ⟨S7500, .f32⟩
  | .hbm, ⟨44, _⟩ => ⟨S7500, .f32⟩
  | .hbm, ⟨45, _⟩ => ⟨S7500, .f32⟩
  | .hbm, ⟨46, _⟩ => ⟨S_, .f32⟩
  | .hbm, ⟨47, _⟩ => ⟨S7500, .f32⟩
  | .hbm, ⟨48, _⟩ => ⟨S7500, .f32⟩
  | .hbm, ⟨49, _⟩ => ⟨S7500, .f32⟩
  | .hbm, ⟨50, _⟩ => ⟨S_, .f32⟩
  | .hbm, ⟨51, _⟩ => ⟨S7500, .f32⟩
  | .hbm, ⟨52, _⟩ => ⟨S7500, .f32⟩
  | .hbm, ⟨53, _⟩ => ⟨S7500, .f32⟩
  | .hbm, ⟨54, _⟩ => ⟨S7500x1, .f32⟩
  | .hbm, ⟨55, _⟩ => ⟨S7500x1, .f32⟩
  | .hbm, ⟨56, _⟩ => ⟨S7500x1, .f32⟩
  | .hbm, ⟨57, _⟩ => ⟨S7500x1, .f32⟩
  | .hbm, ⟨58, _⟩ => ⟨S7500x4, .f32⟩
  | .hbm, ⟨59, _⟩ => ⟨S7500, .f32⟩
  | .hbm, ⟨60, _⟩ => ⟨S7500, .f32⟩
  | .hbm, ⟨61, _⟩ => ⟨S_, .f32⟩
  | .hbm, ⟨62, _⟩ => ⟨S7500, .f32⟩
  | .hbm, ⟨63, _⟩ => ⟨S7500, .f32⟩
  | .hbm, ⟨64, _⟩ => ⟨S_, .f32⟩
  | .hbm, ⟨65, _⟩ => ⟨S7500, .f32⟩
  | .hbm, ⟨66, _⟩ => ⟨S7500, .f32⟩
  | .hbm, ⟨67, _⟩ => ⟨S2000, .f32⟩
  | .hbm, ⟨68, _⟩ => ⟨S2000, .i32⟩
  | .hbm, ⟨69, _⟩ => ⟨S_, .i32⟩
  | .hbm, ⟨70, _⟩ => ⟨S2000, .i32⟩
  | .hbm, ⟨71, _⟩ => ⟨S2000, .i1⟩
  | .hbm, ⟨72, _⟩ => ⟨S_, .i32⟩
  | .hbm, ⟨73, _⟩ => ⟨S2000, .i32⟩
  | .hbm, ⟨74, _⟩ => ⟨S2000, .i32⟩
  | .hbm, ⟨75, _⟩ => ⟨S2000, .i32⟩
  | .hbm, ⟨76, _⟩ => ⟨S2000x1, .i32⟩
  | .hbm, ⟨77, _⟩ => ⟨S2000x4, .f32⟩
  | .hbm, ⟨78, _⟩ => ⟨S_, .f32⟩
  | .hbm, ⟨79, _⟩ => ⟨S2000x4, .f32⟩
  | .hbm, ⟨80, _⟩ => ⟨S2000x4, .f32⟩
  | .hbm, ⟨81, _⟩ => ⟨S_, .f32⟩
  | .hbm, ⟨82, _⟩ => ⟨S2000x4, .f32⟩
  | .hbm, ⟨83, _⟩ => ⟨S2000x4, .f32⟩
  | .hbm, ⟨84, _⟩ => ⟨S2000x1, .f32⟩
  | .hbm, ⟨85, _⟩ => ⟨S2000, .f32⟩
  | .hbm, ⟨86, _⟩ => ⟨S2000x1, .f32⟩
  | .hbm, ⟨87, _⟩ => ⟨S2000, .f32⟩
  | .hbm, ⟨88, _⟩ => ⟨S2000, .f32⟩
  | .hbm, ⟨89, _⟩ => ⟨S_, .f32⟩
  | .hbm, ⟨90, _⟩ => ⟨S2000, .f32⟩
  | .hbm, ⟨91, _⟩ => ⟨S2000, .i1⟩
  | .hbm, ⟨92, _⟩ => ⟨S2000x1, .f32⟩
  | .hbm, ⟨93, _⟩ => ⟨S2000, .f32⟩
  | .hbm, ⟨94, _⟩ => ⟨S2000x1, .f32⟩
  | .hbm, ⟨95, _⟩ => ⟨S2000, .f32⟩
  | .hbm, ⟨96, _⟩ => ⟨S2000, .f32⟩
  | .hbm, ⟨97, _⟩ => ⟨S_, .f32⟩
  | .hbm, ⟨98, _⟩ => ⟨S2000, .f32⟩
  | .hbm, ⟨99, _⟩ => ⟨S2000, .i1⟩
  | .hbm, ⟨100, _⟩ => ⟨S2000, .i1⟩
  | .hbm, ⟨101, _⟩ => ⟨S_, .f32⟩
  | .hbm, ⟨102, _⟩ => ⟨S2000, .f32⟩
  | .hbm, ⟨103, _⟩ => ⟨S2000, .i1⟩
  | .hbm, ⟨104, _⟩ => ⟨S2000, .i1⟩
  | .hbm, ⟨105, _⟩ => ⟨S1x2000, .f32⟩
  | .hbm, ⟨106, _⟩ => ⟨S4x2000, .f32⟩
  | .hbm, ⟨107, _⟩ => ⟨S2000, .f32⟩
  | .hbm, ⟨108, _⟩ => ⟨S1x2000, .f32⟩
  | .hbm, ⟨109, _⟩ => ⟨S6x2000, .f32⟩
  | _, _ => ⟨S7500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_values : Ref sig .tc := ⟨.hbm, 67, rfl⟩
abbrev main_indices : Ref sig .tc := ⟨.hbm, 68, rfl⟩
abbrev main_c : Ref sig .tc := ⟨.hbm, 69, rfl⟩
abbrev main_v51 : Ref sig .tc := ⟨.hbm, 70, rfl⟩
abbrev main_v52 : Ref sig .tc := ⟨.hbm, 71, rfl⟩
abbrev main_c_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== Proof.Block.lean ====
/- What the region's body computes, entry by entry, and what the region leaves in its result array. -/
module

public import proofs.«01_k».proof.Proof.Gen.KernelIdeal.Frame
public import proofs.«01_k».proof.Proof.Gen.KernelIdeal.Run
public import Idealize.ShloMosaic.PureOps.Ideal
public import Idealize.ShloMosaic.Lib.Pointwise
public import Idealize.ShloMosaic.Lib.ValueIdx
public import Idealize.ShloMosaic.Lib.Pipeline.ValueKit

@[expose] public section

set_option maxRecDepth 16384

noncomputable section

namespace Cert.KernelIdeal.Block

open Idealize.ShloMosaic Idealize.ShloMosaic.TcCoe
open Cert.KernelIdeal.Gen

/-- The body's stored value at row `p`, column `o`: the two layers at that pixel. -/
theorem pay_apply (x : Vec Ideal S2304x2600 .bf16) (w : Vec Ideal S2304x256 .f32) (b : Vec Ideal S1x256 .f32)
    (v : Vec Ideal S256x16 .f32) (d : Vec Ideal S1x16 .f32) (p : Fin 2600) (o : Fin 16) :
    k0_pay1 (F := Ideal) x w b v d (ix2 p o) =
      (∑ k : Fin 256, max ((∑ r : Fin 2304, x (ix2 r p) * w (ix2 r k)) + b (ix2 0 k)) 0 * v (ix2 k o)) + d (ix2 0 o) := by
  unfold k0_pay1
  pointwise

/-- The output buffer after the body is that value. -/
theorem out_eq (x : Vec Ideal S2304x2600 .bf16) (w : Vec Ideal S2304x256 .f32) (b : Vec Ideal S1x256 .f32)
    (v : Vec Ideal S256x16 .f32) (d : Vec Ideal S1x16 .f32) :
    out0_5 (F := Ideal) x w b v d = k0_pay1 (F := Ideal) x w b v d := by
  funext j
  frame_out

/-- Each input window's one block is its whole array. -/
theorem blk_0 (m : (ℓ : Loc nD τ sig) → Buf (Elt Ideal) ℓ) (c : Dev nD) : iblk m c 0 t0_0 = V m c main_v41 := by
  funext i
  have e : win0_0.index t0_0 = ![0, 0] := by decide +kernel
  blk_simp [iblk]
  exact congrArg _ (by blk_ext [e])
theorem blk_1 (m : (ℓ : Loc nD τ sig) → Buf (Elt Ideal) ℓ) (c : Dev nD) : iblk m c 1 t0_0 = V m c main_v42 := by
  funext i
  have e : win0_1.index t0_0 = ![0, 0] := by decide +kernel
  blk_simp [iblk]
  exact congrArg _ (by blk_ext [e])
theorem blk_2 (m : (ℓ : Loc nD τ sig) → Buf (Elt Ideal) ℓ) (c : Dev nD) : iblk m c 2 t0_0 = V m c main_v56 := by
  funext i
  have e : win0_2.index t0_0 = ![0, 0] := by decide +kernel
  blk_simp [iblk]
  exact congrArg _ (by blk_ext [e])
theorem blk_3 (m : (ℓ : Loc nD τ sig) → Buf (Elt Ideal) ℓ) (c : Dev nD) : iblk m c 3 t0_0 = V m c main_v52 := by
  funext i
  have e : win0_3.index t0_0 = ![0, 0] := by decide +kernel
  blk_simp [iblk]
  exact congrArg _ (by blk_ext [e])
theorem blk_4 (m : (ℓ : Loc nD τ sig) → Buf (Elt Ideal) ℓ) (c : Dev nD) : iblk m c 4 t0_0 = V m c main_v55 := by
  funext i
  have e : win0_4.index t0_0 = ![0, 0] := by decide +kernel
  blk_simp [iblk]
  exact congrArg _ (by blk_ext [e])

/-- The region's result array: the body's value of the five input arrays. -/
theorem reg_eq (m : (ℓ : Loc nD τ sig) → Buf (Elt Ideal) ℓ) (c : Dev nD) :
    Value.reg_main_v57 m c = k0_pay1 (F := Ideal) (V m c main_v41) (V m c main_v42) (V m c main_v56) (V m c main_v52) (V m c main_v55) := by
  unfold Value.reg_main_v57
  refine (dats m 0 c).arrAt_eq_of_after_last 5 t0_0 (by decide +kernel) _ fun j => ?_
  rw [after0_5, out_eq, blk_0, blk_1, blk_2, blk_3, blk_4]
  rfl

end Cert.KernelIdeal.Block

end
-- ==== Proof.Host.lean ====
/- What the host operations before the region leave in the region's arrays: the im2col array, the filter matrix and the
   heads' matrix, as terms of the program's arguments. -/
module

public import proofs.«01_k».proof.Proof.Gen.KernelIdeal.Frame
public import Idealize.ShloMosaic.PureOps.Ideal
public import Idealize.ShloMosaic.Lib.Pointwise
public import Idealize.ShloMosaic.Lib.ValueIdx
public import Idealize.ShloMosaic.Lib.StableHlo.RunClose

@[expose] public section

set_option maxRecDepth 16384

noncomputable section

namespace Cert.KernelIdeal.Host

open Idealize.ShloMosaic Idealize.ShloMosaic.TcCoe Idealize.ShloMosaic.StableHlo
open Cert.KernelIdeal.Gen

abbrev E := Elt Ideal

/-- The image with a border of one zero on every side. -/
def padded (x : (⟨S1x256x50x50, .f32⟩ : BufTy).Contents E) : (⟨S256x52x52, .f32⟩ : BufTy).Contents E :=
  pad S256x52x52 ![0, 1, 1] ![0, 1, 1] ![0, 0, 0] (shapeCast _ x shapeCasts_S1x256x50x50_S256x50x50)
    (sitofp (F := Ideal) .f32 (constantI S_ 32 0#32)) pads_S256x50x50_S256x52x52_000_110_110 h_S_

/-- The padded image with each channel's rows laid end to end, two zeros behind. -/
def flat (x : (⟨S1x256x50x50, .f32⟩ : BufTy).Contents E) : (⟨S256x2706, .bf16⟩ : BufTy).Contents E :=
  truncf .bf16 (pad S256x2706 ![0, 0] ![0, 2] ![0, 0] (shapeCast _ (padded x) shapeCasts_S256x52x52_S256x2704)
    (sitofp (F := Ideal) .f32 (constantI S_ 32 0#32)) pads_S256x2704_S256x2706_000_020 h_S_) bitsLt_bf16_f32

/-- The piece of the laid-out image that starts `k` elements in. -/
def tap (x : (⟨S1x256x50x50, .f32⟩ : BufTy).Contents E) (k : BitVec 32) : (⟨S256x2600, .bf16⟩ : BufTy).Contents E :=
  Host.dynamicSlice S256x2600 (flat x) (fun a => ((![constantI S_ 32 0#32, constantI S_ 32 k] : Fin 2 → (⟨S_, .i32⟩ : BufTy).Contents E) a (Shape.Idx.first h_S_)).toInt) sliceFits_S256x2706_S256x2600

/-- The operations before the two concatenations. -/
abbrev tapOps : List (HloOp τ sig E) := List.flatten [hostOps0, hostOps0_1, hostOps0_2, hostOps0_3, hostOps0_4.take 55]
/-- The operations after them. -/
abbrev headOps : List (HloOp τ sig E) := (hostOps0_4 (F := Ideal)).drop 57

theorem tap_5 (W : Valuation τ sig E) : after tapOps W (no_index (Proc.devRef .tc main_v5)) = tap (W (Proc.devRef .tc main_arg0)) 0#32 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem tap_9 (W : Valuation τ sig E) : after tapOps W (no_index (Proc.devRef .tc main_v9)) = tap (W (Proc.devRef .tc main_arg0)) 1#32 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem tap_13 (W : Valuation τ sig E) : after tapOps W (no_index (Proc.devRef .tc main_v13)) = tap (W (Proc.devRef .tc main_arg0)) 2#32 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem tap_17 (W : Valuation τ sig E) : after tapOps W (no_index (Proc.devRef .tc main_v17)) = tap (W (Proc.devRef .tc main_arg0)) 52#32 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem tap_21 (W : Valuation τ sig E) : after tapOps W (no_index (Proc.devRef .tc main_v21)) = tap (W (Proc.devRef .tc main_arg0)) 53#32 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem tap_25 (W : Valuation τ sig E) : after tapOps W (no_index (Proc.devRef .tc main_v25)) = tap (W (Proc.devRef .tc main_arg0)) 54#32 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem tap_29 (W : Valuation τ sig E) : after tapOps W (no_index (Proc.devRef .tc main_v29)) = tap (W (Proc.devRef .tc main_arg0)) 104#32 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem tap_33 (W : Valuation τ sig E) : after tapOps W (no_index (Proc.devRef .tc main_v33)) = tap (W (Proc.devRef .tc main_arg0)) 105#32 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem tap_37 (W : Valuation τ sig E) : after tapOps W (no_index (Proc.devRef .tc main_v37)) = tap (W (Proc.devRef .tc main_arg0)) 106#32 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem fil_8 (W : Valuation τ sig E) : after tapOps W (no_index (Proc.devRef .tc main_v8)) = transpose S256x256 [1, 0] (shapeCast S256x256 (extractStridedSlice S256x256x1x1 ![0, 0, 0, 0] (W (Proc.devRef .tc main_arg1)) slices_S256x256x3x3_S256x256x1x1_0_0_0_0) shapeCasts_S256x256x1x1_S256x256) transposes_S256x256_S256x256_1_0 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem fil_12 (W : Valuation τ sig E) : after tapOps W (no_index (Proc.devRef .tc main_v12)) = transpose S256x256 [1, 0] (shapeCast S256x256 (extractStridedSlice S256x256x1x1 ![0, 0, 0, 1] (W (Proc.devRef .tc main_arg1)) slices_S256x256x3x3_S256x256x1x1_0_0_0_1) shapeCasts_S256x256x1x1_S256x256) transposes_S256x256_S256x256_1_0 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem fil_16 (W : Valuation τ sig E) : after tapOps W (no_index (Proc.devRef .tc main_v16)) = transpose S256x256 [1, 0] (shapeCast S256x256 (extractStridedSlice S256x256x1x1 ![0, 0, 0, 2] (W (Proc.devRef .tc main_arg1)) slices_S256x256x3x3_S256x256x1x1_0_0_0_2) shapeCasts_S256x256x1x1_S256x256) transposes_S256x256_S256x256_1_0 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem fil_20 (W : Valuation τ sig E) : after tapOps W (no_index (Proc.devRef .tc main_v20)) = transpose S256x256 [1, 0] (shapeCast S256x256 (extractStridedSlice S256x256x1x1 ![0, 0, 1, 0] (W (Proc.devRef .tc main_arg1)) slices_S256x256x3x3_S256x256x1x1_0_0_1_0) shapeCasts_S256x256x1x1_S256x256) transposes_S256x256_S256x256_1_0 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem fil_24 (W : Valuation τ sig E) : after tapOps W (no_index (Proc.devRef .tc main_v24)) = transpose S256x256 [1, 0] (shapeCast S256x256 (extractStridedSlice S256x256x1x1 ![0, 0, 1, 1] (W (Proc.devRef .tc main_arg1)) slices_S256x256x3x3_S256x256x1x1_0_0_1_1) shapeCasts_S256x256x1x1_S256x256) transposes_S256x256_S256x256_1_0 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem fil_28 (W : Valuation τ sig E) : after tapOps W (no_index (Proc.devRef .tc main_v28)) = transpose S256x256 [1, 0] (shapeCast S256x256 (extractStridedSlice S256x256x1x1 ![0, 0, 1, 2] (W (Proc.devRef .tc main_arg1)) slices_S256x256x3x3_S256x256x1x1_0_0_1_2) shapeCasts_S256x256x1x1_S256x256) transposes_S256x256_S256x256_1_0 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem fil_32 (W : Valuation τ sig E) : after tapOps W (no_index (Proc.devRef .tc main_v32)) = transpose S256x256 [1, 0] (shapeCast S256x256 (extractStridedSlice S256x256x1x1 ![0, 0, 2, 0] (W (Proc.devRef .tc main_arg1)) slices_S256x256x3x3_S256x256x1x1_0_0_2_0) shapeCasts_S256x256x1x1_S256x256) transposes_S256x256_S256x256_1_0 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem fil_36 (W : Valuation τ sig E) : after tapOps W (no_index (Proc.devRef .tc main_v36)) = transpose S256x256 [1, 0] (shapeCast S256x256 (extractStridedSlice S256x256x1x1 ![0, 0, 2, 1] (W (Proc.devRef .tc main_arg1)) slices_S256x256x3x3_S256x256x1x1_0_0_2_1) shapeCasts_S256x256x1x1_S256x256) transposes_S256x256_S256x256_1_0 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem fil_40 (W : Valuation τ sig E) : after tapOps W (no_index (Proc.devRef .tc main_v40)) = transpose S256x256 [1, 0] (shapeCast S256x256 (extractStridedSlice S256x256x1x1 ![0, 0, 2, 2] (W (Proc.devRef .tc main_arg1)) slices_S256x256x3x3_S256x256x1x1_0_0_2_2) shapeCasts_S256x256x1x1_S256x256) transposes_S256x256_S256x256_1_0 := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

end Cert.KernelIdeal.Host

end
-- ==== Proof.Arrays.lean ====
/- The region's five input arrays, as terms of the program's arguments. -/
module

public import proofs.«01_k».proof.Proof.Host

@[expose] public section

set_option maxRecDepth 16384

noncomputable section

namespace Cert.KernelIdeal.Host

open Idealize.ShloMosaic Idealize.ShloMosaic.TcCoe Idealize.ShloMosaic.StableHlo
open Cert.KernelIdeal.Gen

/-- Where the nine shifted pieces start in the laid-out image: row `n / 3` and column `n % 3` of a `52`-wide image. -/
def start (n : Fin 9) : BitVec 32 := BitVec.ofNat 32 (n.val / 3 * 52 + n.val % 3)

/-- The filter's slice at one tap, input channels along the rows. -/
def filt (w : (⟨S256x256x3x3, .f32⟩ : BufTy).Contents E) (off : Fin 4 → Nat) (h : Shape.Slices S256x256x3x3 off S256x256x1x1) :
    (⟨S256x256, .f32⟩ : BufTy).Contents E :=
  transpose S256x256 [1, 0] (shapeCast S256x256 (extractStridedSlice S256x256x1x1 off w h) shapeCasts_S256x256x1x1_S256x256) transposes_S256x256_S256x256_1_0

theorem slices (n : Fin 9) : Shape.Slices S256x256x3x3 ![0, 0, n.val / 3, n.val % 3] S256x256x1x1 := by
  revert n; decide +kernel

/-- Nine pieces of one shape laid end to end. -/
theorem concat9 {α : Type} {s t : Shape} (a : Fin t.rank) (u0 u1 u2 u3 u4 u5 u6 u7 u8 : s.Idx → α) (v : Fin 9 → (s.Idx → α))
    (h : Shape.Concatenates [s, s, s, s, s, s, s, s, s] t a)
    (h' : Shape.Concatenates ((List.ofFn fun n : Fin 9 => (⟨s, v n⟩ : (s : Shape) × (s.Idx → α))).map (·.1)) t a)
    (e0 : u0 = v 0) (e1 : u1 = v 1) (e2 : u2 = v 2) (e3 : u3 = v 3) (e4 : u4 = v 4) (e5 : u5 = v 5) (e6 : u6 = v 6)
    (e7 : u7 = v 7) (e8 : u8 = v 8) :
    concatenate t a [⟨s, u0⟩, ⟨s, u1⟩, ⟨s, u2⟩, ⟨s, u3⟩, ⟨s, u4⟩, ⟨s, u5⟩, ⟨s, u6⟩, ⟨s, u7⟩, ⟨s, u8⟩] h
      = concatenate t a (List.ofFn fun n : Fin 9 => (⟨s, v n⟩ : (s : Shape) × (s.Idx → α))) h' := by
  subst e0 e1 e2 e3 e4 e5 e6 e7 e8
  rfl

theorem catX (x : (⟨S1x256x50x50, .f32⟩ : BufTy).Contents E) :
    Shape.Concatenates ((List.ofFn fun n : Fin 9 => (⟨S256x2600, tap x (start n)⟩ : (s : Shape) × (s.Idx → Ideal .bf16))).map (·.1)) S2304x2600 0 :=
  concatenates_S256x2600_S256x2600_S256x2600_S256x2600_S256x2600_S256x2600_S256x2600_S256x2600_S256x2600_S2304x2600_d0

theorem catW (w : (⟨S256x256x3x3, .f32⟩ : BufTy).Contents E) :
    Shape.Concatenates ((List.ofFn fun n : Fin 9 => (⟨S256x256, filt w _ (slices n)⟩ : (s : Shape) × (s.Idx → Ideal .f32))).map (·.1)) S2304x256 0 :=
  concatenates_S256x256_S256x256_S256x256_S256x256_S256x256_S256x256_S256x256_S256x256_S256x256_S2304x256_d0

/-- The nine shifted pieces, one under the other. -/
def colsX (x : (⟨S1x256x50x50, .f32⟩ : BufTy).Contents E) : (⟨S2304x2600, .bf16⟩ : BufTy).Contents E :=
  concatenate S2304x2600 0 (List.ofFn fun n : Fin 9 => (⟨S256x2600, tap x (start n)⟩ : (s : Shape) × (s.Idx → Ideal .bf16))) (catX x)

/-- The nine filter slices, one under the other. -/
def rowsW (w : (⟨S256x256x3x3, .f32⟩ : BufTy).Contents E) : (⟨S2304x256, .f32⟩ : BufTy).Contents E :=
  concatenate S2304x256 0 (List.ofFn fun n : Fin 9 => (⟨S256x256, filt w _ (slices n)⟩ : (s : Shape) × (s.Idx → Ideal .f32))) (catW w)

/-- The two heads' filters side by side, and a column of zeros. -/
def headW (p : (⟨S3x256x1x1, .f32⟩ : BufTy).Contents E) (q : (⟨S12x256x1x1, .f32⟩ : BufTy).Contents E) : (⟨S256x16, .f32⟩ : BufTy).Contents E :=
  concatenate S256x16 1
    [⟨S256x3, extf (F := Ideal) .f32 (truncf (F := Ideal) .bf16 (transpose S256x3 [1, 0] (shapeCast S3x256 p shapeCasts_S3x256x1x1_S3x256) transposes_S3x256_S256x3_1_0) bitsLt_bf16_f32) bitsLt_bf16_f32⟩,
     ⟨S256x12, extf (F := Ideal) .f32 (truncf (F := Ideal) .bf16 (transpose S256x12 [1, 0] (shapeCast S12x256 q shapeCasts_S12x256x1x1_S12x256) transposes_S12x256_S256x12_1_0) bitsLt_bf16_f32) bitsLt_bf16_f32⟩,
     ⟨S256x1, broadcastInDim S256x1 ![] bcast_S_S256x1 (constant (F := Ideal) S_ .f32 0x00000000#32)⟩] concatenates_S256x3_S256x12_S256x1_S256x16_d1

/-- The two heads' biases end to end, and a zero, as one row. -/
def headB (p : (⟨S3, .f32⟩ : BufTy).Contents E) (q : (⟨S12, .f32⟩ : BufTy).Contents E) : (⟨S1x16, .f32⟩ : BufTy).Contents E :=
  broadcastInDim S1x16 ![1] bcast_S16_S1x16_1 (concatenate S16 0
    [⟨S3, p⟩, ⟨S12, q⟩, ⟨S1, broadcastInDim S1 ![] bcast_S_S1 (constant (F := Ideal) S_ .f32 0x00000000#32)⟩] concatenates_S3_S12_S1_S16_d0)

/-- The two concatenations of nine. -/
abbrev cat41 : HloOp τ sig E := StableHlo.nary ![main_v5, main_v9, main_v13, main_v17, main_v21, main_v25, main_v29, main_v33, main_v37] main_v41 (fun u => (concatenate S2304x2600 0 [⟨S256x2600, (u 0 : (⟨S256x2600, .bf16⟩ : BufTy).Contents E)⟩, ⟨S256x2600, (u 1 : (⟨S256x2600, .bf16⟩ : BufTy).Contents E)⟩, ⟨S256x2600, (u 2 : (⟨S256x2600, .bf16⟩ : BufTy).Contents E)⟩, ⟨S256x2600, (u 3 : (⟨S256x2600, .bf16⟩ : BufTy).Contents E)⟩, ⟨S256x2600, (u 4 : (⟨S256x2600, .bf16⟩ : BufTy).Contents E)⟩, ⟨S256x2600, (u 5 : (⟨S256x2600, .bf16⟩ : BufTy).Contents E)⟩, ⟨S256x2600, (u 6 : (⟨S256x2600, .bf16⟩ : BufTy).Contents E)⟩, ⟨S256x2600, (u 7 : (⟨S256x2600, .bf16⟩ : BufTy).Contents E)⟩, ⟨S256x2600, (u 8 : (⟨S256x2600, .bf16⟩ : BufTy).Contents E)⟩] concatenates_S256x2600_S256x2600_S256x2600_S256x2600_S256x2600_S256x2600_S256x2600_S256x2600_S256x2600_S2304x2600_d0 : (⟨S2304x2600, .bf16⟩ : BufTy).Contents E))
abbrev cat42 : HloOp τ sig E := StableHlo.nary ![main_v8, main_v12, main_v16, main_v20, main_v24, main_v28, main_v32, main_v36, main_v40] main_v42 (fun u => (concatenate S2304x256 0 [⟨S256x256, (u 0 : (⟨S256x256, .f32⟩ : BufTy).Contents E)⟩, ⟨S256x256, (u 1 : (⟨S256x256, .f32⟩ : BufTy).Contents E)⟩, ⟨S256x256, (u 2 : (⟨S256x256, .f32⟩ : BufTy).Contents E)⟩, ⟨S256x256, (u 3 : (⟨S256x256, .f32⟩ : BufTy).Contents E)⟩, ⟨S256x256, (u 4 : (⟨S256x256, .f32⟩ : BufTy).Contents E)⟩, ⟨S256x256, (u 5 : (⟨S256x256, .f32⟩ : BufTy).Contents E)⟩, ⟨S256x256, (u 6 : (⟨S256x256, .f32⟩ : BufTy).Contents E)⟩, ⟨S256x256, (u 7 : (⟨S256x256, .f32⟩ : BufTy).Contents E)⟩, ⟨S256x256, (u 8 : (⟨S256x256, .f32⟩ : BufTy).Contents E)⟩] concatenates_S256x256_S256x256_S256x256_S256x256_S256x256_S256x256_S256x256_S256x256_S256x256_S2304x256_d0 : (⟨S2304x256, .f32⟩ : BufTy).Contents E))

theorem V0_split (m : (ℓ : Loc nD τ sig) → Buf E ℓ) (c : Dev nD) :
    V0 m c = after headOps (cat42.result (cat41.result (after tapOps fun b => m (c, b)))) := by
  show after (tapOps ++ (cat41 :: cat42 :: headOps)) _ = _
  rw [after_append, after_cons, after_cons]

theorem head_41 (W : Valuation τ sig E) : after headOps W (Proc.devRef .tc main_v41) = W (Proc.devRef .tc main_v41) := by
  simp only [headOps, hostOps0_4, List.drop_succ_cons, List.drop_zero]
  after_results_simp_entrywise <;> rfl
theorem head_42 (W : Valuation τ sig E) : after headOps W (Proc.devRef .tc main_v42) = W (Proc.devRef .tc main_v42) := by
  simp only [headOps, hostOps0_4, List.drop_succ_cons, List.drop_zero]
  after_results_simp_entrywise <;> rfl
theorem head_52 (W : Valuation τ sig E) : after headOps W (Proc.devRef .tc main_v52)
    = headW (W (Proc.devRef .tc main_arg3)) (W (Proc.devRef .tc main_arg5)) := by
  simp only [headOps, hostOps0_4, List.drop_succ_cons, List.drop_zero]
  after_results_simp_entrywise <;> rfl
theorem head_55 (W : Valuation τ sig E) : after headOps W (Proc.devRef .tc main_v55)
    = headB (W (Proc.devRef .tc main_arg4)) (W (Proc.devRef .tc main_arg6)) := by
  simp only [headOps, hostOps0_4, List.drop_succ_cons, List.drop_zero]
  after_results_simp_entrywise <;> rfl
theorem head_56 (W : Valuation τ sig E) : after headOps W (Proc.devRef .tc main_v56)
    = broadcastInDim S1x256 ![1] bcast_S256_S1x256_1 (W (Proc.devRef .tc main_arg2)) := by
  simp only [headOps, hostOps0_4, List.drop_succ_cons, List.drop_zero]
  after_results_simp_entrywise <;> rfl

/-- The operations before the heads leave the arguments. -/
theorem args (W : Valuation τ sig E) (r : Ref sig .tc) (h1 : r ≠ main_v41) (h2 : r ≠ main_v42)
    (h : after tapOps W (Proc.devRef .tc r) = W (Proc.devRef .tc r)) :
    cat42.result (cat41.result (after tapOps W)) (Proc.devRef .tc r) = W (Proc.devRef .tc r) :=
  (nary_result_ne _ _ _ _ _ _ h2).trans ((nary_result_ne _ _ _ _ _ _ h1).trans h)

theorem tap_arg2 (W : Valuation τ sig E) : after tapOps W (Proc.devRef .tc main_arg2) = W (Proc.devRef .tc main_arg2) := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem tap_arg3 (W : Valuation τ sig E) : after tapOps W (Proc.devRef .tc main_arg3) = W (Proc.devRef .tc main_arg3) := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem tap_arg4 (W : Valuation τ sig E) : after tapOps W (Proc.devRef .tc main_arg4) = W (Proc.devRef .tc main_arg4) := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem tap_arg5 (W : Valuation τ sig E) : after tapOps W (Proc.devRef .tc main_arg5) = W (Proc.devRef .tc main_arg5) := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

theorem tap_arg6 (W : Valuation τ sig E) : after tapOps W (Proc.devRef .tc main_arg6) = W (Proc.devRef .tc main_arg6) := by
  simp only [tapOps, hostOps0, hostOps0_1, hostOps0_2, hostOps0_3, hostOps0_4, List.take_succ_cons, List.take_zero, List.flatten_cons, List.flatten_nil, List.append_nil, List.cons_append, List.nil_append, TRef.binary, TRef.unary, TRef.toBuf, TRef.ofBuf, cast_eq]
  after_results_simp_entrywise <;> rfl

variable (m : (ℓ : Loc nD τ sig) → Buf E ℓ) (c : Dev nD)

/-- The region's first array is the nine shifted pieces. -/
theorem V_41 : V m c main_v41 = colsX (m (c, Proc.devRef .tc main_arg0)) := by
  show V0 m c (Proc.devRef .tc main_v41) = _
  rw [V0_split, head_41]
  refine (nary_result_ne _ _ _ _ _ _ (by decide)).trans ((nary_result _ _ _ _ _ _).trans ?_)
  exact concat9 0 _ _ _ _ _ _ _ _ _ _ _ _ (tap_5 _) (tap_9 _) (tap_13 _) (tap_17 _) (tap_21 _) (tap_25 _) (tap_29 _) (tap_33 _) (tap_37 _)

/-- Its second is the nine filter slices. -/
theorem V_42 : V m c main_v42 = rowsW (m (c, Proc.devRef .tc main_arg1)) := by
  show V0 m c (Proc.devRef .tc main_v42) = _
  rw [V0_split, head_42]
  refine (nary_result _ _ _ _ _ _).trans ?_
  exact concat9 0 _ _ _ _ _ _ _ _ _ _ _ _ ((nary_result_ne _ _ _ _ _ _ (by decide)).trans (fil_8 _)) ((nary_result_ne _ _ _ _ _ _ (by decide)).trans (fil_12 _)) ((nary_result_ne _ _ _ _ _ _ (by decide)).trans (fil_16 _)) ((nary_result_ne _ _ _ _ _ _ (by decide)).trans (fil_20 _)) ((nary_result_ne _ _ _ _ _ _ (by decide)).trans (fil_24 _)) ((nary_result_ne _ _ _ _ _ _ (by decide)).trans (fil_28 _)) ((nary_result_ne _ _ _ _ _ _ (by decide)).trans (fil_32 _)) ((nary_result_ne _ _ _ _ _ _ (by decide)).trans (fil_36 _)) ((nary_result_ne _ _ _ _ _ _ (by decide)).trans (fil_40 _))

/-- The bias row, the heads' filters and the heads' biases. -/
theorem V_56 : V m c main_v56 = broadcastInDim S1x256 ![1] bcast_S256_S1x256_1 (m (c, Proc.devRef .tc main_arg2)) := by
  show V0 m c (Proc.devRef .tc main_v56) = _
  rw [V0_split, head_56, args _ main_arg2 (by decide) (by decide) (tap_arg2 _)]
theorem V_52 : V m c main_v52 = headW (m (c, Proc.devRef .tc main_arg3)) (m (c, Proc.devRef .tc main_arg5)) := by
  show V0 m c (Proc.devRef .tc main_v52) = _
  rw [V0_split, head_52, args _ main_arg3 (by decide) (by decide) (tap_arg3 _), args _ main_arg5 (by decide) (by decide) (tap_arg5 _)]
theorem V_55 : V m c main_v55 = headB (m (c, Proc.devRef .tc main_arg4)) (m (c, Proc.devRef .tc main_arg6)) := by
  show V0 m c (Proc.devRef .tc main_v55) = _
  rw [V0_split, head_55, args _ main_arg4 (by decide) (by decide) (tap_arg4 _), args _ main_arg6 (by decide) (by decide) (tap_arg6 _)]

end Cert.KernelIdeal.Host

end
-- ==== Proof.Spec.lean ====
/- The two layers as sums, entry by entry: what both programs are shown to compute. -/
module

public import Idealize.ShloMosaic.PureOps.Ideal
public import Idealize.ShloMosaic.Lib.Pointwise
public import Idealize.ShloMosaic.Lib.ValueIdx

@[expose] public section

noncomputable section

namespace Cert.Spec

open Idealize.ShloMosaic

/-- An image of `256` channels with its border, the filters, and a bias per output channel. -/
abbrev Image := (⟨3, ![256, 52, 52]⟩ : Shape).Idx → EReal
abbrev Filters := (⟨4, ![256, 256, 3, 3]⟩ : Shape).Idx → EReal

/-- Row of the tap `n` of nine, and its column. -/
abbrev ky (n : Fin 9) : Fin 3 := ⟨n.val / 3, by omega⟩
abbrev kx (n : Fin 9) : Fin 3 := ⟨n.val % 3, by omega⟩

/-- One tap of the convolution: the products over the input channels. -/
def tapSum (xp : Image) (w : Filters) (k : Fin 256) (y x : Fin 50) (n : Fin 9) : EReal :=
  ∑ ci : Fin 256, w (ix4 k ci (ky n) (kx n)) * xp (ix3 ci ⟨y.val + n.val / 3, by omega⟩ ⟨x.val + n.val % 3, by omega⟩)

/-- The first layer at channel `k`, pixel `(y, x)`: the nine taps, the bias, and the positive part. -/
def feat (xp : Image) (w : Filters) (b : Fin 256 → EReal) (k : Fin 256) (y x : Fin 50) : EReal :=
  max ((∑ n : Fin 9, tapSum xp w k y x n) + b k) 0

/-- One output of a head at a pixel: the products over the channels, and the bias. -/
def head (v : Fin 256 → EReal) (d : EReal) (f : Fin 256 → EReal) : EReal := (∑ k : Fin 256, v k * f k) + d

end Cert.Spec

end
-- ==== Proof.Entries.lean ====
/- The region's input arrays, entry by entry. -/
module

public import proofs.«01_k».proof.Proof.Arrays
public import proofs.«01_k».proof.Proof.Spec
public import Idealize.ShloMosaic.Lib.KernelVsHost

@[expose] public section

set_option maxRecDepth 16384

noncomputable section

namespace Cert.KernelIdeal.Host

open Idealize.ShloMosaic Cert.Spec Cert.KernelIdeal.Gen

/-- The laid-out image at an element of a row. -/
theorem flat_apply (x : (⟨S1x256x50x50, .f32⟩ : BufTy).Contents E) (ci : Fin 256) (r q : Fin 52) (h : r.val * 52 + q.val < 2706) :
    flat x (ix2 ci ⟨r.val * 52 + q.val, h⟩) = padded x (ix3 ci r q) := by
  show pad S256x2706 ![0, 0] ![0, 2] ![0, 0] (shapeCast _ (padded x) shapeCasts_S256x52x52_S256x2704)
    (sitofp (F := Ideal) .f32 (constantI S_ 32 0#32)) pads_S256x2704_S256x2706_000_020 h_S_ (ix2 ci ⟨r.val * 52 + q.val, h⟩) = _
  rw [pad_apply_of_inside _ _ _ _ _ _ _ _ (ix2 ci (⟨r.val * 52 + q.val, by omega⟩ : Fin 2704)) (fun a => match a with
    | ⟨0, _⟩ => by show ci.val = 0 + ci.val * (0 + 1); omega
    | ⟨1, _⟩ => by show r.val * 52 + q.val = 0 + (r.val * 52 + q.val) * (0 + 1); omega)]
  exact shapeCast_apply _ _ _ (ix3 ci r q) (by
    rewrite [Shape.rowMajor_val_three, Shape.rowMajor_val_two]
    show (ci.val * 52 + r.val) * 52 + q.val = ci.val * 2704 + (r.val * 52 + q.val); omega)

/-- A shifted piece at a pixel of the image: the bordered image, shifted. -/
theorem tap_apply (x : (⟨S1x256x50x50, .f32⟩ : BufTy).Contents E) (n : Fin 9) (ci : Fin 256) (y q : Fin 50) :
    tap x (start n) (ix2 ci (⟨y.val * 52 + q.val, by omega⟩ : Fin 2600))
      = padded x (ix3 ci ⟨y.val + n.val / 3, by omega⟩ ⟨q.val + n.val % 3, by omega⟩) := by
  rw [← flat_apply x ci _ _ (by show (y.val + n.val / 3) * 52 + (q.val + n.val % 3) < 2706; omega)]
  unfold tap
  rw [Host.dynamicSlice_apply]
  refine congrArg (flat x) (funext fun a => Fin.ext ?_)
  match a with
  | ⟨0, _⟩ =>
    show Host.clampedStart _ _ _ _ 0 + ci.val = ci.val
    rw [Host.clampedStart_of_le _ _ _ 0 rfl (by decide)]; omega
  | ⟨1, _⟩ =>
    show Host.clampedStart _ _ _ _ 1 + (y.val * 52 + q.val) = (y.val + n.val / 3) * 52 + (q.val + n.val % 3)
    rw [Host.clampedStart_of_le _ _ _ (n.val / 3 * 52 + n.val % 3) (by revert n; decide) (by
      show n.val / 3 * 52 + n.val % 3 + 2600 ≤ 2706; omega)]
    omega

/-- The nine pieces at row `n * 256 + ci`. -/
theorem colsX_apply (x : (⟨S1x256x50x50, .f32⟩ : BufTy).Contents E) (n : Fin 9) (ci : Fin 256) (y q : Fin 50) :
    colsX x (ix2 (⟨n.val * 256 + ci.val, by omega⟩ : Fin 2304) (⟨y.val * 52 + q.val, by omega⟩ : Fin 2600))
      = padded x (ix3 ci ⟨y.val + n.val / 3, by omega⟩ ⟨q.val + n.val % 3, by omega⟩) := by
  rw [← tap_apply]
  exact concatenate_ofFn_apply 0 (fun n : Fin 9 => tap x (start n)) (catX x) rfl 256 rfl _ n
    (by show (n.val * 256 + ci.val) / 256 = n.val; omega) _
    (by show ci.val = (n.val * 256 + ci.val) % 256; omega)
    (fun b hb => match b with
      | ⟨0, _⟩ => absurd rfl hb
      | ⟨1, _⟩ => rfl)

/-- A filter slice at an entry. -/
theorem filt_apply (w : (⟨S256x256x3x3, .f32⟩ : BufTy).Contents E) (n : Fin 9) (ci k : Fin 256) :
    filt w _ (slices n) (ix2 ci k) = w (ix4 k ci (ky n) (kx n)) := by
  unfold filt
  rw [transpose_apply [1, 0] _ _ (ix2 ci k) (ix2 k ci) (fun b => match b with | ⟨0, _⟩ => rfl | ⟨1, _⟩ => rfl),
    shapeCast_apply _ _ (ix2 k ci) (ix4 k ci (0 : Fin 1) (0 : Fin 1)) (by
      rewrite [Shape.rowMajor_val_four, Shape.rowMajor_val_two]
      show ((k.val * 256 + ci.val) * 1 + 0) * 1 + 0 = k.val * 256 + ci.val; omega)]
  exact extractStridedSlice_apply _ w (slices n) _ (ix4 k ci (ky n) (kx n)) (fun a => match a with
    | ⟨0, _⟩ => by show k.val = 0 + k.val; omega
    | ⟨1, _⟩ => by show ci.val = 0 + ci.val; omega
    | ⟨2, _⟩ => rfl
    | ⟨3, _⟩ => rfl)

/-- The nine slices at row `n * 256 + ci`. -/
theorem rowsW_apply (w : (⟨S256x256x3x3, .f32⟩ : BufTy).Contents E) (n : Fin 9) (ci k : Fin 256) :
    rowsW w (ix2 (⟨n.val * 256 + ci.val, by omega⟩ : Fin 2304) k) = w (ix4 k ci (ky n) (kx n)) := by
  rw [← filt_apply w n ci k]
  exact concatenate_ofFn_apply 0 (fun n : Fin 9 => filt w _ (slices n)) (catW w) rfl 256 rfl _ n
    (by show (n.val * 256 + ci.val) / 256 = n.val; omega) _
    (by show ci.val = (n.val * 256 + ci.val) % 256; omega)
    (fun b hb => match b with
      | ⟨0, _⟩ => absurd rfl hb
      | ⟨1, _⟩ => rfl)

/-- The heads' filters at the objectness columns. -/
theorem headW_obj (p : (⟨S3x256x1x1, .f32⟩ : BufTy).Contents E) (q : (⟨S12x256x1x1, .f32⟩ : BufTy).Contents E) (k : Fin 256) (o : Fin 3) :
    headW p q (ix2 k (⟨o.val, by omega⟩ : Fin 16)) = p (ix4 o k 0 0) := by
  unfold headW
  pointwise

/-- The heads' filters at the box columns. -/
theorem headW_box (p : (⟨S3x256x1x1, .f32⟩ : BufTy).Contents E) (q : (⟨S12x256x1x1, .f32⟩ : BufTy).Contents E) (k : Fin 256) (o : Fin 12) :
    headW p q (ix2 k (⟨3 + o.val, by omega⟩ : Fin 16)) = q (ix4 o k 0 0) := by
  unfold headW
  pointwise

/-- The heads' biases. -/
theorem headB_obj (p : (⟨S3, .f32⟩ : BufTy).Contents E) (q : (⟨S12, .f32⟩ : BufTy).Contents E) (o : Fin 3) :
    headB p q (ix2 0 (⟨o.val, by omega⟩ : Fin 16)) = p (ix1 o) := by
  unfold headB
  pointwise
theorem headB_box (p : (⟨S3, .f32⟩ : BufTy).Contents E) (q : (⟨S12, .f32⟩ : BufTy).Contents E) (o : Fin 12) :
    headB p q (ix2 0 (⟨3 + o.val, by omega⟩ : Fin 16)) = q (ix1 o) := by
  unfold headB
  pointwise

end Cert.KernelIdeal.Host

end
-- ==== Proof.RefSide.lean ====
/- What the reference computes, entry by entry. -/
module

public import proofs.«01_k».proof.Proof.Gen.ReferenceIdeal.Read
public import proofs.«01_k».proof.Proof.Spec

@[expose] public section

set_option maxRecDepth 16384

noncomputable section

namespace Cert.ReferenceIdeal.Side

open Idealize.ShloMosaic Cert.Spec Cert.ReferenceIdeal.Read

abbrev E := Elt Ideal

variable (x0 : (⟨S1x256x50x50, .f32⟩ : BufTy).Contents E) (x1 : (⟨S256x256x3x3, .f32⟩ : BufTy).Contents E)
  (x2 : (⟨S256, .f32⟩ : BufTy).Contents E)

/-- Tap 0 of the reference's convolution. -/
theorem tap_0 (k : Fin 256) (y x : Fin 50) :
    val_main_v6 (F := Ideal) x0 x1 (ix3 k y x) = tapSum (val_main_v1 (F := Ideal) x0) x1 k y x 0 := by
  rw [val_main_v6_apply]
  refine Finset.sum_congr rfl fun ci _ => ?_
  rw [val_main_v4_apply, val_main_v3_apply, val_main_v5_apply]
  refine congrArg₂ (· * ·) (congrArg x1 (funext fun a => Fin.ext ?_)) (congrArg (val_main_v1 (F := Ideal) x0) (funext fun a => Fin.ext ?_))
  · match a with
    | ⟨0, _⟩ => show (k.val * 256 + ci.val) / 256 = k.val; omega
    | ⟨1, _⟩ => show (k.val * 256 + ci.val) / 1 % 256 = ci.val; omega
    | ⟨2, _⟩ => rfl
    | ⟨3, _⟩ => show 0 + 0 = 0 % 3; rfl
  · match a with
    | ⟨0, _⟩ => rfl
    | ⟨1, _⟩ => exact rfl
    | ⟨2, _⟩ => exact rfl

/-- Tap 1 of the reference's convolution. -/
theorem tap_1 (k : Fin 256) (y x : Fin 50) :
    val_main_v11 (F := Ideal) x0 x1 (ix3 k y x) = tapSum (val_main_v1 (F := Ideal) x0) x1 k y x 1 := by
  rw [val_main_v11_apply]
  refine Finset.sum_congr rfl fun ci _ => ?_
  rw [val_main_v9_apply, val_main_v8_apply, val_main_v10_apply]
  refine congrArg₂ (· * ·) (congrArg x1 (funext fun a => Fin.ext ?_)) (congrArg (val_main_v1 (F := Ideal) x0) (funext fun a => Fin.ext ?_))
  · match a with
    | ⟨0, _⟩ => show (k.val * 256 + ci.val) / 256 = k.val; omega
    | ⟨1, _⟩ => show (k.val * 256 + ci.val) / 1 % 256 = ci.val; omega
    | ⟨2, _⟩ => rfl
    | ⟨3, _⟩ => show 1 + 0 = 1 % 3; rfl
  · match a with
    | ⟨0, _⟩ => rfl
    | ⟨1, _⟩ => exact rfl
    | ⟨2, _⟩ => exact Nat.add_comm _ _

/-- Tap 2 of the reference's convolution. -/
theorem tap_2 (k : Fin 256) (y x : Fin 50) :
    val_main_v16 (F := Ideal) x0 x1 (ix3 k y x) = tapSum (val_main_v1 (F := Ideal) x0) x1 k y x 2 := by
  rw [val_main_v16_apply]
  refine Finset.sum_congr rfl fun ci _ => ?_
  rw [val_main_v14_apply, val_main_v13_apply, val_main_v15_apply]
  refine congrArg₂ (· * ·) (congrArg x1 (funext fun a => Fin.ext ?_)) (congrArg (val_main_v1 (F := Ideal) x0) (funext fun a => Fin.ext ?_))
  · match a with
    | ⟨0, _⟩ => show (k.val * 256 + ci.val) / 256 = k.val; omega
    | ⟨1, _⟩ => show (k.val * 256 + ci.val) / 1 % 256 = ci.val; omega
    | ⟨2, _⟩ => rfl
    | ⟨3, _⟩ => show 2 + 0 = 2 % 3; rfl
  · match a with
    | ⟨0, _⟩ => rfl
    | ⟨1, _⟩ => exact rfl
    | ⟨2, _⟩ => exact Nat.add_comm _ _

/-- Tap 3 of the reference's convolution. -/
theorem tap_3 (k : Fin 256) (y x : Fin 50) :
    val_main_v21 (F := Ideal) x0 x1 (ix3 k y x) = tapSum (val_main_v1 (F := Ideal) x0) x1 k y x 3 := by
  rw [val_main_v21_apply]
  refine Finset.sum_congr rfl fun ci _ => ?_
  rw [val_main_v19_apply, val_main_v18_apply, val_main_v20_apply]
  refine congrArg₂ (· * ·) (congrArg x1 (funext fun a => Fin.ext ?_)) (congrArg (val_main_v1 (F := Ideal) x0) (funext fun a => Fin.ext ?_))
  · match a with
    | ⟨0, _⟩ => show (k.val * 256 + ci.val) / 256 = k.val; omega
    | ⟨1, _⟩ => show (k.val * 256 + ci.val) / 1 % 256 = ci.val; omega
    | ⟨2, _⟩ => rfl
    | ⟨3, _⟩ => show 0 + 0 = 3 % 3; rfl
  · match a with
    | ⟨0, _⟩ => rfl
    | ⟨1, _⟩ => exact Nat.add_comm _ _
    | ⟨2, _⟩ => exact rfl

/-- Tap 4 of the reference's convolution. -/
theorem tap_4 (k : Fin 256) (y x : Fin 50) :
    val_main_v26 (F := Ideal) x0 x1 (ix3 k y x) = tapSum (val_main_v1 (F := Ideal) x0) x1 k y x 4 := by
  rw [val_main_v26_apply]
  refine Finset.sum_congr rfl fun ci _ => ?_
  rw [val_main_v24_apply, val_main_v23_apply, val_main_v25_apply]
  refine congrArg₂ (· * ·) (congrArg x1 (funext fun a => Fin.ext ?_)) (congrArg (val_main_v1 (F := Ideal) x0) (funext fun a => Fin.ext ?_))
  · match a with
    | ⟨0, _⟩ => show (k.val * 256 + ci.val) / 256 = k.val; omega
    | ⟨1, _⟩ => show (k.val * 256 + ci.val) / 1 % 256 = ci.val; omega
    | ⟨2, _⟩ => rfl
    | ⟨3, _⟩ => show 1 + 0 = 4 % 3; rfl
  · match a with
    | ⟨0, _⟩ => rfl
    | ⟨1, _⟩ => exact Nat.add_comm _ _
    | ⟨2, _⟩ => exact Nat.add_comm _ _

/-- Tap 5 of the reference's convolution. -/
theorem tap_5 (k : Fin 256) (y x : Fin 50) :
    val_main_v31 (F := Ideal) x0 x1 (ix3 k y x) = tapSum (val_main_v1 (F := Ideal) x0) x1 k y x 5 := by
  rw [val_main_v31_apply]
  refine Finset.sum_congr rfl fun ci _ => ?_
  rw [val_main_v29_apply, val_main_v28_apply, val_main_v30_apply]
  refine congrArg₂ (· * ·) (congrArg x1 (funext fun a => Fin.ext ?_)) (congrArg (val_main_v1 (F := Ideal) x0) (funext fun a => Fin.ext ?_))
  · match a with
    | ⟨0, _⟩ => show (k.val * 256 + ci.val) / 256 = k.val; omega
    | ⟨1, _⟩ => show (k.val * 256 + ci.val) / 1 % 256 = ci.val; omega
    | ⟨2, _⟩ => rfl
    | ⟨3, _⟩ => show 2 + 0 = 5 % 3; rfl
  · match a with
    | ⟨0, _⟩ => rfl
    | ⟨1, _⟩ => exact Nat.add_comm _ _
    | ⟨2, _⟩ => exact Nat.add_comm _ _

/-- Tap 6 of the reference's convolution. -/
theorem tap_6 (k : Fin 256) (y x : Fin 50) :
    val_main_v36 (F := Ideal) x0 x1 (ix3 k y x) = tapSum (val_main_v1 (F := Ideal) x0) x1 k y x 6 := by
  rw [val_main_v36_apply]
  refine Finset.sum_congr rfl fun ci _ => ?_
  rw [val_main_v34_apply, val_main_v33_apply, val_main_v35_apply]
  refine congrArg₂ (· * ·) (congrArg x1 (funext fun a => Fin.ext ?_)) (congrArg (val_main_v1 (F := Ideal) x0) (funext fun a => Fin.ext ?_))
  · match a with
    | ⟨0, _⟩ => show (k.val * 256 + ci.val) / 256 = k.val; omega
    | ⟨1, _⟩ => show (k.val * 256 + ci.val) / 1 % 256 = ci.val; omega
    | ⟨2, _⟩ => rfl
    | ⟨3, _⟩ => show 0 + 0 = 6 % 3; rfl
  · match a with
    | ⟨0, _⟩ => rfl
    | ⟨1, _⟩ => exact Nat.add_comm _ _
    | ⟨2, _⟩ => exact rfl

/-- Tap 7 of the reference's convolution. -/
theorem tap_7 (k : Fin 256) (y x : Fin 50) :
    val_main_v41 (F := Ideal) x0 x1 (ix3 k y x) = tapSum (val_main_v1 (F := Ideal) x0) x1 k y x 7 := by
  rw [val_main_v41_apply]
  refine Finset.sum_congr rfl fun ci _ => ?_
  rw [val_main_v39_apply, val_main_v38_apply, val_main_v40_apply]
  refine congrArg₂ (· * ·) (congrArg x1 (funext fun a => Fin.ext ?_)) (congrArg (val_main_v1 (F := Ideal) x0) (funext fun a => Fin.ext ?_))
  · match a with
    | ⟨0, _⟩ => show (k.val * 256 + ci.val) / 256 = k.val; omega
    | ⟨1, _⟩ => show (k.val * 256 + ci.val) / 1 % 256 = ci.val; omega
    | ⟨2, _⟩ => rfl
    | ⟨3, _⟩ => show 1 + 0 = 7 % 3; rfl
  · match a with
    | ⟨0, _⟩ => rfl
    | ⟨1, _⟩ => exact Nat.add_comm _ _
    | ⟨2, _⟩ => exact Nat.add_comm _ _

/-- Tap 8 of the reference's convolution. -/
theorem tap_8 (k : Fin 256) (y x : Fin 50) :
    val_main_v46 (F := Ideal) x0 x1 (ix3 k y x) = tapSum (val_main_v1 (F := Ideal) x0) x1 k y x 8 := by
  rw [val_main_v46_apply]
  refine Finset.sum_congr rfl fun ci _ => ?_
  rw [val_main_v44_apply, val_main_v43_apply, val_main_v45_apply]
  refine congrArg₂ (· * ·) (congrArg x1 (funext fun a => Fin.ext ?_)) (congrArg (val_main_v1 (F := Ideal) x0) (funext fun a => Fin.ext ?_))
  · match a with
    | ⟨0, _⟩ => show (k.val * 256 + ci.val) / 256 = k.val; omega
    | ⟨1, _⟩ => show (k.val * 256 + ci.val) / 1 % 256 = ci.val; omega
    | ⟨2, _⟩ => rfl
    | ⟨3, _⟩ => show 2 + 0 = 8 % 3; rfl
  · match a with
    | ⟨0, _⟩ => rfl
    | ⟨1, _⟩ => exact Nat.add_comm _ _
    | ⟨2, _⟩ => exact Nat.add_comm _ _

/-- The reference's first layer. -/
theorem feat_eq (k : Fin 256) (y x : Fin 50) :
    val_main_v52 (F := Ideal) x0 x1 x2 (ix3 k y x) = feat (val_main_v1 (F := Ideal) x0) x1 (fun k => x2 (ix1 k)) k y x := by
  have e0 : val_main_v2 (F := Ideal) (ix3 k y x) = (0 : EReal) := by
    rw [val_main_v2_apply, val_main_cst_apply]; exact Ideal.ofBits_zero _
  have e1 : val_main_v51 (F := Ideal) (ix3 k y x) = (0 : EReal) := by
    rw [val_main_v51_apply, val_main_cst_0_apply]; exact Ideal.ofBits_zero _
  have e2 : val_main_v49 (F := Ideal) x2 (ix3 k y x) = x2 (ix1 k) := by
    rw [val_main_v49_apply, val_main_v48_apply]
    exact congrArg x2 (funext fun a => match a with | ⟨0, _⟩ => rfl)
  rw [val_main_v52_apply, val_main_v50_apply, e1, e2, val_main_v47_apply, val_main_v42_apply, val_main_v37_apply, val_main_v32_apply,
    val_main_v27_apply, val_main_v22_apply, val_main_v17_apply, val_main_v12_apply, val_main_v7_apply, e0,
    tap_0, tap_1, tap_2, tap_3, tap_4, tap_5, tap_6, tap_7, tap_8]
  show max (((((((((((0 : EReal) + _) + _) + _) + _) + _) + _) + _) + _) + _) + _) 0 = _
  rw [feat, Fin.sum_univ_castSucc, Fin.sum_univ_eight, zero_add]
  rfl

/-- The reference's objectness: pixel `i / 3`, anchor `i % 3`. -/
theorem obj_eq (x3 : (⟨S3x256x1x1, .f32⟩ : BufTy).Contents E) (x4 : (⟨S3, .f32⟩ : BufTy).Contents E) (i : Fin 7500) :
    val_main_v64 (F := Ideal) x0 x1 x2 x3 x4 (ix1 i)
      = head (fun k => x3 (ix4 ⟨i.val % 3, by omega⟩ k 0 0)) (x4 (ix1 ⟨i.val % 3, by omega⟩))
          fun k => feat (val_main_v1 (F := Ideal) x0) x1 (fun k => x2 (ix1 k)) k ⟨i.val / 150, by omega⟩ ⟨i.val / 3 % 50, by omega⟩ := by
  have e : idx_main_v63 (idx_main_v64 (ix1 i)) = ix3 (⟨i.val % 3, by omega⟩ : Fin 3) (⟨i.val / 150, by omega⟩ : Fin 50) (⟨i.val / 3 % 50, by omega⟩ : Fin 50) :=
    funext fun a => match a with | ⟨0, _⟩ => rfl | ⟨1, _⟩ => rfl | ⟨2, _⟩ => rfl
  rw [val_main_v64_apply, val_main_v63_apply, e]
  generalize (⟨i.val % 3, by omega⟩ : Fin 3) = o
  generalize (⟨i.val / 150, by omega⟩ : Fin 50) = y
  generalize (⟨i.val / 3 % 50, by omega⟩ : Fin 50) = x
  rw [val_main_v57_apply, val_main_v54_apply, val_main_v56_apply, val_main_v55_apply]
  refine congrArg₂ (fun a b : EReal => a + b) (Finset.sum_congr rfl fun k _ => ?_) (congrArg x4 (funext fun a => match a with | ⟨0, _⟩ => rfl))
  refine congrArg₂ (fun a b : EReal => a * b) ?_ ?_
  · rw [val_main_v53_apply]
    refine congrArg x3 (funext fun a => Fin.ext ?_)
    match a with
    | ⟨0, _⟩ => show (o.val * 256 + k.val) / 256 = o.val; omega
    | ⟨1, _⟩ => show (o.val * 256 + k.val) / 1 % 256 = k.val; omega
    | ⟨2, _⟩ => rfl
    | ⟨3, _⟩ => rfl
  · refine Eq.trans ?_ (feat_eq x0 x1 x2 k y x)
    exact congrArg (val_main_v52 (F := Ideal) x0 x1 x2) (funext fun a => match a with | ⟨0, _⟩ => rfl | ⟨1, _⟩ => rfl | ⟨2, _⟩ => rfl)

/-- The reference's box deltas: pixel `i / 3`, channel `i % 3 * 4 + j`. -/
theorem box_eq (x5 : (⟨S12x256x1x1, .f32⟩ : BufTy).Contents E) (x6 : (⟨S12, .f32⟩ : BufTy).Contents E) (i : Fin 7500) (j : Fin 4) :
    val_main_v67 (F := Ideal) x0 x1 x2 x5 x6 (ix2 i j)
      = head (fun k => x5 (ix4 ⟨i.val % 3 * 4 + j.val, by omega⟩ k 0 0)) (x6 (ix1 ⟨i.val % 3 * 4 + j.val, by omega⟩))
          fun k => feat (val_main_v1 (F := Ideal) x0) x1 (fun k => x2 (ix1 k)) k ⟨i.val / 150, by omega⟩ ⟨i.val / 3 % 50, by omega⟩ := by
  have e : idx_main_v65 (idx_main_v66 (idx_main_v67 (ix2 i j))) = ix3 (⟨i.val % 3 * 4 + j.val, by omega⟩ : Fin 12) (⟨i.val / 150, by omega⟩ : Fin 50) (⟨i.val / 3 % 50, by omega⟩ : Fin 50) := by
    have d4 : (i.val * 4 + j.val) / 4 = i.val := by omega
    have m4 : (i.val * 4 + j.val) % 4 = j.val := by omega
    have d12 : (i.val * 4 + j.val) / 12 = i.val / 3 := by omega
    have d600 : (i.val * 4 + j.val) / 600 = i.val / 150 := by omega
    refine funext fun a => Fin.ext ?_
    match a with
    | ⟨0, _⟩ =>
      show ((((i.val * 4 + j.val) / 4 % 3 * 4 + (i.val * 4 + j.val) % 4) * 50 + (i.val * 4 + j.val) / 600) * 50 + (i.val * 4 + j.val) / 12 % 50) / 2500 = i.val % 3 * 4 + j.val
      rw [d4, m4, d12, d600]; omega
    | ⟨1, _⟩ =>
      show ((((i.val * 4 + j.val) / 4 % 3 * 4 + (i.val * 4 + j.val) % 4) * 50 + (i.val * 4 + j.val) / 600) * 50 + (i.val * 4 + j.val) / 12 % 50) / 50 % 50 = i.val / 150
      rw [d4, m4, d12, d600]
      have hy : i.val / 150 < 50 := by omega
      have hx : i.val / 3 % 50 < 50 := by omega
      generalize i.val / 150 = y at hy ⊢
      generalize i.val / 3 % 50 = x at hx ⊢
      omega
    | ⟨2, _⟩ =>
      show ((((i.val * 4 + j.val) / 4 % 3 * 4 + (i.val * 4 + j.val) % 4) * 50 + (i.val * 4 + j.val) / 600) * 50 + (i.val * 4 + j.val) / 12 % 50) % 50 = i.val / 3 % 50
      rw [d4, m4, d12, d600]; omega
  rw [val_main_v67_apply, val_main_v66_apply, val_main_v65_apply, e]
  generalize (⟨i.val % 3 * 4 + j.val, by omega⟩ : Fin 12) = o
  generalize (⟨i.val / 150, by omega⟩ : Fin 50) = y
  generalize (⟨i.val / 3 % 50, by omega⟩ : Fin 50) = x
  rw [val_main_v62_apply, val_main_v59_apply, val_main_v61_apply, val_main_v60_apply]
  refine congrArg₂ (fun a b : EReal => a + b) (Finset.sum_congr rfl fun k _ => ?_) (congrArg x6 (funext fun a => match a with | ⟨0, _⟩ => rfl))
  refine congrArg₂ (fun a b : EReal => a * b) ?_ ?_
  · rw [val_main_v58_apply]
    refine congrArg x5 (funext fun a => Fin.ext ?_)
    match a with
    | ⟨0, _⟩ => show (o.val * 256 + k.val) / 256 = o.val; omega
    | ⟨1, _⟩ => show (o.val * 256 + k.val) / 1 % 256 = k.val; omega
    | ⟨2, _⟩ => rfl
    | ⟨3, _⟩ => rfl
  · refine Eq.trans ?_ (feat_eq x0 x1 x2 k y x)
    exact congrArg (val_main_v52 (F := Ideal) x0 x1 x2) (funext fun a => match a with | ⟨0, _⟩ => rfl | ⟨1, _⟩ => rfl | ⟨2, _⟩ => rfl)

end Cert.ReferenceIdeal.Side

end
-- ==== Proof.Equation.lean ====
/- The kernel's results are the reference's: the region's array entry by entry, and the two reshaped results. -/
module

public import proofs.«01_k».proof.Proof.Block
public import proofs.«01_k».proof.Proof.Entries
public import proofs.«01_k».proof.Proof.RefSide
public import proofs.«01_k».proof.Proof.Gen.KernelIdeal.Read

@[expose] public section

set_option maxRecDepth 16384

noncomputable section

namespace Cert.Equation

open Idealize.ShloMosaic Idealize.ShloMosaic.TcCoe Cert.Spec Cert.KernelIdeal Cert.KernelIdeal.Gen Cert.KernelIdeal.Host

/-- A sum over `2304` rows, taken as nine groups of `256`. -/
theorem sum_rows (f : Fin 2304 → EReal) :
    ∑ r : Fin 2304, f r = ∑ n : Fin 9, ∑ ci : Fin 256, f ⟨n.val * 256 + ci.val, by omega⟩ := by
  rw [← Fintype.sum_prod_type' (f := fun (n : Fin 9) (ci : Fin 256) => f ⟨n.val * 256 + ci.val, by omega⟩)]
  refine (Equiv.sum_comp (finProdFinEquiv (m := 9) (n := 256)) f).symm.trans (Finset.sum_congr rfl fun p _ => ?_)
  refine congrArg f (Fin.ext ?_)
  show p.2.val + 256 * p.1.val = p.1.val * 256 + p.2.val
  omega

variable (x0 : (⟨S1x256x50x50, .f32⟩ : BufTy).Contents E) (x1 : (⟨S256x256x3x3, .f32⟩ : BufTy).Contents E)
  (x2 : (⟨S256, .f32⟩ : BufTy).Contents E)

/-- The body's value at a pixel of the image, at a column of the heads' matrix. -/
theorem pay_eq (v : (⟨S256x16, .f32⟩ : BufTy).Contents E) (d : (⟨S1x16, .f32⟩ : BufTy).Contents E) (y q : Fin 50) (o : Fin 16) :
    k0_pay1 (F := Ideal) (colsX x0) (rowsW x1) (broadcastInDim S1x256 ![1] bcast_S256_S1x256_1 x2) v d
        (ix2 (⟨y.val * 52 + q.val, by omega⟩ : Fin 2600) o)
      = head (fun k => v (ix2 k o)) (d (ix2 0 o)) fun k => feat (padded x0) x1 (fun k => x2 (ix1 k)) k y q := by
  rw [Block.pay_apply]
  refine congrArg₂ (fun a b : EReal => a + b) (Finset.sum_congr rfl fun k _ => ?_) rfl
  rw [mul_comm]
  refine congrArg₂ (fun a b : EReal => a * b) rfl ?_
  refine congrArg₂ (fun a b : EReal => max a b) (congrArg₂ (fun a b : EReal => a + b) ?_ ?_) rfl
  · rw [sum_rows]
    refine Finset.sum_congr rfl fun n _ => Finset.sum_congr rfl fun ci _ => ?_
    rw [colsX_apply, rowsW_apply, mul_comm]
  · exact broadcastInDim_apply _ _ x2 _ (ix1 k) (fun a => match a with | ⟨0, _⟩ => rfl)

variable (m : (ℓ : Loc nD τ sig) → Buf E ℓ) (c : Dev nD)

/-- The region's result at a pixel of the image. -/
theorem reg_apply (y q : Fin 50) (o : Fin 16) :
    Value.reg_main_v57 m c (ix2 (⟨y.val * 52 + q.val, by omega⟩ : Fin 2600) o)
      = head (fun k => headW (m (c, Proc.devRef .tc main_arg3)) (m (c, Proc.devRef .tc main_arg5)) (ix2 k o))
          (headB (m (c, Proc.devRef .tc main_arg4)) (m (c, Proc.devRef .tc main_arg6)) (ix2 0 o))
          fun k => feat (padded (m (c, Proc.devRef .tc main_arg0))) (m (c, Proc.devRef .tc main_arg1))
            (fun k => (m (c, Proc.devRef .tc main_arg2) : (⟨S256, .f32⟩ : BufTy).Contents E) (ix1 k)) k y q := by
  rw [Block.reg_eq, V_41, V_42, V_52, V_55, V_56, pay_eq]

/-- The image with its border is one term in both programs. -/
theorem padded_eq : padded x0 = Cert.ReferenceIdeal.Read.val_main_v1 (F := Ideal) x0 := rfl

/-- Row `a`, column `b` of the trimmed result is row `a / 50 * 52 + a % 50` of the region's. -/
theorem trim (a : Fin 2500) (b : Fin 16) :
    Read.idx_main_v58 (Read.idx_main_v59 (Read.idx_main_v60 (ix2 a b))) = ix2 (⟨a.val / 50 * 52 + a.val % 50, by omega⟩ : Fin 2600) b := by
  have h0 : (a.val * 16 + b.val) / 800 = a.val / 50 := by omega
  have h1 : (a.val * 16 + b.val) / 16 = a.val := by omega
  have h2 : (a.val * 16 + b.val) % 16 = b.val := by omega
  refine funext fun k => Fin.ext ?_
  match k with
  | ⟨0, _⟩ =>
    show (((a.val * 16 + b.val) / 800 * 52 + (a.val * 16 + b.val) / 16 % 50) * 16 + (a.val * 16 + b.val) % 16) / 16 = a.val / 50 * 52 + a.val % 50
    rw [h0, h1, h2]; omega
  | ⟨1, _⟩ =>
    show (((a.val * 16 + b.val) / 800 * 52 + (a.val * 16 + b.val) / 16 % 50) * 16 + (a.val * 16 + b.val) % 16) % 16 = b.val
    rw [h0, h1, h2]; omega

/-- The kernel's objectness is the reference's. -/
theorem obj (i : S7500.Idx) :
    Read.val_main_v62 (F := Ideal) (Value.reg_main_v57 m c) i
      = Cert.ReferenceIdeal.Read.val_main_v64 (F := Ideal) (m (c, Proc.devRef .tc main_arg0)) (m (c, Proc.devRef .tc main_arg1))
          (m (c, Proc.devRef .tc main_arg2)) (m (c, Proc.devRef .tc main_arg3)) (m (c, Proc.devRef .tc main_arg4)) i := by
  obtain ⟨i, rfl⟩ : ∃ k : Fin 7500, i = ix1 k := ⟨i 0, funext fun a => match a with | ⟨0, _⟩ => rfl⟩
  have e : Read.idx_main_v58 (Read.idx_main_v59 (Read.idx_main_v60 (Read.idx_main_v61 (Read.idx_main_v62 (ix1 i)))))
      = ix2 (⟨(i.val / 150) * 52 + i.val / 3 % 50, by omega⟩ : Fin 2600) (⟨i.val % 3, by omega⟩ : Fin 16) := by
    refine Eq.trans (congrArg (fun j => Read.idx_main_v58 (Read.idx_main_v59 (Read.idx_main_v60 j))) (?_ : _ = ix2 (⟨i.val / 3, by omega⟩ : Fin 2500) (⟨i.val % 3, by omega⟩ : Fin 16))) ((trim _ _).trans ?_)
    · refine funext fun a => Fin.ext ?_
      match a with
      | ⟨0, _⟩ => show i.val / 3 = i.val / 3; rfl
      | ⟨1, _⟩ => rfl
    · refine congrArg (fun r => ix2 r _) (Fin.ext ?_)
      show i.val / 3 / 50 * 52 + i.val / 3 % 50 = i.val / 150 * 52 + i.val / 3 % 50
      omega
  rw [Read.val_main_v62_apply, Read.val_main_v61_apply, Read.val_main_v60_apply, Read.val_main_v59_apply, Read.val_main_v58_apply, e,
    Cert.ReferenceIdeal.Side.obj_eq]
  refine (reg_apply m c ⟨i.val / 150, by omega⟩ ⟨i.val / 3 % 50, by omega⟩ ⟨i.val % 3, by omega⟩).trans ?_
  rw [headB_obj _ _ (⟨i.val % 3, by omega⟩ : Fin 3), padded_eq]
  simp only [headW_obj _ _ _ (⟨i.val % 3, by omega⟩ : Fin 3)]

/-- The kernel's box deltas are the reference's. -/
theorem box (i : S7500x4.Idx) :
    Read.val_main_v64 (F := Ideal) (Value.reg_main_v57 m c) i
      = Cert.ReferenceIdeal.Read.val_main_v67 (F := Ideal) (m (c, Proc.devRef .tc main_arg0)) (m (c, Proc.devRef .tc main_arg1))
          (m (c, Proc.devRef .tc main_arg2)) (m (c, Proc.devRef .tc main_arg5)) (m (c, Proc.devRef .tc main_arg6)) i := by
  obtain ⟨i, j, rfl⟩ : ∃ (k : Fin 7500) (j : Fin 4), i = ix2 k j := ⟨i 0, i 1, funext fun a => match a with | ⟨0, _⟩ => rfl | ⟨1, _⟩ => rfl⟩
  have e : Read.idx_main_v58 (Read.idx_main_v59 (Read.idx_main_v60 (Read.idx_main_v63 (Read.idx_main_v64 (ix2 i j)))))
      = ix2 (⟨(i.val / 150) * 52 + i.val / 3 % 50, by omega⟩ : Fin 2600) (⟨3 + (i.val % 3 * 4 + j.val), by omega⟩ : Fin 16) := by
    refine Eq.trans (congrArg (fun j => Read.idx_main_v58 (Read.idx_main_v59 (Read.idx_main_v60 j))) (?_ : _ = ix2 (⟨i.val / 3, by omega⟩ : Fin 2500) (⟨3 + (i.val % 3 * 4 + j.val), by omega⟩ : Fin 16))) ((trim _ _).trans ?_)
    · refine funext fun a => Fin.ext ?_
      match a with
      | ⟨0, _⟩ => show (i.val * 4 + j.val) / 12 = i.val / 3; omega
      | ⟨1, _⟩ => show 3 + (i.val * 4 + j.val) % 12 = 3 + (i.val % 3 * 4 + j.val); omega
    · refine congrArg (fun r => ix2 r _) (Fin.ext ?_)
      show i.val / 3 / 50 * 52 + i.val / 3 % 50 = i.val / 150 * 52 + i.val / 3 % 50
      omega
  rw [Read.val_main_v64_apply, Read.val_main_v63_apply, Read.val_main_v60_apply, Read.val_main_v59_apply, Read.val_main_v58_apply, e,
    Cert.ReferenceIdeal.Side.box_eq]
  refine (reg_apply m c ⟨i.val / 150, by omega⟩ ⟨i.val / 3 % 50, by omega⟩ ⟨3 + (i.val % 3 * 4 + j.val), by omega⟩).trans ?_
  rw [headB_box _ _ (⟨i.val % 3 * 4 + j.val, by omega⟩ : Fin 12), padded_eq]
  simp only [headW_box _ _ _ (⟨i.val % 3 * 4 + j.val, by omega⟩ : Fin 12)]

end Cert.Equation

end
-- ==== Proof.NmsWords.lean ====
/- The words the suppression is made of, one block of 128 boxes at a time: which boxes of the block overlap which boxes of
   the table too much, what is kept inside the block, and what the block leaves of the later ones. Each with its entries. -/
module

public import proofs.«01_k».proof.Proof.Gen.Kernel2Ideal.Skeleton
public import Idealize.ShloMosaic.PureOps.Ideal
public import Idealize.ShloMosaic.Lib.Pointwise
public import Idealize.ShloMosaic.Lib.ValueIdx

@[expose] public section

set_option maxRecDepth 16384

noncomputable section

namespace Cert.Nms

open Idealize.ShloMosaic Idealize.ShloMosaic.TcCoe
open Cert.Kernel2Ideal Cert.Kernel2Ideal.Gen

/-- A row of a `16 × 128` array, stood up as a column. -/
def col (b : ℕ) (hb : S16x128.Slices ![b, 0] S1x128) (v : FVec Ideal S16x128 .f32) : FVec Ideal S128x1x1 .f32 :=
  shapeCast S128x1x1 (transpose S128x1 [1, 0] (extractStridedSlice S1x128 ![b, 0] v hb) transposes_S1x128_p1_0_S128x1) shapeCasts_S128x1_S128x1x1

/-- A column against every box. -/
def tall (v : FVec Ideal S128x1x1 .f32) : FVec Ideal S128x16x128 .f32 := broadcastTo S128x16x128 v broadcasts_S128x1x1_S128x16x128
/-- Every box against a column. -/
def wide (v : FVec Ideal S16x128 .f32) : FVec Ideal S128x16x128 .f32 :=
  broadcastTo S128x16x128 (shapeCast S1x16x128 v shapeCasts_S16x128_S1x16x128) broadcasts_S1x16x128_S128x16x128

/-- One number everywhere. -/
def fill (S : Shape) (w : BitVec 32) : FVec Ideal S .f32 := broadcast S (Scalar.ofBits (F := Ideal) .f32 w)

/-- The width and height of the common part. -/
def both (x1 y1 x2 y2 : FVec Ideal S16x128 .f32) (b : ℕ) (hb : S16x128.Slices ![b, 0] S1x128) : FVec Ideal S128x16x128 .f32 :=
  mulf (maximumf (subf (minimumf (tall (col b hb x2)) (wide x2)) (maximumf (tall (col b hb x1)) (wide x1))) (fill _ 0x00000000#32))
    (maximumf (subf (minimumf (tall (col b hb y2)) (wide y2)) (maximumf (tall (col b hb y1)) (wide y1))) (fill _ 0x00000000#32))

/-- Which boxes of block `b` overlap which boxes of the table too much: one where they do. -/
def over (x1 y1 x2 y2 ar : FVec Ideal S16x128 .f32) (b : ℕ) (hb : S16x128.Slices ![b, 0] S1x128) : FVec Ideal S128x16x128 .f32 :=
  select (cmpf .ogt (divf (both x1 y1 x2 y2 b hb)
    (addf (subf (addf (tall (col b hb ar)) (wide ar)) (both x1 y1 x2 y2 b hb)) (fill _ 0x3089705F#32))) (fill _ 0x3F333333#32))
    (fill _ 0x3F800000#32) (fill _ 0x00000000#32)

/-- The part of it inside the block. -/
def inner (b : ℕ) (hb : S128x16x128.Slices ![0, b, 0] S128x1x128) (m : FVec Ideal S128x16x128 .f32) : FVec Ideal S128x128 .f32 :=
  shapeCast S128x128 (shapeCast S128x128 (extractStridedSlice S128x1x128 ![0, b, 0] m hb) shapeCasts_S128x1x128_S128x128) shapeCasts_S128x128_S128x128

/-- The table after block `b`: what the block keeps in row `b`, and later boxes that a kept one overlaps gone. -/
def after (wl wb : BitVec 32) (keep : FVec Ideal S16x128 .f32) (m : FVec Ideal S128x16x128 .f32) (kb : FVec Ideal S1x128 .f32) :
    FVec Ideal S16x128 .f32 :=
  select (cmpf .oeq k0_pay9 (fill _ wb)) (broadcastTo S16x128 (shapeCast S1x128 kb shapeCasts_S1x128_S1x128) broadcasts_S1x128_S16x128)
    (select (andi (cmpf .oge k0_pay10 (fill _ wl))
        (cmpf .ogt (multiReduction .maximumf [0] S16x128
          (select (andi (broadcastTo S128x16x128 (cmpf .ogt (shapeCast S128x1x1 (transpose S128x1 [1, 0] kb transposes_S1x128_p1_0_S128x1)
              shapeCasts_S128x1_S128x1x1) (fill _ 0x00000000#32)) broadcasts_S128x1x1_S128x16x128)
            (cmpf .ogt m (fill _ 0x00000000#32))) (fill _ 0x3F800000#32) (fill _ 0x00000000#32))
          0xFF800000#32 reduces_S128x16x128_S16x128 (.inl rfl) rfl) (fill _ 0x00000000#32)))
      (fill _ 0x00000000#32) keep)

/-- The row of block `b`. -/
def row (b : ℕ) (hb : S16x128.Slices ![b, 0] S1x128) (v : FVec Ideal S16x128 .f32) : FVec Ideal S1x128 .f32 :=
  extractStridedSlice S1x128 ![b, 0] v hb

/-! ### Numbers -/

/-- A count, as the kernel carries it. -/
def num (n : ℕ) : EReal := ((n : ℝ) : EReal)

theorem num_inj {a b : ℕ} : num a = num b ↔ a = b := by
  unfold num
  rw [EReal.coe_eq_coe_iff, Nat.cast_inj]
theorem num_lt {a b : ℕ} : num a < num b ↔ a < b := by
  unfold num
  rw [EReal.coe_lt_coe_iff, Nat.cast_lt]
theorem num_le {a b : ℕ} : num a ≤ num b ↔ a ≤ b := by
  unfold num
  rw [EReal.coe_le_coe_iff, Nat.cast_le]
theorem num_add (a b : ℕ) : num a + num b = num (a + b) := by
  unfold num
  rw [← EReal.coe_add, Nat.cast_add]
theorem num_mul (a b : ℕ) : num a * num b = num (a * b) := by
  unfold num
  rw [← EReal.coe_mul, Nat.cast_mul]
theorem num_zero : num 0 = 0 := by unfold num; simp
theorem num_one : num 1 = 1 := by unfold num; simp

/-- A coordinate as a float. -/
theorem sitofp_num (n : ℕ) (h : n < 2 ^ 31) : FloatOps.sitofp (F := Ideal) .f32 (BitVec.ofNat 32 n) = num n := by
  show (((BitVec.ofNat 32 n).toInt : ℝ) : EReal) = _
  have e : (BitVec.ofNat 32 n).toNat = n := by rw [BitVec.toNat_ofNat, Nat.mod_eq_of_lt (by omega)]
  rw [BitVec.toInt_eq_toNat_of_lt (by rw [e]; omega), e, num, Int.cast_natCast]

/-- One where a statement holds, zero elsewhere. -/
def ind (p : Prop) : EReal := open Classical in if p then 1 else 0

theorem ind_true {p : Prop} (h : p) : ind p = 1 := if_pos h
theorem ind_false {p : Prop} (h : ¬ p) : ind p = 0 := if_neg h
theorem ite_ind (p : Prop) [Decidable p] : (if p then (1 : EReal) else 0) = ind p := by
  by_cases h : p
  · rw [if_pos h, ind_true h]
  · rw [if_neg h, ind_false h]
theorem ind_congr {p q : Prop} (h : p ↔ q) : ind p = ind q := congrArg ind (propext h)
theorem ind_pos {p : Prop} : 0 < ind p ↔ p := by
  by_cases h : p
  · rw [ind_true h]; exact ⟨fun _ => h, fun _ => zero_lt_one⟩
  · rw [ind_false h]; exact ⟨fun h' => absurd h' (lt_irrefl _), fun h' => absurd h' h⟩

/-! ### Entries -/

/-- How much two boxes overlap: the common area over the joint one. -/
def iou (ax1 ay1 ax2 ay2 aar bx1 by1 bx2 by2 bar : EReal) : EReal :=
  Ideal.div (max (min ax2 bx2 - max ax1 bx1) 0 * max (min ay2 by2 - max ay1 by1) 0)
    (aar + bar - max (min ax2 bx2 - max ax1 bx1) 0 * max (min ay2 by2 - max ay1 by1) 0 + Ideal.ofBits .f32 0x3089705F#32)

/-- The overlap above which the later of two boxes falls. -/
def thr : EReal := Ideal.ofBits .f32 0x3F333333#32

theorem over_apply (x1 y1 x2 y2 ar : FVec Ideal S16x128 .f32) (b : Fin 16) (hb : S16x128.Slices ![b.val, 0] S1x128)
    (i : Fin 128) (b' : Fin 16) (l : Fin 128) : over x1 y1 x2 y2 ar b hb (ix3 i b' l) =
      ind (thr < iou (x1 (ix2 b i)) (y1 (ix2 b i)) (x2 (ix2 b i)) (y2 (ix2 b i)) (ar (ix2 b i))
        (x1 (ix2 b' l)) (y1 (ix2 b' l)) (x2 (ix2 b' l)) (y2 (ix2 b' l)) (ar (ix2 b' l))) := by
  unfold over both tall wide col fill
  pointwise
  exact ite_ind _

theorem inner_apply (b : Fin 16) (hb : S128x16x128.Slices ![0, b.val, 0] S128x1x128) (m : FVec Ideal S128x16x128 .f32)
    (i l : Fin 128) : inner b hb m (ix2 i l) = m (ix3 i b l) := by
  unfold inner
  pointwise

theorem row_apply (b : Fin 16) (hb : S16x128.Slices ![b.val, 0] S1x128) (m : FVec Ideal S16x128 .f32) (l : Fin 128) :
    row b hb m (ix2 0 l) = m (ix2 b l) := by
  unfold row
  pointwise

/-- The number of a box in the table. -/
theorem pay10_apply (b : Fin 16) (l : Fin 128) : k0_pay10 (F := Ideal) (ix2 b l) = num (128 * b.val + l.val) := by
  have e : Ideal.ofBits .f32 0x43000000#32 = num 128 := by
    simp [Ideal.ofBits, Ideal.ieee, num, -EReal.coe_mul]; norm_num
  unfold k0_pay10 k0_pay9
  pointwise
  rw [sitofp_num _ (by omega), sitofp_num _ (by omega), e, num_mul, num_add, Nat.mul_comm]

theorem andi_bool {α : Type} (p q : Prop) [Decidable p] [Decidable q] (x y : α) :
    Scalar.select (IntOp.andi (BitVec.ofBool (decide p)) (BitVec.ofBool (decide q))) x y = if p ∧ q then x else y := by
  by_cases hp : p <;> by_cases hq : q <;> simp [hp, hq, Scalar.select, IntOp.andi]

/-- A maximum of zeros and ones that is positive: there is a one. -/
theorem fold_pos {n : ℕ} (a : EReal) (ha : a ≤ 0) (p : Fin n → Prop) [DecidablePred p] :
    (0 < Finset.fold max a (fun x => if p x then (1 : EReal) else 0) Finset.univ) ↔ ∃ x, p x := by
  rw [Finset.lt_fold_max]
  constructor
  · rintro (h | ⟨x, _, h⟩)
    · exact absurd h (not_lt.mpr ha)
    · by_contra hn
      rw [if_neg fun hx => hn ⟨x, hx⟩] at h
      exact lt_irrefl _ h
  · rintro ⟨x, hx⟩
    exact .inr ⟨x, Finset.mem_univ x, by rw [if_pos hx]; exact zero_lt_one⟩

theorem after_apply (wl wb : BitVec 32) (nl nb : ℕ) (hl : Ideal.ofBits .f32 wl = num nl) (hb : Ideal.ofBits .f32 wb = num nb)
    (keep : FVec Ideal S16x128 .f32) (m : FVec Ideal S128x16x128 .f32) (kb : FVec Ideal S1x128 .f32) (b : Fin 16) (l : Fin 128) :
    after wl wb keep m kb (ix2 b l) = if b.val = nb then kb (ix2 0 l)
      else if nl ≤ 128 * b.val + l.val ∧ ∃ x : Fin 128, 0 < kb (ix2 0 x) ∧ 0 < m (ix3 x b l) then 0 else keep (ix2 b l) := by
  classical
  have e : Ideal.ofBits .f32 0xFF800000#32 ≤ 0 := by
    simp [Ideal.ofBits, Ideal.ieee]
  unfold after fill
  pointwise
  rw [pay10_apply]
  unfold k0_pay9
  pointwise
  rw [sitofp_num _ (by omega), hl, hb]
  simp only [andi_bool, num_inj, num_le]
  exact if_congr Iff.rfl rfl (if_congr (and_congr Iff.rfl ((iff_of_eq (congrArg (fun z : EReal => 0 < z)
    (Finset.fold_congr fun x _ => andi_bool _ _ _ _))).trans (fold_pos _ e fun x : Fin 128 => 0 < kb (ix2 0 x) ∧ 0 < m (ix3 x b l)))) rfl rfl)

/-- One step inside a block: box `i`, if it still stands, makes the later boxes fall that it overlaps. -/
theorem step_apply (i : Fin 128) (acc r : FVec Ideal S1x128 .f32) (j : Fin 128) :
    k0_pay22 k0_pay8 i acc r (ix2 0 j) = acc (ix2 0 j) * (1 - if i < j ∧ 0 < r (ix2 0 j) then acc (ix2 0 i) else 0) := by
  have e : (((Scf.iv 0#32 1#32 i.val).toInt : ℝ) : EReal) = num i.val := by
    have h : Scf.iv 0#32 1#32 i.val = BitVec.ofNat 32 i.val := by simp [Scf.iv]
    rw [h]; exact sitofp_num _ (by omega)
  unfold k0_pay22 k0_pay8
  pointwise
  rw [e, sitofp_num _ (by omega)]
  have s : (∑ x : Fin 1, ∑ x : Fin 128, if FloatOps.sitofp (F := Ideal) .f32 (BitVec.ofNat 32 x.val) = num i.val then acc (ix2 0 x) else 0)
      = acc (ix2 0 i) := by
    rw [Fintype.sum_unique, Finset.sum_eq_single i]
    · rw [sitofp_num _ (by omega), if_pos rfl]
    · intro x _ hx
      rw [sitofp_num _ (by omega), if_neg fun h => hx (Fin.ext (num_inj.mp h))]
    · exact fun h => absurd (Finset.mem_univ i) h
  rw [andi_bool]
  exact congrArg (fun z => acc (ix2 0 j) * (1 - z)) (if_congr (and_congr num_lt Iff.rfl) s rfl)

end Cert.Nms

end
-- ==== Proof.Greedy.lean ====
/- Greedy suppression as a statement about numbers: boxes come in order of score; a box falls when an earlier box that
   still stands overlaps it too much. Looking at the boxes one by one or in runs is the same. And the rank of a standing
   box: how many stand before it. -/
module

public import Mathlib.Data.Nat.Count
public import Mathlib.Algebra.BigOperators.Group.Finset.Basic
public import Mathlib.Algebra.BigOperators.Fin
public import Mathlib.Order.Interval.Finset.Fin

@[expose] public section

noncomputable section

namespace Cert.Greedy

open Classical

variable (V : ℕ → Prop) (O : ℕ → ℕ → Prop)

/-- Box `j` still stands once the first `n` boxes have been looked at. -/
def left : ℕ → ℕ → Prop
  | 0, j => V j
  | n + 1, j => left n j ∧ ¬ (O n j ∧ n < j ∧ left n n)

/-- Looking at a run of `m` boxes. -/
theorem left_add (n m j : ℕ) :
    left V O (n + m) j ↔ left V O n j ∧ ∀ i, i < m → ¬ (O (n + i) j ∧ n + i < j ∧ left V O (n + i) (n + i)) := by
  induction m with
  | zero => simp
  | succ m ih =>
    rw [← Nat.add_assoc, left, ih, and_assoc]
    refine and_congr_right fun _ => ⟨fun ⟨h, h'⟩ i hi => ?_, fun h => ⟨fun i hi => h i (by omega), h m (by omega)⟩⟩
    rcases Nat.lt_succ_iff_lt_or_eq.mp hi with hi | rfl
    · exact h i hi
    · exact h'

/-- Only earlier boxes make a box fall. -/
theorem left_stable {n j : ℕ} (h : j ≤ n) : left V O n j ↔ left V O j j := by
  obtain ⟨m, rfl⟩ := Nat.exists_eq_add_of_le h
  rw [left_add]
  exact ⟨fun h => h.1, fun h => ⟨h, fun i _ hi => by omega⟩⟩

/-- A run of `m` boxes all at once: a later box falls when one of the run that stands in the end overlaps it. -/
theorem left_run {n m j : ℕ} (h : n + m ≤ j) :
    left V O (n + m) j ↔ left V O n j ∧ ¬ ∃ i, i < m ∧ left V O (n + m) (n + i) ∧ O (n + i) j := by
  rw [left_add]
  refine and_congr_right fun _ => ⟨fun h' ⟨i, hi, h1, h2⟩ => ?_, fun h' i hi ⟨h1, _, h2⟩ => h' ⟨i, hi, ?_, h1⟩⟩
  · exact h' i hi ⟨h2, by omega, (left_stable V O (by omega)).mp h1⟩
  · exact (left_stable V O (by omega)).mpr h2

/-- Boxes that never stood never stand. -/
theorem left_valid {n j : ℕ} (h : left V O n j) : V j := by
  induction n with
  | zero => exact h
  | succ n ih => exact ih h.1

/-- Only overlaps between boxes that stood at first matter. -/
theorem left_congr {O' : ℕ → ℕ → Prop} (h : ∀ i j, V i → V j → (O i j ↔ O' i j)) (n j : ℕ) : left V O n j ↔ left V O' n j := by
  induction n generalizing j with
  | zero => exact Iff.rfl
  | succ n ih =>
    rw [left, left, ih j, ih n]
    refine and_congr_right fun hj => not_congr ⟨fun ⟨h1, h2, h3⟩ => ⟨?_, h2, h3⟩, fun ⟨h1, h2, h3⟩ => ⟨?_, h2, h3⟩⟩
    · exact (h n j (left_valid V O' h3) (left_valid V O' hj)).mp h1
    · exact (h n j (left_valid V O' h3) (left_valid V O' hj)).mpr h1

/-- The `k`-th standing box. -/
theorem exists_rank (K : ℕ → Prop) {k N : ℕ} (h : k < Nat.count K N) : ∃ g, g < N ∧ K g ∧ Nat.count K g = k := by
  induction N with
  | zero => simp at h
  | succ N ih =>
    rw [Nat.count_succ] at h
    by_cases hk : k < Nat.count K N
    · obtain ⟨g, h1, h2⟩ := ih hk
      exact ⟨g, by omega, h2⟩
    · by_cases hK : K N
      · exact ⟨N, by omega, hK, by simp only [hK, if_true] at h; omega⟩
      · simp only [hK, if_false] at h; omega

/-- No two standing boxes have the same rank. -/
theorem rank_inj (K : ℕ → Prop) {g g' : ℕ} (hg : K g) (hg' : K g') (h : Nat.count K g = Nat.count K g') : g = g' := by
  by_contra hne
  rcases Nat.lt_or_gt_of_ne hne with h' | h'
  · have := Nat.count_strict_mono hg h'; omega
  · have := Nat.count_strict_mono hg' h'; omega

/-- The boxes before the `k`-th standing one are those up to which no more than `k` stand. -/
theorem card_before (K : ℕ → Prop) {k N g : ℕ} (hN : g < N) (hg : K g) (hk : Nat.count K g = k) :
    (Finset.univ.filter fun n : Fin N => Nat.count K (n.val + 1) ≤ k).card = g := by
  have e : (Finset.univ.filter fun n : Fin N => Nat.count K (n.val + 1) ≤ k)
      = Finset.univ.filter fun n : Fin N => n.val < g := by
    refine Finset.filter_congr fun n _ => ⟨fun h => ?_, fun h => ?_⟩
    · by_contra hn
      have h1 : Nat.count K (g + 1) ≤ Nat.count K (n.val + 1) := Nat.count_monotone K (by omega)
      rw [Nat.count_succ] at h1
      simp only [hg, if_true] at h1
      omega
    · exact hk ▸ Nat.count_monotone K (by omega)
  rw [e]
  have := Fin.card_filter_val_lt (n := N) (m := g)
  rw [this]; omega

/-- How many stand among the first `N`, as a sum. -/
theorem count_eq_sum (K : ℕ → Prop) (N : ℕ) : Nat.count K N = ∑ i : Fin N, if K i.val then 1 else 0 := by
  induction N with
  | zero => simp
  | succ N ih => rw [Fin.sum_univ_castSucc, Nat.count_succ, ih]; rfl

end Cert.Greedy

end
-- ==== Proof.NmsBlock.lean ====
/- One block of 128 boxes: the sweep inside it and what it leaves of the table, as greedy suppression of the boxes' numbers. -/
module

public import proofs.«01_k».proof.Proof.NmsWords
public import proofs.«01_k».proof.Proof.Greedy

@[expose] public section

set_option maxRecDepth 16384

noncomputable section

namespace Cert.Nms

open Idealize.ShloMosaic Idealize.ShloMosaic.TcCoe
open Cert.Kernel2Ideal Cert.Kernel2Ideal.Gen
open Cert.Greedy

/-- Row `i` of the block's overlaps. -/
def line (r : FVec Ideal S128x128 .f32) (i : Fin 128) : FVec Ideal S1x128 .f32 := fun j => r (ix2 i (j 1))

/-- One step inside a block. -/
def step (i : Fin 128) (acc r : FVec Ideal S1x128 .f32) : FVec Ideal S1x128 .f32 := k0_pay22 k0_pay8 i acc r

/-- The block's boxes looked at one by one. -/
def sweep (r : FVec Ideal S128x128 .f32) (init : FVec Ideal S1x128 .f32) : ℕ → FVec Ideal S1x128 .f32
  | 0 => init
  | n + 1 => if h : n < 128 then step ⟨n, h⟩ (sweep r init n) (line r ⟨n, h⟩) else sweep r init n

/-- Whatever starts from the same row and takes the same steps is the sweep. -/
theorem loop_eq (st : ℕ → FVec Ideal S1x128 .f32) (r : FVec Ideal S128x128 .f32) (init : FVec Ideal S1x128 .f32) (N : ℕ)
    (hN : N = 128) (h0 : st 0 = init) (hs : ∀ k : Fin 128, st (k.val + 1) = step k (st k.val) (line r k)) :
    st N = sweep r init 128 := by
  subst hN
  have : ∀ n, n ≤ 128 → st n = sweep r init n := by
    intro n hn
    induction n with
    | zero => exact h0
    | succ n ih => rw [hs ⟨n, hn⟩, ih (by omega), sweep, dif_pos (show n < 128 from hn)]
  exact this 128 le_rfl

variable (V : ℕ → Prop) (O : ℕ → ℕ → Prop)

/-- A step on ones and zeros. -/
theorem ind_step (p q r s : Prop) [Decidable (q ∧ 0 < ind r)] :
    ind p * (1 - if q ∧ 0 < ind r then ind s else 0) = ind (p ∧ ¬ (r ∧ q ∧ s)) := by
  by_cases hp : p
  · rw [ind_true hp, one_mul]
    by_cases h : r ∧ q ∧ s
    · rw [if_pos ⟨h.2.1, ind_pos.mpr h.1⟩, ind_true h.2.2, ind_false fun h' => h'.2 h]
      exact EReal.sub_self (by decide) (by decide)
    · rw [ind_true (p := p ∧ ¬ (r ∧ q ∧ s)) ⟨hp, h⟩]
      by_cases hq : q ∧ 0 < ind r
      · rw [if_pos hq, ind_false fun hs => h ⟨ind_pos.mp hq.2, hq.1, hs⟩, sub_zero]
      · rw [if_neg hq, sub_zero]
  · rw [ind_false hp, zero_mul, ind_false fun h => hp h.1]

/-- Inside block `b` the sweep's row holds what still stands. -/
theorem sweep_spec (b : ℕ) (r : FVec Ideal S128x128 .f32) (init : FVec Ideal S1x128 .f32)
    (hr : ∀ i l : Fin 128, r (ix2 i l) = ind (O (128 * b + i.val) (128 * b + l.val)))
    (hi : ∀ l : Fin 128, init (ix2 0 l) = ind (left V O (128 * b) (128 * b + l.val))) (n : ℕ) (hn : n ≤ 128) (l : Fin 128) :
    sweep r init n (ix2 0 l) = ind (left V O (128 * b + n) (128 * b + l.val)) := by
  induction n generalizing l with
  | zero => exact hi l
  | succ n ih =>
    rw [sweep, dif_pos (show n < 128 from hn), step, step_apply, ih (by omega)]
    have e : line r ⟨n, hn⟩ (ix2 0 l) = ind (O (128 * b + n) (128 * b + l.val)) := hr ⟨n, hn⟩ l
    have e' := ih (by omega) ⟨n, hn⟩
    rw [e, e', ← Nat.add_assoc, left]
    refine (ind_step _ _ _ _).trans ?_
    refine ind_congr (and_congr Iff.rfl (not_congr (and_congr Iff.rfl (and_congr ?_ Iff.rfl))))
    show n < l.val ↔ 128 * b + n < 128 * b + l.val
    omega

/-- Rows of a table, at any block. -/
theorem rows (b : Fin 16) : S16x128.Slices ![b.val, 0] S1x128 := by
  revert b; decide
theorem rows3 (b : Fin 16) : S128x16x128.Slices ![0, b.val, 0] S128x1x128 := by
  revert b; decide

/-- The table after block `b`, from the table before it. -/
def block (x1 y1 x2 y2 ar : FVec Ideal S16x128 .f32) (wl wb : BitVec 32) (b : Fin 16) (keep : FVec Ideal S16x128 .f32) :
    FVec Ideal S16x128 .f32 :=
  after wl wb keep (over x1 y1 x2 y2 ar b.val (rows b))
    (sweep (inner b.val (rows3 b) (over x1 y1 x2 y2 ar b.val (rows b))) (row b.val (rows b) keep) 128)

/-- The overlap of the boxes with two numbers. -/
def tooMuch (x1 y1 x2 y2 ar : FVec Ideal S16x128 .f32) (i j : ℕ) : Prop :=
  ∃ (hi : i < 2048) (hj : j < 2048), thr < iou
    (x1 (ix2 (⟨i / 128, by omega⟩ : Fin 16) (⟨i % 128, by omega⟩ : Fin 128)))
    (y1 (ix2 (⟨i / 128, by omega⟩ : Fin 16) (⟨i % 128, by omega⟩ : Fin 128)))
    (x2 (ix2 (⟨i / 128, by omega⟩ : Fin 16) (⟨i % 128, by omega⟩ : Fin 128)))
    (y2 (ix2 (⟨i / 128, by omega⟩ : Fin 16) (⟨i % 128, by omega⟩ : Fin 128)))
    (ar (ix2 (⟨i / 128, by omega⟩ : Fin 16) (⟨i % 128, by omega⟩ : Fin 128)))
    (x1 (ix2 (⟨j / 128, by omega⟩ : Fin 16) (⟨j % 128, by omega⟩ : Fin 128)))
    (y1 (ix2 (⟨j / 128, by omega⟩ : Fin 16) (⟨j % 128, by omega⟩ : Fin 128)))
    (x2 (ix2 (⟨j / 128, by omega⟩ : Fin 16) (⟨j % 128, by omega⟩ : Fin 128)))
    (y2 (ix2 (⟨j / 128, by omega⟩ : Fin 16) (⟨j % 128, by omega⟩ : Fin 128)))
    (ar (ix2 (⟨j / 128, by omega⟩ : Fin 16) (⟨j % 128, by omega⟩ : Fin 128)))

theorem over_ind (x1 y1 x2 y2 ar : FVec Ideal S16x128 .f32) (b : Fin 16) (i : Fin 128) (b' : Fin 16) (l : Fin 128) :
    over x1 y1 x2 y2 ar b.val (rows b) (ix3 i b' l)
      = ind (tooMuch x1 y1 x2 y2 ar (128 * b.val + i.val) (128 * b'.val + l.val)) := by
  rw [over_apply]
  have e1 (b : Fin 16) (i : Fin 128) (h : (128 * b.val + i.val) / 128 < 16) : (⟨(128 * b.val + i.val) / 128, h⟩ : Fin 16) = b :=
    Fin.ext (by show (128 * b.val + i.val) / 128 = b.val; omega)
  have e2 (b : Fin 16) (i : Fin 128) (h : (128 * b.val + i.val) % 128 < 128) : (⟨(128 * b.val + i.val) % 128, h⟩ : Fin 128) = i :=
    Fin.ext (by show (128 * b.val + i.val) % 128 = i.val; omega)
  refine ind_congr ?_
  unfold tooMuch
  simp only [e1, e2]
  exact ⟨fun h => ⟨by omega, by omega, h⟩, fun ⟨_, _, h⟩ => h⟩

/-- One block of the table is 128 steps of the greedy suppression. -/
theorem block_spec (x1 y1 x2 y2 ar : FVec Ideal S16x128 .f32) (wl wb : BitVec 32) (b : Fin 16)
    (hl : Ideal.ofBits .f32 wl = num (128 * b.val + 128)) (hb : Ideal.ofBits .f32 wb = num b.val) (keep : FVec Ideal S16x128 .f32)
    (hk : ∀ (b' : Fin 16) (l : Fin 128), keep (ix2 b' l) = ind (left V (tooMuch x1 y1 x2 y2 ar) (128 * b.val) (128 * b'.val + l.val)))
    (b' : Fin 16) (l : Fin 128) :
    block x1 y1 x2 y2 ar wl wb b keep (ix2 b' l)
      = ind (left V (tooMuch x1 y1 x2 y2 ar) (128 * b.val + 128) (128 * b'.val + l.val)) := by
  have hs := sweep_spec V (tooMuch x1 y1 x2 y2 ar) b.val (inner b.val (rows3 b) (over x1 y1 x2 y2 ar b.val (rows b)))
    (row b.val (rows b) keep) (fun i l => by rw [inner_apply, over_ind]) (fun l => by rw [row_apply, hk]) 128 le_rfl
  unfold block
  rw [after_apply wl wb _ _ hl hb]
  have hx : (∃ x : Fin 128, 0 < sweep (inner b.val (rows3 b) (over x1 y1 x2 y2 ar b.val (rows b))) (row b.val (rows b) keep) 128 (ix2 0 x)
      ∧ 0 < over x1 y1 x2 y2 ar b.val (rows b) (ix3 x b' l))
      ↔ ∃ x : Fin 128, left V (tooMuch x1 y1 x2 y2 ar) (128 * b.val + 128) (128 * b.val + x.val)
        ∧ tooMuch x1 y1 x2 y2 ar (128 * b.val + x.val) (128 * b'.val + l.val) :=
    exists_congr fun x => and_congr (by rw [hs]; exact ind_pos) (by rw [over_ind]; exact ind_pos)
  rw [hs, hk]
  by_cases h1 : b'.val = b.val
  · rw [if_pos h1, h1]
  · rw [if_neg h1]
    by_cases h2 : 128 * b.val + 128 ≤ 128 * b'.val + l.val
    · rw [left_run V _ h2]
      by_cases h3 : ∃ x : Fin 128, left V (tooMuch x1 y1 x2 y2 ar) (128 * b.val + 128) (128 * b.val + x.val)
          ∧ tooMuch x1 y1 x2 y2 ar (128 * b.val + x.val) (128 * b'.val + l.val)
      · rw [if_pos ⟨h2, hx.mpr h3⟩, ind_false]
        obtain ⟨x, hx⟩ := h3
        exact fun h => h.2 ⟨x.val, x.isLt, hx⟩
      · rw [if_neg fun h => h3 (hx.mp h.2)]
        exact ind_congr ⟨fun h => ⟨h, fun ⟨i, hi, hx⟩ => h3 ⟨⟨i, hi⟩, hx⟩⟩, fun h => h.1⟩
    · rw [if_neg fun h => h2 h.1, left_stable V _ (by omega), ← left_stable V _ (n := 128 * b.val + 128) (by omega)]

end Cert.Nms

end
-- ==== Proof.NmsTable.lean ====
/- The table the kernel carries through its sixteen blocks: each block's words are the block of NmsBlock.lean. -/
module

public import proofs.«01_k».proof.Proof.NmsBlock
public import proofs.«01_k».proof.Proof.Gen.Kernel2Ideal.Frame
public import Idealize.ShloMosaic.Lib.VecWindow

@[expose] public section

set_option maxRecDepth 16384

noncomputable section

namespace Cert.Nms

open Idealize.ShloMosaic Idealize.ShloMosaic.TcCoe
open Cert.Kernel2Ideal Cert.Kernel2Ideal.Gen Cert.Kernel2Ideal.Gen.kernelRun0_A.sl

/-- What a step of the sweep loads from the scratch buffer: a row of what the block stored there last. -/
theorem line_read {sig : RefSig} {κ : Kind} {sp : Space} (v : View sig κ sp S128x128 .f32) (f : v.ty.Contents (Elt Ideal))
    (p : FVec Ideal S128x128 .f32) (L : List (View.Piece (Elt Ideal) S128x128 .f32))
    (inb : ∀ a, (![0, 0] : Fin 2 → ℕ) a + S128x128.size a ≤ S128x128.size a) (k : Fin 128) (off : Fin 2 → ℕ)
    (h : off = ![k.val, 0]) (inb' : ∀ a, off a + (![1, 128] : Fin 2 → ℕ) a ≤ S128x128.size a) :
    v.readAt (Elt Ideal) (Rect.unit (s := S128x128) off ![1, 128] inb').toLoadRect
      (v.writes (Elt Ideal) f (⟨Rect.unit (s := S128x128) ![0, 0] S128x128.size inb, p⟩ :: L)) = line p k := by
  subst h
  have e := View.read_writes_full v f inb p L
  funext j
  show v.read (Elt Ideal) _ _ = _
  rw [e]
  refine congrArg p (funext fun a => Fin.ext ?_)
  match a with
  | ⟨0, _⟩ => show k.val + 1 * (j 0).val = k.val; have h : (j 0).val < 1 := (j 0).isLt; omega
  | ⟨1, _⟩ => show 0 + 1 * (j 1).val = (j 1).val; omega

/-- The row a step looks at. -/
theorem iv_val (k : Fin 128) : (![(Scalar.indexCast (Scf.iv 0#32 1#32 k.val)).toNat, 0] : Fin 2 → ℕ) = ![k.val, 0] := by
  have h : (Scalar.indexCast (Scf.iv 0#32 1#32 k.val)).toNat = k.val := by revert k; decide
  rw [h]

variable (c : Dev nD) (arg0 : Memref sig .tc .vmem S6x16x128 .f32) (harg0 : arg0.IsWhole) (arg1 : Memref sig .tc .vmem S5x1024 .f32) (harg1 : arg1.IsWhole)
  (arg2 : Memref sig .tc .vmem S1x128 .f32) (harg2 : arg2.IsWhole) (arg3 : Memref sig .tc .vmem S128x128 .f32) (harg3 : arg3.IsWhole)
  (x0 : Vec Ideal S6x16x128 .f32)

/-- Which boxes of block `b` overlap which of the table. -/
def lap (b : Fin 16) : FVec Ideal S128x16x128 .f32 :=
  over (r_1 c arg0 harg0 x0) (r_2 c arg0 harg0 x0) (r_3 c arg0 harg0 x0) (r_4 c arg0 harg0 x0) (r_5 c arg0 harg0 x0) b.val (rows b)

/-- The row of block `b` after the sweep. -/
def swept (b : Fin 16) (keep : FVec Ideal S16x128 .f32) : FVec Ideal S1x128 .f32 :=
  sweep (inner b.val (rows3 b) (lap c arg0 harg0 x0 b)) (row b.val (rows b) keep) 128

/-- The words of the numbers 128, 256, …, 2048 and of 0, 1, …, 15, which tell a block and what lies behind it. -/
def wl : Fin 16 → BitVec 32 := ![0x43000000#32, 0x43800000#32, 0x43C00000#32, 0x44000000#32, 0x44200000#32, 0x44400000#32, 0x44600000#32,
  0x44800000#32, 0x44900000#32, 0x44A00000#32, 0x44B00000#32, 0x44C00000#32, 0x44D00000#32, 0x44E00000#32, 0x44F00000#32, 0x45000000#32]
def wb : Fin 16 → BitVec 32 := ![0x00000000#32, 0x3F800000#32, 0x40000000#32, 0x40400000#32, 0x40800000#32, 0x40A00000#32, 0x40C00000#32,
  0x40E00000#32, 0x41000000#32, 0x41100000#32, 0x41200000#32, 0x41300000#32, 0x41400000#32, 0x41500000#32, 0x41600000#32, 0x41700000#32]

theorem wl_val (b : Fin 16) : Ideal.ofBits .f32 (wl b) = num (128 * b.val + 128) := by
  fin_cases b <;> simp [wl, Ideal.ofBits, Ideal.ieee, num, -EReal.coe_mul] <;> norm_num
theorem wb_val (b : Fin 16) : Ideal.ofBits .f32 (wb b) = num b.val := by
  fin_cases b <;> simp [wb, Ideal.ofBits, Ideal.ieee, num, -EReal.coe_mul] <;> norm_num

theorem loop_1 : r_15 c arg0 harg0 arg1 harg1 arg2 harg2 arg3 harg3 x0 = swept c arg0 harg0 x0 0 (r_6 c arg0 harg0 x0) := by
  unfold r_15
  refine loop_eq _ _ _ _ (by decide) rfl fun k => (st_k0_t1_succ (k := k) ..).trans ?_
  unfold tripR_k0_t1 trip_k0_t1
  exact congrArg (step k _) (line_read _ _ _ _ _ k _ (iv_val k) _)

theorem block_1 : r_16 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 0) (wb 0) 0 (r_6 c arg0 harg0 x0) := by
  unfold r_16
  rw [loop_1]
  rfl

theorem loop_2 : r_23 c arg0 harg0 arg1 harg1 arg2 harg2 arg3 harg3 x0 = swept c arg0 harg0 x0 1 (r_16 c arg0 harg0 arg1 harg1 arg2 harg2 arg3 harg3 x0) := by
  unfold r_23
  refine loop_eq _ _ _ _ (by decide) rfl fun k => (st_k0_t2_succ (k := k) ..).trans ?_
  unfold tripR_k0_t2 trip_k0_t2
  exact congrArg (step k _) (line_read _ _ _ _ _ k _ (iv_val k) _)

theorem block_2 : r_25 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 1) (wb 1) 1 (r_16 c arg0 harg0 arg1 harg1 arg2 harg2 arg3 harg3 x0) := by
  unfold r_25 r_24
  change k0_pay36 _ _ _ _ (k0_pay34 _ _ _ _ _ _ _ (r_23 c arg0 harg0 arg1 harg1 arg2 harg2 arg3 harg3 x0)) _ = _
  rw [loop_2]
  rfl

theorem block_3 : r_27 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 2) (wb 2) 2 (r_25 c arg0 harg0 arg1 harg1 arg2 harg2 arg3 harg3 x0) := by
  unfold r_27
  refine congrArg (k0_pay43 _ _ _ _ _) (?_ : _ = swept c arg0 harg0 x0 2 (r_25 c arg0 harg0 arg1 harg1 arg2 harg2 arg3 harg3 x0))
  refine loop_eq _ _ _ _ (by decide) rfl fun k => (st_k0_t3_succ (k := k) ..).trans ?_
  unfold tripR_k0_t3 trip_k0_t3
  exact congrArg (step k _) (line_read _ _ _ _ _ k _ (iv_val k) _)

theorem loop_4 : r_31 c arg0 harg0 arg1 harg1 arg2 harg2 arg3 harg3 x0 = swept c arg0 harg0 x0 3 (r_27 c arg0 harg0 arg1 harg1 arg2 harg2 arg3 harg3 x0) := by
  unfold r_31
  refine loop_eq _ _ _ _ (by decide) rfl fun k => (st_k0_t4_succ (k := k) ..).trans ?_
  unfold tripR_k0_t4 trip_k0_t4
  exact congrArg (step k _) (line_read _ _ _ _ _ k _ (iv_val k) _)

theorem block_4 : r_32 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 3) (wb 3) 3 (r_27 c arg0 harg0 arg1 harg1 arg2 harg2 arg3 harg3 x0) := by
  unfold r_32
  rw [loop_4]
  rfl

theorem loop_5 : r_39 c arg0 harg0 arg1 harg1 arg2 harg2 arg3 harg3 x0 = swept c arg0 harg0 x0 4 (r_32 c arg0 harg0 arg1 harg1 arg2 harg2 arg3 harg3 x0) := by
  unfold r_39
  refine loop_eq _ _ _ _ (by decide) rfl fun k => (st_k0_t5_succ (k := k) ..).trans ?_
  unfold tripR_k0_t5 trip_k0_t5
  exact congrArg (step k _) (line_read _ _ _ _ _ k _ (iv_val k) _)

theorem block_5 : r_41 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 4) (wb 4) 4 (r_32 c arg0 harg0 arg1 harg1 arg2 harg2 arg3 harg3 x0) := by
  unfold r_41 r_40
  change k0_pay63 _ _ _ _ (k0_pay61 _ _ _ _ _ _ _ (r_39 c arg0 harg0 arg1 harg1 arg2 harg2 arg3 harg3 x0)) _ = _
  rw [loop_5]
  rfl

theorem block_6 : r_43 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 5) (wb 5) 5 (r_41 c arg0 harg0 arg1 harg1 arg2 harg2 arg3 harg3 x0) := by
  unfold r_43
  refine congrArg (k0_pay70 _ _ _ _ _) (?_ : _ = swept c arg0 harg0 x0 5 (r_41 c arg0 harg0 arg1 harg1 arg2 harg2 arg3 harg3 x0))
  refine loop_eq _ _ _ _ (by decide) rfl fun k => (st_k0_t6_succ (k := k) ..).trans ?_
  unfold tripR_k0_t6 trip_k0_t6
  exact congrArg (step k _) (line_read _ _ _ _ _ k _ (iv_val k) _)

theorem loop_7 : r_47 c arg0 harg0 arg1 harg1 arg2 harg2 arg3 harg3 x0 = swept c arg0 harg0 x0 6 (r_43 c arg0 harg0 arg1 harg1 arg2 harg2 arg3 harg3 x0) := by
  unfold r_47
  refine loop_eq _ _ _ _ (by decide) rfl fun k => (st_k0_t7_succ (k := k) ..).trans ?_
  unfold tripR_k0_t7 trip_k0_t7
  exact congrArg (step k _) (line_read _ _ _ _ _ k _ (iv_val k) _)

theorem block_7 : r_48 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 6) (wb 6) 6 (r_43 c arg0 harg0 arg1 harg1 arg2 harg2 arg3 harg3 x0) := by
  unfold r_48
  rw [loop_7]
  rfl

theorem loop_8 : r_55 c arg0 harg0 arg1 harg1 arg2 harg2 arg3 harg3 x0 = swept c arg0 harg0 x0 7 (r_48 c arg0 harg0 arg1 harg1 arg2 harg2 arg3 harg3 x0) := by
  unfold r_55
  refine loop_eq _ _ _ _ (by decide) rfl fun k => (st_k0_t8_succ (k := k) ..).trans ?_
  unfold tripR_k0_t8 trip_k0_t8
  exact congrArg (step k _) (line_read _ _ _ _ _ k _ (iv_val k) _)

theorem block_8 : r_57 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 7) (wb 7) 7 (r_48 c arg0 harg0 arg1 harg1 arg2 harg2 arg3 harg3 x0) := by
  unfold r_57 r_56
  change k0_pay90 _ _ _ _ (k0_pay88 _ _ _ _ _ _ _ (r_55 c arg0 harg0 arg1 harg1 arg2 harg2 arg3 harg3 x0)) _ = _
  rw [loop_8]
  rfl

theorem block_9 : r_59 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 8) (wb 8) 8 (r_57 c arg0 harg0 arg1 harg1 arg2 harg2 arg3 harg3 x0) := by
  unfold r_59
  refine congrArg (k0_pay97 _ _ _ _ _) (?_ : _ = swept c arg0 harg0 x0 8 (r_57 c arg0 harg0 arg1 harg1 arg2 harg2 arg3 harg3 x0))
  refine loop_eq _ _ _ _ (by decide) rfl fun k => (st_k0_t9_succ (k := k) ..).trans ?_
  unfold tripR_k0_t9 trip_k0_t9
  exact congrArg (step k _) (line_read _ _ _ _ _ k _ (iv_val k) _)

theorem loop_10 : r_63 c arg0 harg0 arg1 harg1 arg2 harg2 arg3 harg3 x0 = swept c arg0 harg0 x0 9 (r_59 c arg0 harg0 arg1 harg1 arg2 harg2 arg3 harg3 x0) := by
  unfold r_63
  refine loop_eq _ _ _ _ (by decide) rfl fun k => (st_k0_t10_succ (k := k) ..).trans ?_
  unfold tripR_k0_t10 trip_k0_t10
  exact congrArg (step k _) (line_read _ _ _ _ _ k _ (iv_val k) _)

theorem block_10 : r_64 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 9) (wb 9) 9 (r_59 c arg0 harg0 arg1 harg1 arg2 harg2 arg3 harg3 x0) := by
  unfold r_64
  rw [loop_10]
  rfl

theorem loop_11 : r_71 c arg0 harg0 arg1 harg1 arg2 harg2 arg3 harg3 x0 = swept c arg0 harg0 x0 10 (r_64 c arg0 harg0 arg1 harg1 arg2 harg2 arg3 harg3 x0) := by
  unfold r_71
  refine loop_eq _ _ _ _ (by decide) rfl fun k => (st_k0_t11_succ (k := k) ..).trans ?_
  unfold tripR_k0_t11 trip_k0_t11
  exact congrArg (step k _) (line_read _ _ _ _ _ k _ (iv_val k) _)

theorem block_11 : r_73 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 10) (wb 10) 10 (r_64 c arg0 harg0 arg1 harg1 arg2 harg2 arg3 harg3 x0) := by
  unfold r_73 r_72
  change k0_pay117 _ _ _ _ (k0_pay115 _ _ _ _ _ _ _ (r_71 c arg0 harg0 arg1 harg1 arg2 harg2 arg3 harg3 x0)) _ = _
  rw [loop_11]
  rfl

theorem block_12 : r_75 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 11) (wb 11) 11 (r_73 c arg0 harg0 arg1 harg1 arg2 harg2 arg3 harg3 x0) := by
  unfold r_75
  refine congrArg (k0_pay124 _ _ _ _ _) (?_ : _ = swept c arg0 harg0 x0 11 (r_73 c arg0 harg0 arg1 harg1 arg2 harg2 arg3 harg3 x0))
  refine loop_eq _ _ _ _ (by decide) rfl fun k => (st_k0_t12_succ (k := k) ..).trans ?_
  unfold tripR_k0_t12 trip_k0_t12
  exact congrArg (step k _) (line_read _ _ _ _ _ k _ (iv_val k) _)

theorem loop_13 : r_79 c arg0 harg0 arg1 harg1 arg2 harg2 arg3 harg3 x0 = swept c arg0 harg0 x0 12 (r_75 c arg0 harg0 arg1 harg1 arg2 harg2 arg3 harg3 x0) := by
  unfold r_79
  refine loop_eq _ _ _ _ (by decide) rfl fun k => (st_k0_t13_succ (k := k) ..).trans ?_
  unfold tripR_k0_t13 trip_k0_t13
  exact congrArg (step k _) (line_read _ _ _ _ _ k _ (iv_val k) _)

theorem block_13 : r_80 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 12) (wb 12) 12 (r_75 c arg0 harg0 arg1 harg1 arg2 harg2 arg3 harg3 x0) := by
  unfold r_80
  rw [loop_13]
  rfl

theorem loop_14 : r_87 c arg0 harg0 arg1 harg1 arg2 harg2 arg3 harg3 x0 = swept c arg0 harg0 x0 13 (r_80 c arg0 harg0 arg1 harg1 arg2 harg2 arg3 harg3 x0) := by
  unfold r_87
  refine loop_eq _ _ _ _ (by decide) rfl fun k => (st_k0_t14_succ (k := k) ..).trans ?_
  unfold tripR_k0_t14 trip_k0_t14
  exact congrArg (step k _) (line_read _ _ _ _ _ k _ (iv_val k) _)

theorem block_14 : r_89 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 13) (wb 13) 13 (r_80 c arg0 harg0 arg1 harg1 arg2 harg2 arg3 harg3 x0) := by
  unfold r_89 r_88
  change k0_pay144 _ _ _ _ (k0_pay142 _ _ _ _ _ _ _ (r_87 c arg0 harg0 arg1 harg1 arg2 harg2 arg3 harg3 x0)) _ = _
  rw [loop_14]
  rfl

theorem block_15 : r_91 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 14) (wb 14) 14 (r_89 c arg0 harg0 arg1 harg1 arg2 harg2 arg3 harg3 x0) := by
  unfold r_91
  refine congrArg (k0_pay151 _ _ _ _ _) (?_ : _ = swept c arg0 harg0 x0 14 (r_89 c arg0 harg0 arg1 harg1 arg2 harg2 arg3 harg3 x0))
  refine loop_eq _ _ _ _ (by decide) rfl fun k => (st_k0_t15_succ (k := k) ..).trans ?_
  unfold tripR_k0_t15 trip_k0_t15
  exact congrArg (step k _) (line_read _ _ _ _ _ k _ (iv_val k) _)

theorem loop_16 : r_95 c arg0 harg0 arg1 harg1 arg2 harg2 arg3 harg3 x0 = swept c arg0 harg0 x0 15 (r_91 c arg0 harg0 arg1 harg1 arg2 harg2 arg3 harg3 x0) := by
  unfold r_95
  refine loop_eq _ _ _ _ (by decide) rfl fun k => (st_k0_t16_succ (k := k) ..).trans ?_
  unfold tripR_k0_t16 trip_k0_t16
  exact congrArg (step k _) (line_read _ _ _ _ _ k _ (iv_val k) _)

theorem block_16 : r_96 c arg0 harg0 arg1 harg1 arg2 harg2 arg3 harg3 x0 =
    block (r_1 c arg0 harg0 x0) (r_2 c arg0 harg0 x0) (r_3 c arg0 harg0 x0) (r_4 c arg0 harg0 x0) (r_5 c arg0 harg0 x0)
      (wl 15) (wb 15) 15 (r_91 c arg0 harg0 arg1 harg1 arg2 harg2 arg3 harg3 x0) := by
  unfold r_96
  rw [loop_16]
  rfl

/-- The table after the first `n` blocks. -/
def table : ℕ → FVec Ideal S16x128 .f32
  | 0 => r_6 c arg0 harg0 x0
  | n + 1 => if h : n < 16 then block (r_1 c arg0 harg0 x0) (r_2 c arg0 harg0 x0) (r_3 c arg0 harg0 x0) (r_4 c arg0 harg0 x0) (r_5 c arg0 harg0 x0)
      (wl ⟨n, h⟩) (wb ⟨n, h⟩) ⟨n, h⟩ (table n) else table n

theorem table_eq : r_96 c arg0 harg0 arg1 harg1 arg2 harg2 arg3 harg3 x0 = table c arg0 harg0 x0 16 := by
  rw [block_16, block_15, block_14, block_13, block_12, block_11, block_10, block_9, block_8, block_7, block_6, block_5, block_4,
    block_3, block_2, block_1]
  rfl

/-- After `n` blocks the table holds what stands once the first `128 * n` boxes have been looked at. -/
theorem table_spec (V : ℕ → Prop) (hV : ∀ (b : Fin 16) (l : Fin 128), r_6 c arg0 harg0 x0 (ix2 b l) = ind (V (128 * b.val + l.val)))
    (n : ℕ) (hn : n ≤ 16) (b : Fin 16) (l : Fin 128) :
    table c arg0 harg0 x0 n (ix2 b l) = ind (Greedy.left V (tooMuch (r_1 c arg0 harg0 x0) (r_2 c arg0 harg0 x0) (r_3 c arg0 harg0 x0)
      (r_4 c arg0 harg0 x0) (r_5 c arg0 harg0 x0)) (128 * n) (128 * b.val + l.val)) := by
  induction n generalizing b l with
  | zero => exact hV b l
  | succ n ih =>
    rw [table, dif_pos (show n < 16 from hn)]
    exact block_spec V _ _ _ _ _ _ _ ⟨n, hn⟩ (wl_val _) (wb_val _) _ (fun b' l => ih (by omega) b' l) b l

end Cert.Nms

end
-- ==== Proof.NmsPack.lean ====
/- How the kernel packs what it kept: block by block, each kept box into the column that is its rank. The kernel's words
   are those defined here. -/
module

public import proofs.«01_k».proof.Proof.NmsTable

@[expose] public section

set_option maxRecDepth 16384

noncomputable section

namespace Cert.Nms

open Idealize.ShloMosaic Idealize.ShloMosaic.TcCoe
open Cert.Kernel2Ideal Cert.Kernel2Ideal.Gen Cert.Kernel2Ideal.Gen.kernelRun0_A.sl

/-- A row stood up. -/
def stood (v : FVec Ideal S1x128 .f32) : FVec Ideal S128x1 .f32 := transpose S128x1 [1, 0] v transposes_S1x128_p1_0_S128x1

/-- How many boxes of a block are kept up to each one. -/
def upTo (kc : FVec Ideal S1x128 .f32) : FVec Ideal S128 .f32 :=
  multiReduction .add [0] S128 (select k0_pay161 (broadcastTo S128x128 (shapeCast S128x1 (stood kc) shapeCasts_S128x1_S128x1)
    broadcasts_S128x1_S128x128) (fill _ 0x00000000#32)) 0x00000000#32 reduces_S128x128_S128 (.inl rfl) rfl

/-- Which box of a block goes into which column, when `off` boxes were kept before the block. -/
def hot (kc : FVec Ideal S1x128 .f32) (off : Ideal .f32) : IVec S128x1024 1 :=
  andi (cmpf .oeq (broadcastTo S128x1024 (stood (select (cmpf .ogt kc (fill _ 0x00000000#32))
      (minimumf (subf (addf (broadcast S1x128 off) (shapeCast S1x128 (upTo kc) shapeCasts_S128_S1x128)) (fill _ 0x3F800000#32))
        (fill _ 0x447FC000#32)) (fill _ 0x447FC000#32))) broadcasts_S128x1_S128x1024)
      (broadcastTo S128x1024 k0_pay160 broadcasts_S1x1024_S128x1024))
    (broadcastTo S128x1024 (cmpf .ogt (stood kc) (fill S128x1 0x00000000#32)) broadcasts_S128x1_S128x1024)

/-- How many boxes were kept before the next block. -/
def more (kc : FVec Ideal S1x128 .f32) (off : Ideal .f32) : Ideal .f32 :=
  Scalar.addf off (extractAt ![0, 0, 0] (shapeCast S1x1x1 (multiReduction .add [1, 2] S1 (shapeCast S1x1x128 kc shapeCasts_S1x128_S1x1x128)
    0x00000000#32 reduces_S1x1x128_S1 (.inl rfl) rfl) shapeCasts_S1_S1x1x1) inpos_S1x1x1_p0_0_0)

/-- What a block puts into each column. -/
def put (b : ℕ) (hb : S16x128.Slices ![b, 0] S1x128) (m : IVec S128x1024 1) (v : FVec Ideal S16x128 .f32) : FVec Ideal S1x1024 .f32 :=
  shapeCast S1x1024 (multiReduction .add [0] S1024 (select m (broadcastTo S128x1024 (shapeCast S128x1 (stood (row b hb v))
    shapeCasts_S128x1_S128x1) broadcasts_S128x1_S128x1024) (fill _ 0x00000000#32)) 0x00000000#32 reduces_S128x1024_S1024 (.inl rfl) rfl)
    shapeCasts_S1024_S1x1024

/-- The packed rows after block `b`: x1, y1, x2, y2 and the score. -/
def pack (s x1 y1 x2 y2 : FVec Ideal S16x128 .f32) (b : Fin 16) (m : IVec S128x1024 1) (acc : FVec Ideal S5x1024 .f32) : FVec Ideal S5x1024 .f32 :=
  addf acc (concatenate S5x1024 0 [⟨S1x1024, put b.val (rows b) m x1⟩, ⟨S1x1024, put b.val (rows b) m y1⟩, ⟨S1x1024, put b.val (rows b) m x2⟩,
    ⟨S1x1024, put b.val (rows b) m y2⟩, ⟨S1x1024, put b.val (rows b) m s⟩] concatenates_S1x1024_S1x1024_S1x1024_S1x1024_S1x1024_S5x1024_d0)

/-- How many boxes are kept before block `n`. -/
def before (keep : FVec Ideal S16x128 .f32) : ℕ → Ideal .f32
  | 0 => Scalar.ofBits .f32 0x00000000#32
  | n + 1 => if h : n < 16 then more (row n (rows ⟨n, h⟩) keep) (before keep n) else before keep n

/-- The packed rows after `n` blocks. -/
def packed (s x1 y1 x2 y2 keep : FVec Ideal S16x128 .f32) : ℕ → FVec Ideal S5x1024 .f32
  | 0 => fill _ 0x00000000#32
  | n + 1 => if h : n < 16 then pack s x1 y1 x2 y2 ⟨n, h⟩ (hot (row n (rows ⟨n, h⟩) keep) (before keep n)) (packed s x1 y1 x2 y2 keep n)
      else packed s x1 y1 x2 y2 keep n

/-- How many boxes are kept in all. -/
def total (keep : FVec Ideal S16x128 .f32) : FVec Ideal S1x128 .f32 :=
  broadcast S1x128 (extractAt ![0, 0, 0] (shapeCast S1x1x1 (multiReduction .add [1, 2] S1 (shapeCast S1x16x128 keep shapeCasts_S16x128_S1x16x128)
    0x00000000#32 reduces_S1x16x128_S1 (.inl rfl) rfl) shapeCasts_S1_S1x1x1) inpos_S1x1x1_p0_0_0)

variable (c : Dev nD) (arg0 : Memref sig .tc .vmem S6x16x128 .f32) (harg0 : arg0.IsWhole) (arg1 : Memref sig .tc .vmem S5x1024 .f32) (harg1 : arg1.IsWhole)
  (arg2 : Memref sig .tc .vmem S1x128 .f32) (harg2 : arg2.IsWhole) (arg3 : Memref sig .tc .vmem S128x128 .f32) (harg3 : arg3.IsWhole)
  (x0 : Vec Ideal S6x16x128 .f32)

/-- A row of the final table. -/
def kept (b : Fin 16) : FVec Ideal S1x128 .f32 := row b.val (rows b) (r_96 c arg0 harg0 arg1 harg1 arg2 harg2 arg3 harg3 x0)

theorem more_0 : r_100 c arg0 harg0 arg1 harg1 arg2 harg2 arg3 harg3 x0 = more (kept c arg0 harg0 arg1 harg1 arg2 harg2 arg3 harg3 x0 0) (Scalar.ofBits (F := Ideal) .f32 0x00000000#32) := rfl
theorem pack_0 : r_105 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 0 (hot (kept c arg0 harg0 arg1 harg1 arg2 harg2 arg3 harg3 x0 0) (Scalar.ofBits (F := Ideal) .f32 0x00000000#32)) k0_pay162 := rfl

theorem more_1 : r_107 c arg0 harg0 arg1 harg1 arg2 harg2 arg3 harg3 x0 = more (kept c arg0 harg0 arg1 harg1 arg2 harg2 arg3 harg3 x0 1) (r_100 c arg0 harg0 arg1 harg1 arg2 harg2 arg3 harg3 x0) := rfl
theorem pack_1 : r_109 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 1 (hot (kept c arg0 harg0 arg1 harg1 arg2 harg2 arg3 harg3 x0 1) (r_100 c arg0 harg0 arg1 harg1 arg2 harg2 arg3 harg3 x0)) (r_105 c arg0 harg0 arg1 harg1 arg2 harg2 arg3 harg3 x0) := rfl

theorem more_2 : r_113 c arg0 harg0 arg1 harg1 arg2 harg2 arg3 harg3 x0 = more (kept c arg0 harg0 arg1 harg1 arg2 harg2 arg3 harg3 x0 2) (r_107 c arg0 harg0 arg1 harg1 arg2 harg2 arg3 harg3 x0) := rfl
theorem pack_2 : r_118 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 2 (hot (kept c arg0 harg0 arg1 harg1 arg2 harg2 arg3 harg3 x0 2) (r_107 c arg0 harg0 arg1 harg1 arg2 harg2 arg3 harg3 x0)) (r_109 c arg0 harg0 arg1 harg1 arg2 harg2 arg3 harg3 x0) := rfl

theorem more_3 : r_120 c arg0 harg0 arg1 harg1 arg2 harg2 arg3 harg3 x0 = more (kept c arg0 harg0 arg1 harg1 arg2 harg2 arg3 harg3 x0 3) (r_113 c arg0 harg0 arg1 harg1 arg2 harg2 arg3 harg3 x0) := rfl
theorem pack_3 : r_122 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 3 (hot (kept c arg0 harg0 arg1 harg1 arg2 harg2 arg3 harg3 x0 3) (r_113 c arg0 harg0 arg1 harg1 arg2 harg2 arg3 harg3 x0)) (r_118 c arg0 harg0 arg1 harg1 arg2 harg2 arg3 harg3 x0) := rfl

theorem more_4 : r_125 c arg0 harg0 arg1 harg1 arg2 harg2 arg3 harg3 x0 = more (kept c arg0 harg0 arg1 harg1 arg2 harg2 arg3 harg3 x0 4) (r_120 c arg0 harg0 arg1 harg1 arg2 harg2 arg3 harg3 x0) := rfl
theorem pack_4 : r_130 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 4 (hot (kept c arg0 harg0 arg1 harg1 arg2 harg2 arg3 harg3 x0 4) (r_120 c arg0 harg0 arg1 harg1 arg2 harg2 arg3 harg3 x0)) (r_122 c arg0 harg0 arg1 harg1 arg2 harg2 arg3 harg3 x0) := rfl

theorem more_5 : r_132 c arg0 harg0 arg1 harg1 arg2 harg2 arg3 harg3 x0 = more (kept c arg0 harg0 arg1 harg1 arg2 harg2 arg3 harg3 x0 5) (r_125 c arg0 harg0 arg1 harg1 arg2 harg2 arg3 harg3 x0) := rfl
theorem pack_5 : r_134 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 5 (hot (kept c arg0 harg0 arg1 harg1 arg2 harg2 arg3 harg3 x0 5) (r_125 c arg0 harg0 arg1 harg1 arg2 harg2 arg3 harg3 x0)) (r_130 c arg0 harg0 arg1 harg1 arg2 harg2 arg3 harg3 x0) := rfl

theorem more_6 : r_136 c arg0 harg0 arg1 harg1 arg2 harg2 arg3 harg3 x0 = more (kept c arg0 harg0 arg1 harg1 arg2 harg2 arg3 harg3 x0 6) (r_132 c arg0 harg0 arg1 harg1 arg2 harg2 arg3 harg3 x0) := rfl
theorem pack_6 : r_141 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 6 (hot (kept c arg0 harg0 arg1 harg1 arg2 harg2 arg3 harg3 x0 6) (r_132 c arg0 harg0 arg1 harg1 arg2 harg2 arg3 harg3 x0)) (r_134 c arg0 harg0 arg1 harg1 arg2 harg2 arg3 harg3 x0) := rfl

theorem more_7 : r_143 c arg0 harg0 arg1 harg1 arg2 harg2 arg3 harg3 x0 = more (kept c arg0 harg0 arg1 harg1 arg2 harg2 arg3 harg3 x0 7) (r_136 c arg0 harg0 arg1 harg1 arg2 harg2 arg3 harg3 x0) := rfl
theorem pack_7 : r_146 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 7 (hot (kept c arg0 harg0 arg1 harg1 arg2 harg2 arg3 harg3 x0 7) (r_136 c arg0 harg0 arg1 harg1 arg2 harg2 arg3 harg3 x0)) (r_141 c arg0 harg0 arg1 harg1 arg2 harg2 arg3 harg3 x0) := rfl

theorem more_8 : r_147 c arg0 harg0 arg1 harg1 arg2 harg2 arg3 harg3 x0 = more (kept c arg0 harg0 arg1 harg1 arg2 harg2 arg3 harg3 x0 8) (r_143 c arg0 harg0 arg1 harg1 arg2 harg2 arg3 harg3 x0) := rfl
theorem pack_8 : r_151 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 8 (hot (kept c arg0 harg0 arg1 harg1 arg2 harg2 arg3 harg3 x0 8) (r_143 c arg0 harg0 arg1 harg1 arg2 harg2 arg3 harg3 x0)) (r_146 c arg0 harg0 arg1 harg1 arg2 harg2 arg3 harg3 x0) := rfl

theorem more_9 : r_153 c arg0 harg0 arg1 harg1 arg2 harg2 arg3 harg3 x0 = more (kept c arg0 harg0 arg1 harg1 arg2 harg2 arg3 harg3 x0 9) (r_147 c arg0 harg0 arg1 harg1 arg2 harg2 arg3 harg3 x0) := rfl
theorem pack_9 : r_161 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 9 (hot (kept c arg0 harg0 arg1 harg1 arg2 harg2 arg3 harg3 x0 9) (r_147 c arg0 harg0 arg1 harg1 arg2 harg2 arg3 harg3 x0)) (r_151 c arg0 harg0 arg1 harg1 arg2 harg2 arg3 harg3 x0) := rfl

theorem more_10 : r_162 c arg0 harg0 arg1 harg1 arg2 harg2 arg3 harg3 x0 = more (kept c arg0 harg0 arg1 harg1 arg2 harg2 arg3 harg3 x0 10) (r_153 c arg0 harg0 arg1 harg1 arg2 harg2 arg3 harg3 x0) := rfl
theorem pack_10 : r_166 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 10 (hot (kept c arg0 harg0 arg1 harg1 arg2 harg2 arg3 harg3 x0 10) (r_153 c arg0 harg0 arg1 harg1 arg2 harg2 arg3 harg3 x0)) (r_161 c arg0 harg0 arg1 harg1 arg2 harg2 arg3 harg3 x0) := rfl

theorem more_11 : r_169 c arg0 harg0 arg1 harg1 arg2 harg2 arg3 harg3 x0 = more (kept c arg0 harg0 arg1 harg1 arg2 harg2 arg3 harg3 x0 11) (r_162 c arg0 harg0 arg1 harg1 arg2 harg2 arg3 harg3 x0) := rfl
theorem pack_11 : r_176 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 11 (hot (kept c arg0 harg0 arg1 harg1 arg2 harg2 arg3 harg3 x0 11) (r_162 c arg0 harg0 arg1 harg1 arg2 harg2 arg3 harg3 x0)) (r_166 c arg0 harg0 arg1 harg1 arg2 harg2 arg3 harg3 x0) := rfl

theorem more_12 : r_177 c arg0 harg0 arg1 harg1 arg2 harg2 arg3 harg3 x0 = more (kept c arg0 harg0 arg1 harg1 arg2 harg2 arg3 harg3 x0 12) (r_169 c arg0 harg0 arg1 harg1 arg2 harg2 arg3 harg3 x0) := rfl
theorem pack_12 : r_181 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 12 (hot (kept c arg0 harg0 arg1 harg1 arg2 harg2 arg3 harg3 x0 12) (r_169 c arg0 harg0 arg1 harg1 arg2 harg2 arg3 harg3 x0)) (r_176 c arg0 harg0 arg1 harg1 arg2 harg2 arg3 harg3 x0) := rfl

theorem more_13 : r_184 c arg0 harg0 arg1 harg1 arg2 harg2 arg3 harg3 x0 = more (kept c arg0 harg0 arg1 harg1 arg2 harg2 arg3 harg3 x0 13) (r_177 c arg0 harg0 arg1 harg1 arg2 harg2 arg3 harg3 x0) := rfl
theorem pack_13 : r_192 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 13 (hot (kept c arg0 harg0 arg1 harg1 arg2 harg2 arg3 harg3 x0 13) (r_177 c arg0 harg0 arg1 harg1 arg2 harg2 arg3 harg3 x0)) (r_181 c arg0 harg0 arg1 harg1 arg2 harg2 arg3 harg3 x0) := rfl

theorem more_14 : r_193 c arg0 harg0 arg1 harg1 arg2 harg2 arg3 harg3 x0 = more (kept c arg0 harg0 arg1 harg1 arg2 harg2 arg3 harg3 x0 14) (r_184 c arg0 harg0 arg1 harg1 arg2 harg2 arg3 harg3 x0) := rfl
theorem pack_14 : r_197 c arg0 harg0 arg1 harg1 arg2 harg2 arg3 harg3 x0 =
    pack (r c arg0 harg0 x0) (r_1 c arg0 harg0 x0) (r_2 c arg0 harg0 x0) (r_3 c arg0 harg0 x0) (r_4 c arg0 harg0 x0) 14 (hot (kept c arg0 harg0 arg1 harg1 arg2 harg2 arg3 harg3 x0 14) (r_184 c arg0 harg0 arg1 harg1 arg2 harg2 arg3 harg3 x0)) (r_192 c arg0 harg0 arg1 harg1 arg2 harg2 arg3 harg3 x0) := rfl

theorem pack_15 : k0_pay1 (r_197 c arg0 harg0 arg1 harg1 arg2 harg2 arg3 harg3 x0) (r_201 c arg0 harg0 arg1 harg1 arg2 harg2 arg3 harg3 x0) (r_202 c arg0 harg0 arg1 harg1 arg2 harg2 arg3 harg3 x0)
    (r_203 c arg0 harg0 arg1 harg1 arg2 harg2 arg3 harg3 x0) (r_204 c arg0 harg0 arg1 harg1 arg2 harg2 arg3 harg3 x0) (r_205 c arg0 harg0 arg1 harg1 arg2 harg2 arg3 harg3 x0) =
    pack (r c arg0 harg0 x0) (r_1 c arg0 harg0 x0) (r_2 c arg0 harg0 x0) (r_3 c arg0 harg0 x0) (r_4 c arg0 harg0 x0) 15 (hot (kept c arg0 harg0 arg1 harg1 arg2 harg2 arg3 harg3 x0 15) (r_193 c arg0 harg0 arg1 harg1 arg2 harg2 arg3 harg3 x0)) (r_197 c arg0 harg0 arg1 harg1 arg2 harg2 arg3 harg3 x0) := rfl

theorem total_eq : k0_pay159 k0_pay9 k0_pay10 (r_91 c arg0 harg0 arg1 harg1 arg2 harg2 arg3 harg3 x0) (r_94 c arg0 harg0 x0) (r_95 c arg0 harg0 arg1 harg1 arg2 harg2 arg3 harg3 x0)
    = total (r_96 c arg0 harg0 arg1 harg1 arg2 harg2 arg3 harg3 x0) := rfl

theorem packed_eq : k0_pay1 (r_197 c arg0 harg0 arg1 harg1 arg2 harg2 arg3 harg3 x0) (r_201 c arg0 harg0 arg1 harg1 arg2 harg2 arg3 harg3 x0) (r_202 c arg0 harg0 arg1 harg1 arg2 harg2 arg3 harg3 x0)
    (r_203 c arg0 harg0 arg1 harg1 arg2 harg2 arg3 harg3 x0) (r_204 c arg0 harg0 arg1 harg1 arg2 harg2 arg3 harg3 x0) (r_205 c arg0 harg0 arg1 harg1 arg2 harg2 arg3 harg3 x0)
    = packed (r c arg0 harg0 x0) (r_1 c arg0 harg0 x0) (r_2 c arg0 harg0 x0) (r_3 c arg0 harg0 x0) (r_4 c arg0 harg0 x0) (r_96 c arg0 harg0 arg1 harg1 arg2 harg2 arg3 harg3 x0) 16 := by
  rw [pack_15, pack_14, pack_13, pack_12, pack_11, pack_10, pack_9, pack_8, pack_7, pack_6, pack_5, pack_4, pack_3, pack_2, pack_1, pack_0,
    more_14, more_13, more_12, more_11, more_10, more_9, more_8, more_7, more_6, more_5, more_4, more_3, more_2, more_1, more_0]
  rfl

end Cert.Nms

end
-- ==== Proof.NmsRank.lean ====
/- The entries of the packed rows: the kept box whose rank is a column's number, in that column. -/
module

public import proofs.«01_k».proof.Proof.NmsPack

@[expose] public section

set_option maxRecDepth 16384

noncomputable section

namespace Cert.Nms

open Idealize.ShloMosaic Idealize.ShloMosaic.TcCoe
open Cert.Kernel2Ideal Cert.Kernel2Ideal.Gen
open Classical

/-! ### Counting -/

theorem sum_ind (P : ℕ → Prop) (N : ℕ) : (∑ i : Fin N, ind (P i.val)) = num (Nat.count P N) := by
  induction N with
  | zero => simp [num_zero]
  | succ N ih =>
    rw [Fin.sum_univ_castSucc]
    simp only [Fin.val_castSucc, Fin.val_last]
    rw [ih, Nat.count_succ, ← num_add]
    by_cases h : P N
    · rw [ind_true h, if_pos h, num_one]
    · rw [ind_false h, if_neg h, num_zero]

/-- The boxes of a block up to one of them, after those before the block. -/
theorem count_upTo (K : ℕ → Prop) (a j : ℕ) (hj : j < 128) :
    Nat.count K a + Nat.count (fun n => n ≤ j ∧ K (a + n)) 128 = Nat.count K (a + j + 1) := by
  rw [Nat.add_assoc a j 1, Nat.count_add K a (j + 1)]
  congr 1
  rw [Nat.count_eq_card_filter_range, Nat.count_eq_card_filter_range]
  congr 1
  ext n
  simp only [Finset.mem_filter, Finset.mem_range]
  constructor
  · rintro ⟨_, h, hk⟩; exact ⟨by omega, hk⟩
  · rintro ⟨h, hk⟩; exact ⟨by omega, by omega, hk⟩

/-! ### Entries -/

theorem upTo_apply (kc : FVec Ideal S1x128 .f32) (j : Fin 128) :
    upTo kc (ix1 j) = ∑ i : Fin 128, if i ≤ j then kc (ix2 0 i) else 0 := by
  unfold upTo stood fill k0_pay161
  pointwise
  refine Finset.sum_congr rfl fun i _ => ?_
  have e : IntOp.cmpi .sle (BitVec.ofNat 32 i.val) (BitVec.ofNat 32 j.val) = BitVec.ofBool (decide (i ≤ j)) := by
    revert i j; decide +kernel
  rw [e]
  by_cases h : i ≤ j <;> simp [h, Scalar.select]

theorem hot_apply (kc : FVec Ideal S1x128 .f32) (off : EReal) (j : Fin 128) (k : Fin 1024) (x y : EReal) :
    Scalar.select (hot kc off (ix2 j k)) x y = if (if 0 < kc (ix2 0 j) then min (off + upTo kc (ix1 j) - 1) (num 1023)
      else num 1023) = num k.val ∧ 0 < kc (ix2 0 j) then x else y := by
  have e : Ideal.ofBits .f32 0x447FC000#32 = num 1023 := by
    simp [Ideal.ofBits, Ideal.ieee, num, -EReal.coe_mul]; norm_num
  unfold hot stood fill k0_pay160
  pointwise
  rw [andi_bool]
  refine if_congr (and_congr (iff_of_eq ?_) Iff.rfl) rfl rfl
  rw [sitofp_num _ (by omega), e]

theorem put_apply (b : Fin 16) (m : IVec S128x1024 1) (v : FVec Ideal S16x128 .f32) (k : Fin 1024) :
    put b.val (rows b) m v (ix2 0 k) = ∑ j : Fin 128, Scalar.select (m (ix2 j k)) (v (ix2 b j)) 0 := by
  unfold put stood row fill
  pointwise

theorem more_apply (kc : FVec Ideal S1x128 .f32) (off : EReal) : more kc off = off + ∑ j : Fin 128, kc (ix2 0 j) := by
  unfold more
  pointwise
  rw [Fintype.sum_unique]

theorem total_apply (keep : FVec Ideal S16x128 .f32) (j : Fin 128) : total keep (ix2 0 j) = ∑ b : Fin 16, ∑ l : Fin 128, keep (ix2 b l) := by
  unfold total
  pointwise

/-- The rows that are packed. -/
def src (s x1 y1 x2 y2 : FVec Ideal S16x128 .f32) : Fin 5 → FVec Ideal S16x128 .f32 := ![x1, y1, x2, y2, s]

theorem pack_apply (s x1 y1 x2 y2 : FVec Ideal S16x128 .f32) (b : Fin 16) (m : IVec S128x1024 1) (acc : FVec Ideal S5x1024 .f32)
    (r : Fin 5) (k : Fin 1024) : pack s x1 y1 x2 y2 b m acc (ix2 r k)
      = acc (ix2 r k) + put b.val (rows b) m (src s x1 y1 x2 y2 r) (ix2 0 k) := by
  fin_cases r
  all_goals
    unfold pack
    pointwise
    rfl

/-! ### The kept boxes -/

section
variable (keep : FVec Ideal S16x128 .f32) (K : ℕ → Prop) (hK : ∀ (b : Fin 16) (l : Fin 128), keep (ix2 b l) = ind (K (128 * b.val + l.val)))
include hK

theorem before_spec (n : ℕ) (hn : n ≤ 16) : before keep n = num (Nat.count K (128 * n)) := by
  induction n with
  | zero => simp [before, Scalar.ofBits, FloatOps.ofBits, num_zero]
  | succ n ih =>
    rw [before, dif_pos (show n < 16 from hn), more_apply, ih (by omega)]
    simp only [row_apply ⟨n, hn⟩, hK]
    rw [sum_ind (fun i => K (128 * n + i)), num_add, Nat.mul_succ, Nat.count_add]

theorem total_spec (j : Fin 128) : total keep (ix2 0 j) = num (Nat.count K 2048) := by
  rw [total_apply]
  simp only [hK]
  have : ∀ n, (∑ b : Fin n, ∑ l : Fin 128, ind (K (128 * b.val + l.val))) = num (Nat.count K (128 * n)) := by
    intro n
    induction n with
    | zero => simp [num_zero]
    | succ n ih =>
      rw [Fin.sum_univ_castSucc]
      simp only [Fin.val_castSucc, Fin.val_last]
      rw [ih, sum_ind (fun i => K (128 * n + i)), num_add, Nat.mul_succ, Nat.count_add]
  exact this 16

theorem upTo_spec (b : Fin 16) (j : Fin 128) :
    before keep b.val + upTo (row b.val (rows b) keep) (ix1 j) = num (Nat.count K (128 * b.val + j.val + 1)) := by
  rw [before_spec keep K hK b.val (by omega), upTo_apply]
  have e : ∀ i : Fin 128, (if i ≤ j then row b.val (rows b) keep (ix2 0 i) else 0) = ind (i.val ≤ j.val ∧ K (128 * b.val + i.val)) := by
    intro i
    rw [row_apply, hK]
    by_cases h : i ≤ j
    · rw [if_pos h]; exact ind_congr ⟨fun hk => ⟨h, hk⟩, fun hk => hk.2⟩
    · rw [if_neg h, ind_false fun hk => h hk.1]
  rw [Finset.sum_congr rfl fun i _ => e i, sum_ind (fun i => i ≤ j.val ∧ K (128 * b.val + i)), num_add]
  have h := count_upTo K (128 * b.val) j.val j.isLt
  exact congrArg num (by convert h using 3)

/-- A kept box goes into the column that is its rank. -/
theorem hot_spec (b : Fin 16) (j : Fin 128) (k : Fin 1024) (hk : k.val < 1023) (x : EReal) :
    Scalar.select (hot (row b.val (rows b) keep) (before keep b.val) (ix2 j k)) x 0
      = if K (128 * b.val + j.val) ∧ Nat.count K (128 * b.val + j.val) = k.val then x else 0 := by
  rw [hot_apply]
  refine if_congr ?_ rfl rfl
  rw [upTo_spec keep K hK, row_apply, hK, and_comm]
  refine (and_congr ind_pos Iff.rfl).trans (and_congr_right fun h => ?_)
  have e : num (Nat.count K (128 * b.val + j.val + 1)) - 1 = num (Nat.count K (128 * b.val + j.val)) := by
    rw [Nat.count_succ, if_pos h, ← num_one, num, num, num, ← EReal.coe_sub]
    refine congrArg _ ?_
    push_cast
    ring
  rw [if_pos (ind_pos.mpr h), e]
  rcases le_or_gt (Nat.count K (128 * b.val + j.val)) 1023 with h' | h'
  · rw [min_eq_left (num_le.mpr h'), num_inj]
  · rw [min_eq_right (num_le.mpr h'.le), num_inj]
    omega

/-- Each column of the packed rows: the box with that rank, or nothing. -/
theorem packed_spec (s x1 y1 x2 y2 : FVec Ideal S16x128 .f32) (r : Fin 5) (k : Fin 1024) (hk : k.val < 1023) (n : ℕ) (hn : n ≤ 16) :
    (∀ (b : Fin 16) (j : Fin 128), b.val < n → K (128 * b.val + j.val) → Nat.count K (128 * b.val + j.val) = k.val →
      packed s x1 y1 x2 y2 keep n (ix2 r k) = src s x1 y1 x2 y2 r (ix2 b j)) ∧
    ((∀ (b : Fin 16) (j : Fin 128), b.val < n → ¬ (K (128 * b.val + j.val) ∧ Nat.count K (128 * b.val + j.val) = k.val)) →
      packed s x1 y1 x2 y2 keep n (ix2 r k) = 0) := by
  induction n with
  | zero =>
    refine ⟨fun b j h => absurd h (Nat.not_lt_zero _), fun _ => ?_⟩
    unfold packed fill
    pointwise
  | succ n ih =>
    obtain ⟨ih1, ih2⟩ := ih (by omega)
    have e : packed s x1 y1 x2 y2 keep (n + 1) (ix2 r k) = packed s x1 y1 x2 y2 keep n (ix2 r k)
        + ∑ j : Fin 128, if K (128 * n + j.val) ∧ Nat.count K (128 * n + j.val) = k.val then src s x1 y1 x2 y2 r (ix2 ⟨n, hn⟩ j) else 0 := by
      rw [packed, dif_pos (show n < 16 from hn), pack_apply, put_apply ⟨n, hn⟩]
      exact congrArg _ (Finset.sum_congr rfl fun j _ => hot_spec keep K hK ⟨n, hn⟩ j k hk _)
    constructor
    · intro b j hb h1 h2
      rw [e]
      rcases Nat.lt_succ_iff_lt_or_eq.mp hb with hb | hb
      · rw [ih1 b j hb h1 h2, Finset.sum_eq_zero, add_zero]
        intro i _
        refine if_neg fun h => ?_
        have := Greedy.rank_inj K h.1 h1 (h.2.trans h2.symm)
        omega
      · subst hb
        rw [ih2, zero_add, Finset.sum_eq_single j, if_pos ⟨h1, h2⟩]
        · intro i _ hi
          refine if_neg fun h => hi (Fin.ext ?_)
          have := Greedy.rank_inj K h.1 h1 (h.2.trans h2.symm)
          omega
        · exact fun h => absurd (Finset.mem_univ j) h
        · intro b' j' hb' h
          have := Greedy.rank_inj K h.1 h1 (h.2.trans h2.symm)
          omega
    · intro h
      rw [e, ih2 fun b j hb => h b j (by omega), zero_add]
      exact Finset.sum_eq_zero fun j _ => if_neg (h ⟨n, hn⟩ j (Nat.lt_succ_self n))

end

end Cert.Nms

end
-- ==== Proof.NmsRegion.lean ====
/- What the region leaves in its two result arrays, from the table it is given. -/
module

public import proofs.«01_k».proof.Proof.NmsRank
public import proofs.«01_k».proof.Proof.Gen.Kernel2Ideal.Run
public import Idealize.ShloMosaic.Lib.Pipeline.ValueKit
public import Idealize.ShloMosaic.Lib.StableHlo.RunClose

@[expose] public section

set_option maxRecDepth 16384

noncomputable section

namespace Cert.Nms

open Idealize.ShloMosaic Idealize.ShloMosaic.TcCoe
open Cert.Kernel2Ideal Cert.Kernel2Ideal.Gen Cert.Kernel2Ideal.Gen.kernelRun0_A.sl

section
variable (c : Dev nD) (arg0 : Memref sig .tc .vmem S6x16x128 .f32) (harg0 : arg0.IsWhole) (arg1 : Memref sig .tc .vmem S5x1024 .f32) (harg1 : arg1.IsWhole)
  (arg2 : Memref sig .tc .vmem S1x128 .f32) (harg2 : arg2.IsWhole) (arg3 : Memref sig .tc .vmem S128x128 .f32) (harg3 : arg3.IsWhole)
  (x0 : Vec Ideal S6x16x128 .f32)

/-- The stored rows. -/
theorem out_1 : out0_A_1 c arg0 harg0 arg1 harg1 arg2 harg2 arg3 harg3 x0
    = packed (r c arg0 harg0 x0) (r_1 c arg0 harg0 x0) (r_2 c arg0 harg0 x0) (r_3 c arg0 harg0 x0) (r_4 c arg0 harg0 x0)
      (table c arg0 harg0 x0 16) 16 := by
  rw [← table_eq c arg0 harg0 arg1 harg1 arg2 harg2 arg3 harg3 x0, ← packed_eq]
  unfold out0_A_1 kernelRun0_A
  exact View.read_writes_full _ _ _ _ _

/-- The stored count. -/
theorem out_2 : out0_A_2 c arg0 harg0 arg1 harg1 arg2 harg2 arg3 harg3 x0 = total (table c arg0 harg0 x0 16) := by
  rw [← table_eq c arg0 harg0 arg1 harg1 arg2 harg2 arg3 harg3 x0, ← total_eq]
  unfold out0_A_2 kernelRun0_A
  exact View.read_writes_full _ _ _ _ _

/-- A row of the table the kernel is given. -/
def plane (k : Fin 6) : FVec Ideal S16x128 .f32 := fun i => x0 (ix3 k (i 0) (i 1))

theorem drop_apply (v : FVec Ideal S1x16x128 .f32) (b : Fin 16) (l : Fin 128) :
    shapeCast S16x128 v shapeCasts_S1x16x128_S16x128 (ix2 b l) = v (ix3 0 b l) := by
  pointwise

/-- A loaded row. -/
theorem load_eq (k : Fin 6) (inb : ∀ a, (![k.val, 0, 0] : Fin 3 → ℕ) a + S1x16x128.size a ≤ S6x16x128.size a) :
    shapeCast S16x128 (View.readAt (Elt Ideal) arg0.view (Rect.unit (s := S6x16x128) ![k.val, 0, 0] S1x16x128.size inb).toLoadRect (harg0.unread x0))
      shapeCasts_S1x16x128_S16x128 = plane x0 k := by
  funext i
  obtain ⟨b, l, rfl⟩ : ∃ (b : Fin 16) (l : Fin 128), i = ix2 b l := ⟨i 0, i 1, funext fun a => match a with | ⟨0, _⟩ => rfl | ⟨1, _⟩ => rfl⟩
  refine (drop_apply _ b l).trans ?_
  show arg0.view.read (Elt Ideal) (harg0.unread x0) _ = _
  rw [harg0.read_unread]
  refine congrArg x0 (funext fun a => Fin.ext ?_)
  match a with
  | ⟨0, _⟩ => show k.val + 1 * 0 = k.val; omega
  | ⟨1, _⟩ => show 0 + 1 * b.val = b.val; omega
  | ⟨2, _⟩ => show 0 + 1 * l.val = l.val; omega

theorem r_eq : r c arg0 harg0 x0 = plane x0 0 := load_eq arg0 harg0 x0 0 _
theorem r_1_eq : r_1 c arg0 harg0 x0 = plane x0 1 := load_eq arg0 harg0 x0 1 _
theorem r_2_eq : r_2 c arg0 harg0 x0 = plane x0 2 := load_eq arg0 harg0 x0 2 _
theorem r_3_eq : r_3 c arg0 harg0 x0 = plane x0 3 := load_eq arg0 harg0 x0 3 _
theorem r_4_eq : r_4 c arg0 harg0 x0 = plane x0 4 := load_eq arg0 harg0 x0 4 _
theorem r_5_eq : r_5 c arg0 harg0 x0 = mulf (subf (plane x0 3) (plane x0 1)) (subf (plane x0 4) (plane x0 2)) := by
  rw [← r_1_eq c arg0 harg0, ← r_2_eq c arg0 harg0, ← r_3_eq c arg0 harg0, ← r_4_eq c arg0 harg0]
  rfl

/-- The first table: the flags of the boxes there are. -/
theorem r_6_apply (b : Fin 16) (l : Fin 128) :
    r_6 c arg0 harg0 x0 (ix2 b l) = if 128 * b.val + l.val < 2000 then x0 (ix3 5 b l) else 0 := by
  have e : Ideal.ofBits .f32 0x44FA0000#32 = num 2000 := by
    simp [Ideal.ofBits, Ideal.ieee, num, -EReal.coe_mul]; norm_num
  have h : r_6 c arg0 harg0 x0 = select (cmpf .olt k0_pay10 (fill _ 0x44FA0000#32)) (plane x0 5) (fill _ 0x00000000#32) := by
    rw [← load_eq arg0 harg0 x0 5 inb_S6x16x128_S1x16x128_5_0_0]
    rfl
  rw [h]
  unfold fill
  pointwise
  rw [pay10_apply, e]
  exact if_congr num_lt rfl rfl

end

/-! ### The arrays -/

variable (m : (ℓ : Loc nD τ sig) → Buf (Elt Ideal) ℓ) (c : Dev nD)

/-- The table given. -/
abbrev tbl : FVec Ideal S6x2048 .f32 := m ((c.tc : Thread nD τ).loc main_arg0)

/-- The input window's one block is the table, its rows folded. -/
theorem blk_0 (k : Fin 6) (b : Fin 16) (l : Fin 128) :
    iblk m c 0 t0_0 (ix3 k b l) = tbl m c (ix2 k ⟨128 * b.val + l.val, by omega⟩) := by
  have e : win0_0.index t0_0 = ![0, 0, 0] := by decide +kernel
  have h : iblk m c 0 t0_0 = V m c main_v0 := by
    funext i
    blk_simp [iblk]
    exact congrArg _ (by blk_ext [e])
  have h' : V m c main_v0 = shapeCast _ (tbl m c) shapeCasts_S6x2048_S6x16x128 := by
    show StableHlo.after (List.flatten [hostOps0]) (fun b => m (c, b)) (Proc.devRef .tc main_v0) = _
    simp only [hostOps0, List.flatten_cons, List.flatten_nil, List.append_nil]
    after_results <;> rfl
  rw [h, h']
  exact shapeCast_apply _ _ _ _ (by
    rewrite [Shape.rowMajor_val_three, Shape.rowMajor_val_two]
    show k.val * 2048 + (128 * b.val + l.val) = (k.val * 16 + b.val) * 128 + l.val; omega)

theorem reg_0 : Value.reg_main_v1_0 m c = out0_A_1 c (ms0_0 t0_0) (hs0_0 t0_0) (ms0_1 t0_0) (hs0_1 t0_0) (ms0_2 t0_0) (hs0_2 t0_0)
    scM0_0 (Memref.isWhole_whole _) (iblk m c 0 t0_0) := by
  unfold Value.reg_main_v1_0
  refine (dats m 0 c).arrAt_eq_of_after_last 1 t0_0 (by decide +kernel) _ fun j => ?_
  rw [after0_1]
  unfold outsAt0
  dsimp only
  generalize out0_A_1 (F := Ideal) c _ _ _ _ _ _ _ _ _ = z
  rfl

theorem reg_1 : Value.reg_main_v1_1 m c = out0_A_2 c (ms0_0 t0_0) (hs0_0 t0_0) (ms0_1 t0_0) (hs0_1 t0_0) (ms0_2 t0_0) (hs0_2 t0_0)
    scM0_0 (Memref.isWhole_whole _) (iblk m c 0 t0_0) := by
  unfold Value.reg_main_v1_1
  refine (dats m 0 c).arrAt_eq_of_after_last 2 t0_0 (by decide +kernel) _ fun j => ?_
  rw [after0_2]
  unfold outsAt0
  dsimp only
  generalize out0_A_2 (F := Ideal) c _ _ _ _ _ _ _ _ _ = z
  rfl

end Cert.Nms

end
-- ==== Proof.NmsChoice.lean ====
/- Which boxes of a table of scores, corners and flags are kept: what the kernel and the reference both compute. -/
module

public import proofs.«01_k».proof.Proof.NmsBlock

@[expose] public section

noncomputable section

namespace Cert.Nms

open Classical

/-- A table's rows: the score, the four corner coordinates and the flag of each box. -/
abbrev Table := Fin 6 → Fin 2048 → EReal

variable (t : Table)

/-- The area of a box. -/
def area (g : Fin 2048) : EReal := (t 3 g - t 1 g) * (t 4 g - t 2 g)

/-- How much two boxes of the table overlap. -/
def overlap (i j : Fin 2048) : EReal :=
  iou (t 1 i) (t 2 i) (t 3 i) (t 4 i) (area t i) (t 1 j) (t 2 j) (t 3 j) (t 4 j) (area t j)

/-- The box is one of the 2000 and its flag is set. -/
def Flagged (g : ℕ) : Prop := ∃ h : g < 2000, 0 < t 5 ⟨g, by omega⟩

/-- Two of the 2000 boxes overlap too much. -/
def Clash (i j : ℕ) : Prop := ∃ (hi : i < 2000) (hj : j < 2000), thr < overlap t ⟨i, by omega⟩ ⟨j, by omega⟩

/-- The box is kept. -/
def Kept (g : ℕ) : Prop := Greedy.left (Flagged t) (Clash t) 2000 g

theorem kept_lt {g : ℕ} (h : Kept t g) : g < 2000 := (Greedy.left_valid _ _ h).1

/-- No box behind the 2000 is kept. -/
theorem count_kept : Nat.count (Kept t) 2048 = Nat.count (Kept t) 2000 := by
  refine (Nat.count_add _ 2000 48).trans ?_
  rw [Nat.count_of_forall_not (p := fun n => Kept t (2000 + n)) fun n _ h => absurd (kept_lt t h) (by omega), Nat.add_zero]

/-- Entry `k` of a list of the kept boxes' values: the value of the box of rank `k`, or zero behind the last. -/
def Lists (f : Fin 2048 → EReal) (k : ℕ) (z : EReal) : Prop :=
  (∀ (g : ℕ) (h : g < 2000), Kept t g → Nat.count (Kept t) g = k → z = f ⟨g, by omega⟩) ∧ (Nat.count (Kept t) 2000 ≤ k → z = 0)

/-- That says what the entry is. -/
theorem Lists.unique {f : Fin 2048 → EReal} {k : ℕ} {z z' : EReal} (h : Lists t f k z) (h' : Lists t f k z') : z = z' := by
  rcases Nat.lt_or_ge k (Nat.count (Kept t) 2000) with hk | hk
  · obtain ⟨g, hg, h1, h2⟩ := Greedy.exists_rank (Kept t) hk
    exact (h.1 g hg h1 h2).trans (h'.1 g hg h1 h2).symm
  · exact (h.2 hk).trans (h'.2 hk).symm

end Cert.Nms

end
-- ==== Proof.NmsValue.lean ====
/- The kernel's two results list the kept boxes and their scores. -/
module

public import proofs.«01_k».proof.Proof.NmsRegion
public import proofs.«01_k».proof.Proof.NmsChoice

@[expose] public section

set_option maxRecDepth 16384

noncomputable section

namespace Cert.Nms

open Idealize.ShloMosaic Idealize.ShloMosaic.TcCoe
open Cert.Kernel2Ideal Cert.Kernel2Ideal.Gen Cert.Kernel2Ideal.Gen.kernelRun0_A.sl
open Classical

/-- An argument array's rows. -/
def ofArray (v : FVec Ideal S6x2048 .f32) : Table := fun k g => v (ix2 k g)

section
variable (c : Dev nD) (arg0 : Memref sig .tc .vmem S6x16x128 .f32) (harg0 : arg0.IsWhole) (x0 : Vec Ideal S6x16x128 .f32) (t : Table)
  (hx : ∀ (k : Fin 6) (b : Fin 16) (l : Fin 128), x0 (ix3 k b l) = t k ⟨128 * b.val + l.val, by omega⟩)
  (hf : ∀ g : Fin 2048, g.val < 2000 → t 5 g = 0 ∨ t 5 g = 1)
include hx hf

/-- The final table holds the kept boxes. -/
theorem kept_spec (b : Fin 16) (l : Fin 128) : table c arg0 harg0 x0 16 (ix2 b l) = ind (Kept t (128 * b.val + l.val)) := by
  have hV : ∀ (b : Fin 16) (l : Fin 128), r_6 c arg0 harg0 x0 (ix2 b l) = ind (Flagged t (128 * b.val + l.val)) := by
    intro b l
    rw [r_6_apply, hx]
    by_cases h : 128 * b.val + l.val < 2000
    · rw [if_pos h]
      rcases hf ⟨128 * b.val + l.val, by omega⟩ h with e | e
      · rw [e, ind_false]
        rintro ⟨_, h0⟩
        rw [e] at h0
        exact lt_irrefl _ h0
      · rw [e, ind_true]
        exact ⟨h, by rw [e]; exact zero_lt_one⟩
    · rw [if_neg h, ind_false]
      exact fun h' => h h'.1
  rw [table_spec c arg0 harg0 x0 _ hV 16 le_rfl]
  refine ind_congr ((Greedy.left_congr _ _ (O' := Clash t) ?_ _ _).trans ?_)
  · intro i j hi hj
    have e : ∀ (k : Fin 6) (g : ℕ) (hg : g < 2048), plane x0 k (ix2 ⟨g / 128, by omega⟩ ⟨g % 128, by omega⟩) = t k ⟨g, hg⟩ := by
      intro k g hg
      refine (hx k _ _).trans (congrArg (t k) (Fin.ext ?_))
      show 128 * (g / 128) + g % 128 = g
      omega
    have h1 := hi.1
    have h2 := hj.1
    rw [r_1_eq, r_2_eq, r_3_eq, r_4_eq, r_5_eq]
    unfold tooMuch Clash overlap area
    simp only [subf_apply, mulf_apply]
    constructor
    · rintro ⟨h3, h4, h⟩
      refine ⟨h1, h2, ?_⟩
      simp only [e _ _ h3, e _ _ h4] at h
      exact h
    · rintro ⟨h3, h4, h⟩
      refine ⟨by omega, by omega, ?_⟩
      simp only [e _ i (by omega), e _ j (by omega)]
      exact h
  · show Greedy.left (Flagged t) (Clash t) 2048 _ ↔ Greedy.left (Flagged t) (Clash t) 2000 _
    by_cases h : 128 * b.val + l.val < 2000
    · rw [Greedy.left_stable _ _ (show 128 * b.val + l.val ≤ 2048 by omega), Greedy.left_stable _ _ h.le]
    · exact ⟨fun h' => absurd (Greedy.left_valid _ _ h').1 h, fun h' => absurd (Greedy.left_valid _ _ h').1 h⟩

/-- The count. -/
theorem total_kept (j : Fin 128) : total (table c arg0 harg0 x0 16) (ix2 0 j) = num (Nat.count (Kept t) 2000) := by
  rw [total_spec _ (Kept t) (kept_spec c arg0 harg0 x0 t hx hf), count_kept]

/-- The packed rows: in column `k` the row's value of the box of rank `k`. -/
theorem packed_kept (r' : Fin 5) (q : Fin 6) (hq : src (plane x0 0) (plane x0 1) (plane x0 2) (plane x0 3) (plane x0 4) r' = plane x0 q)
    (k : Fin 1024) (hk : k.val < 1023) (g : ℕ) (hg : g < 2000) (h1 : Kept t g) (h2 : Nat.count (Kept t) g = k.val) :
    packed (r c arg0 harg0 x0) (r_1 c arg0 harg0 x0) (r_2 c arg0 harg0 x0) (r_3 c arg0 harg0 x0) (r_4 c arg0 harg0 x0)
      (table c arg0 harg0 x0 16) 16 (ix2 r' k) = t q ⟨g, by omega⟩ := by
  have e : 128 * (g / 128) + g % 128 = g := by omega
  rw [r_eq, r_1_eq, r_2_eq, r_3_eq, r_4_eq]
  refine ((packed_spec _ (Kept t) (kept_spec c arg0 harg0 x0 t hx hf) _ _ _ _ _ r' k hk 16 le_rfl).1 ⟨g / 128, by omega⟩ ⟨g % 128, by omega⟩
    (by show g / 128 < 16; omega) ?_ ?_).trans ?_
  · show Kept t (128 * (g / 128) + g % 128); rw [e]; exact h1
  · show Nat.count (Kept t) (128 * (g / 128) + g % 128) = _; rw [e]; exact h2
  · rw [hq]
    exact (hx q _ _).trans (congrArg (t q) (Fin.ext e))

end

/-! ### The results -/

variable (m : (ℓ : Loc nD τ sig) → Buf (Elt Ideal) ℓ) (c : Dev nD) (hf : ∀ g : Fin 2048, g.val < 2000 → ofArray (tbl m c) 5 g = 0 ∨ ofArray (tbl m c) 5 g = 1)

/-- The boxes, from what the region leaves. -/
def boxes (a0 : FVec Ideal S5x1024 .f32) (a1 : FVec Ideal S1x128 .f32) : FVec Ideal S1000x4 .f32 :=
  select (broadcastInDim S1000x4 ![0, 1] bcast_S1000x1_S1000x4_0_1 (broadcastInDim S1000x1 ![0] bcast_S1000_S1000x1_0 (cmpf .olt (sitofp .f32 (iotaInDim S1000 32 0)) (broadcastInDim S1000 ![] bcast_S_S1000 (shapeCast _ (extractStridedSlice S1x1 ![0, 0] a1 slices_S1x128_S1x1_0_0) shapeCasts_S1x1_S_))))) (transpose S1000x4 [1, 0] (extractStridedSlice S4x1000 ![0, 0] a0 slices_S5x1024_S4x1000_0_0) transposes_S4x1000_S1000x4_1_0) (broadcastInDim S1000x4 ![] bcast_S_S1000x4 (id (constant S_ .f32 0x00000000#32)))

/-- The scores. -/
def scores (a0 : FVec Ideal S5x1024 .f32) (a1 : FVec Ideal S1x128 .f32) : FVec Ideal S1000 .f32 :=
  select (cmpf .olt (sitofp .f32 (iotaInDim S1000 32 0)) (broadcastInDim S1000 ![] bcast_S_S1000 (shapeCast _ (extractStridedSlice S1x1 ![0, 0] a1 slices_S1x128_S1x1_0_0) shapeCasts_S1x1_S_))) (shapeCast _ (extractStridedSlice S1x1000 ![4, 0] a0 slices_S5x1024_S1x1000_4_0) shapeCasts_S1x1000_S1000) (broadcastInDim S1000 ![] bcast_S_S1000 (id (constant S_ .f32 0x00000000#32)))

theorem boxes_apply (a0 : FVec Ideal S5x1024 .f32) (a1 : FVec Ideal S1x128 .f32) (k : Fin 1000) (q : Fin 4) :
    boxes a0 a1 (ix2 k q) = if num k.val < a1 (ix2 0 0) then a0 (ix2 ⟨q.val, by omega⟩ ⟨k.val, by omega⟩) else 0 := by
  unfold boxes
  pointwise
  have e : id (constant (F := Ideal) S_ .f32 0x00000000#32) ix0 = (0 : EReal) := by
    show Ideal.ofBits .f32 0x00000000#32 = 0
    simp [Ideal.ofBits, Ideal.ieee]
  rw [e]
  exact if_congr (iff_of_eq (by rw [sitofp_num _ (by omega)])) rfl rfl

theorem scores_apply (a0 : FVec Ideal S5x1024 .f32) (a1 : FVec Ideal S1x128 .f32) (k : Fin 1000) :
    scores a0 a1 (ix1 k) = if num k.val < a1 (ix2 0 0) then a0 (ix2 4 ⟨k.val, by omega⟩) else 0 := by
  unfold scores
  pointwise
  have e : id (constant (F := Ideal) S_ .f32 0x00000000#32) ix0 = (0 : EReal) := by
    show Ideal.ofBits .f32 0x00000000#32 = 0
    simp [Ideal.ofBits, Ideal.ieee]
  rw [e]
  exact if_congr (iff_of_eq (by rw [sitofp_num _ (by omega)])) rfl rfl

theorem of_blk (k : Fin 6) (b : Fin 16) (l : Fin 128) :
    iblk m c 0 t0_0 (ix3 k b l) = ofArray (tbl m c) k ⟨128 * b.val + l.val, by omega⟩ := blk_0 m c k b l

include hf

/-- The first result lists the kept boxes' corners. -/
theorem boxes_lists (k : Fin 1000) (q : Fin 4) : Lists (ofArray (tbl m c)) (ofArray (tbl m c) ⟨q.val + 1, by omega⟩) k.val
    (boxes (Value.reg_main_v1_0 m c) (Value.reg_main_v1_1 m c) (ix2 k q)) := by
  have hn := total_kept c (ms0_0 t0_0) (hs0_0 t0_0) _ _ (of_blk m c) hf 0
  rw [boxes_apply, reg_0, reg_1, out_1, out_2]
  refine ⟨fun g hg h1 h2 => ?_, fun h => ?_⟩
  · rw [if_pos]
    · refine packed_kept c _ _ _ _ (of_blk m c) hf ⟨q.val, by omega⟩ ⟨q.val + 1, by omega⟩ ?_ _ (by show k.val < 1023; omega) g hg h1 h2
      fin_cases q <;> rfl
    · refine lt_of_lt_of_eq (num_lt.mpr ?_) hn.symm
      rw [← h2]
      exact Nat.count_strict_mono h1 hg
  · exact if_neg fun h' => absurd (num_lt.mp (lt_of_lt_of_eq h' hn)) (by omega)

/-- The second lists their scores. -/
theorem scores_lists (k : Fin 1000) : Lists (ofArray (tbl m c)) (ofArray (tbl m c) 0) k.val
    (scores (Value.reg_main_v1_0 m c) (Value.reg_main_v1_1 m c) (ix1 k)) := by
  have hn := total_kept c (ms0_0 t0_0) (hs0_0 t0_0) _ _ (of_blk m c) hf 0
  rw [scores_apply, reg_0, reg_1, out_1, out_2]
  refine ⟨fun g hg h1 h2 => ?_, fun h => ?_⟩
  · rw [if_pos]
    · exact packed_kept c _ _ _ _ (of_blk m c) hf 4 0 rfl _ (by show k.val < 1023; omega) g hg h1 h2
    · refine lt_of_lt_of_eq (num_lt.mpr ?_) hn.symm
      rw [← h2]
      exact Nat.count_strict_mono h1 hg
  · exact if_neg fun h' => absurd (num_lt.mp (lt_of_lt_of_eq h' hn)) (by omega)

end Cert.Nms

end
-- ==== Proof.NmsRefLoop.lean ====
/- What the reference's loop leaves: trip by trip, which of the 2000 boxes still stand. -/
module

public import proofs.«01_k».proof.Proof.NmsChoice
public import proofs.«01_k».proof.Proof.NmsValue
public import proofs.«01_k».proof.Proof.Gen.Reference2Ideal
public import proofs.«01_k».proof.Proof.Gen.Reference2Ideal.Step
public import Idealize.ShloMosaic.Lib.WordCmp

@[expose] public section

noncomputable section

namespace Cert.Nms.Ref

open Idealize.ShloMosaic Cert.Reference2Ideal Cert.Reference2Ideal.Gen Cert.Reference2Ideal.Step
open Classical

/-! ### What the loop starts from -/

/-- The overlap of every pair. -/
theorem overlap_apply (x : FVec Ideal S6x2048 .f32) (i j : Fin 2000) :
    A_main_v68 (F := Ideal) x (ix2 i j) = overlap (ofArray x) ⟨i.val, by omega⟩ ⟨j.val, by omega⟩ := by
  unfold A_main_v68 A_main_v67 A_main_v65 A_main_v64 A_main_v63 A_main_v62 A_main_v61 A_main_v60 A_main_v59 A_main_v58 A_main_v56
    A_main_v55 A_main_v53 A_main_v52 A_main_v51 A_main_v50 A_main_v49 A_main_v48 A_main_v47 A_main_v46 A_main_v45 A_main_v44
    A_main_v43 A_main_v42 A_main_v41 A_main_v40 A_main_v39 A_main_v38 A_main_v37 A_main_v36 A_main_v35 A_main_v34 A_main_v33
    A_main_v32 A_main_v31 A_main_v30 A_main_v29 A_main_v28 A_main_v27 A_main_v26 A_main_v25 A_main_v24 A_main_v23 A_main_v22
    A_main_v21 A_main_v20 A_main_v19 A_main_v18 A_main_v17 A_main_v16 A_main_v15 A_main_v14 A_main_v13 A_main_v12 A_main_v11
    A_main_v10 A_main_v9 A_main_v8 A_main_v7 A_main_v6 A_main_v1 A_main_v0 K_main_v66 K_main_v57 K_main_v54 K_main_cst_0 K_main_cst_1
    K_main_cst_2
  pointwise
  rfl

/-- The flags that are set. -/
theorem flag_apply (x : FVec Ideal S6x2048 .f32) (g : Fin 2000) :
    A_main_v5 (F := Ideal) x (ix1 g) = BitVec.ofBool (decide (0 < ofArray x 5 ⟨g.val, by omega⟩)) := by
  unfold A_main_v5 A_main_v3 A_main_v2 K_main_v4 K_main_cst
  pointwise
  rfl

/-! ### One trip -/

/-- An index that is not negative is not wrapped. -/
theorem wrap (j : ℕ) (hj : j < 2 ^ 31) (y : BitVec 32) :
    Scalar.select (IntOp.cmpi .slt (BitVec.ofNat 32 j) 0#32) y (BitVec.ofNat 32 j) = BitVec.ofNat 32 j :=
  if_neg fun h => absurd ((WordCmp.cmpi_slt_ofNat_eq_one_iff (w := 32) (b := 0) hj (by norm_num)).mp h) (by omega)

theorem toInt_wrap (j : ℕ) (hj : j < 2 ^ 31) (y : BitVec 32) :
    (Scalar.select (IntOp.cmpi .slt (BitVec.ofNat 32 j) 0#32) y (BitVec.ofNat 32 j)).toInt = (j : ℤ) := by
  rw [wrap j hj]; exact WordCmp.toInt_ofNat_of_lt (w := 32) hj

variable (j : ℕ) (hj : j < 2000) (s : State Ideal)

/-- Row `j` of the overlaps. -/
theorem row_apply (g : Fin 2000) : b17 j s (ix1 g) = s.main_v70_0 (ix2 ⟨j, hj⟩ g) := by
  unfold b17 b16 b15 b14 b13 b12 b11 b10 b9 b8 b7 b6 b5 b4 b3 b2
  pointwise
  refine congrArg s.main_v70_0 (congrArg₂ ix2 (Fin.ext ?_) (Fin.ext ?_))
  · dsimp only
    refine Host.clampedStart_of_le (k := j) _ _ _ ?_ (by show j + 1 ≤ 2000; omega)
    dsimp only [Matrix.cons_val_zero]
    pointwise
    exact toInt_wrap j (by omega) _
  · refine (congrArg (· + g.val) (Host.clampedStart_of_le _ _ _ 0 ?_ (by decide))).trans (Nat.zero_add _)
    exact toInt_wrap 0 (by norm_num) (IntOp.addi 0#32 2000#32)

/-- Whether box `j` stands. -/
theorem stands_apply : b32 j s ix0 = s.main_v70_4 (ix1 ⟨j, hj⟩) := by
  unfold b32 b31 b30 b29 b28 b27 b26 b25
  pointwise
  refine congrArg s.main_v70_4 (congrArg ix1 (Fin.ext ?_))
  dsimp only
  refine Host.clampedStart_of_le (k := j) _ _ _ ?_ (by show j + 1 ≤ 2000; omega)
  exact toInt_wrap j (by omega) _

theorem bit_andi (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem bit_not (p : Prop) [Decidable p] : ~~~ (BitVec.ofBool (decide p)) = BitVec.ofBool (decide (¬ p)) := by
  by_cases hp : p <;> simp [hp]

/-- Trip `j` over a box: it falls when it lies behind box `j`, overlaps it too much and box `j` stands. -/
theorem trip_apply (S : ℕ → Prop) (h : ∀ g : Fin 2000, s.main_v70_4 (ix1 g) = BitVec.ofBool (decide (S g.val))) (g : Fin 2000) :
    b36 j s (ix1 g) = BitVec.ofBool (decide (S g.val ∧ ¬ (thr < s.main_v70_0 (ix2 ⟨j, hj⟩ g) ∧ j < g.val ∧ S j))) := by
  unfold b36 b35 b34 b33 b24 b23 b22 b21 b20 b19 b18 K_main_v69
  pointwise
  rw [row_apply j hj, stands_apply j hj, h, h]
  have e : IntOp.cmpi .sgt (BitVec.ofNat 32 g.val) (id (constantI S_ 32 (BitVec.ofNat 32 j)) ix0) = BitVec.ofBool (decide (j < g.val)) :=
    WordCmp.cmpi_sgt_ofNat (w := 32) (by omega) (by omega)
  rw [e, bit_andi, bit_andi, bit_not, bit_andi]
  exact congrArg BitVec.ofBool (decide_eq_decide.mpr (and_congr_right fun _ => not_congr and_assoc))

/-! ### All trips -/

variable (x : FVec Ideal S6x2048 .f32)

/-- The states the loop goes through. -/
def states : ℕ → State Ideal
  | 0 => init x
  | n + 1 => Step.step n (states n)

theorem states_overlap : ∀ n, (states x n).main_v70_0 = A_main_v68 (F := Ideal) x
  | 0 => rfl
  | n + 1 => states_overlap n

/-- After `n` trips the boxes stand that no standing one of the first `n` made fall. -/
theorem states_left (n : ℕ) (hn : n ≤ 2000) (g : Fin 2000) : (states x n).main_v70_4 (ix1 g)
    = BitVec.ofBool (decide (Greedy.left (Flagged (ofArray x)) (Clash (ofArray x)) n g.val)) := by
  induction n generalizing g with
  | zero =>
    refine (flag_apply x g).trans (congrArg BitVec.ofBool (decide_eq_decide.mpr ?_))
    exact ⟨fun h => ⟨g.isLt, h⟩, fun ⟨_, h⟩ => h⟩
  | succ n ih =>
    refine (trip_apply n (by omega) (states x n) _ (ih (by omega)) g).trans (congrArg BitVec.ofBool (decide_eq_decide.mpr ?_))
    rw [states_overlap, overlap_apply, Greedy.left]
    exact and_congr_right fun _ => not_congr (and_congr_left fun _ => ⟨fun h => ⟨by omega, g.isLt, h⟩, fun ⟨_, _, h⟩ => h⟩)

/-- What the last state holds. -/
theorem states_kept (g : Fin 2000) : (states x 2000).main_v70_4 (ix1 g) = 1#1 ↔ Kept (ofArray x) g.val := by
  rw [states_left x 2000 le_rfl g]
  by_cases h : Greedy.left (Flagged (ofArray x)) (Clash (ofArray x)) 2000 g.val
  · exact ⟨fun _ => h, fun _ => by rw [decide_eq_true h]; rfl⟩
  · exact ⟨fun h' => absurd h' (by rw [decide_eq_false h]; decide), fun h' => absurd h' h⟩

end Cert.Nms.Ref

end
-- ==== Proof.NmsRefPick.lean ====
/- What the reference picks: the kept boxes in order, by counting for each place how many boxes come before. -/
module

public import proofs.«01_k».proof.Proof.NmsRefLoop
public import Idealize.ShloMosaic.Lib.Routing.Ops
public import Idealize.ShloMosaic.Lib.Routing.OpsSearch

@[expose] public section

noncomputable section

namespace Cert.Nms.Ref

open Idealize.ShloMosaic Cert.Reference2Ideal Cert.Reference2Ideal.Gen Cert.Reference2Ideal.Step
open Classical

/-- How many kept boxes there are up to each box. -/
def below (keep : IVec S2000 1) : IVec S2000 32 :=
  Host.reduce IntOp.addi (extui 32 (andi (cmpi .sle (broadcastInDim S2000x2000 ![0, 1] bcast_S1x2000_S2000x2000_0_1 (broadcastInDim S1x2000 ![1] bcast_S2000_S1x2000_1 (iotaInDim S2000 32 0))) (broadcastInDim S2000x2000 ![0, 1] bcast_S2000x1_S2000x2000_0_1 (broadcastInDim S2000x1 ![0] bcast_S2000_S2000x1_0 (iotaInDim S2000 32 0)))) (broadcastInDim S2000x2000 ![0, 1] bcast_S1x2000_S2000x2000_0_1 (broadcastInDim S1x2000 ![1] bcast_S2000_S1x2000_1 keep))) natLt_1_32) (constantI S_ 32 0#32) reducesTo_S2000x2000_S2000_d1 h_S_

/-- Which places of the list a kept box fills. -/
def filled (keep : IVec S2000 1) : IVec S1000 1 :=
  cmpi .slt (iotaInDim S1000 32 0) (broadcastInDim S1000 ![] bcast_S_S1000 (Host.reduce IntOp.addi (extui 32 keep natLt_1_32) (constantI S_ 32 0#32) reducesTo_S2000_S_d0 h_S_))

/-- The box in each place. -/
def pick (keep : IVec S2000 1) : IVec S1000 32 :=
  Host.reduce IntOp.addi (extui 32 (andi (cmpi .sle (broadcastInDim S1000x2000 ![0, 1] bcast_S1x2000_S1000x2000_0_1 (broadcastInDim S1x2000 ![1] bcast_S2000_S1x2000_1 (below keep))) (broadcastInDim S1000x2000 ![0, 1] bcast_S1000x1_S1000x2000_0_1 (broadcastInDim S1000x1 ![0] bcast_S1000_S1000x1_0 (iotaInDim S1000 32 0)))) (broadcastInDim S1000x2000 ![0, 1] bcast_S1000x1_S1000x2000_0_1 (broadcastInDim S1000x1 ![0] bcast_S1000_S1000x1_0 (filled keep)))) natLt_1_32) (constantI S_ 32 0#32) reducesTo_S1000x2000_S1000_d1 h_S_

/-- The same as a column of places to read. -/
def place (keep : IVec S2000 1) : IVec S1000x1 32 :=
  broadcastInDim S1000x1 ![0] bcast_S1000_S1000x1_0 (select (cmpi .slt (pick keep) (broadcastInDim S1000 ![] bcast_S_S1000 (constantI S_ 32 0#32))) (addi (pick keep) (broadcastInDim S1000 ![] bcast_S_S1000 (constantI S_ 32 2000#32))) (pick keep))

theorem boxes_eq (s : State Ideal) (x : FVec Ideal S6x2048 .f32) : R_main_v111 s x =
    mulf (Host.gather gather_S2000x4_S1000x1_S1000x4_1_0_n_n_0_1_14 (transpose S2000x4 [1, 0] (extractStridedSlice S4x2000 ![1, 0] x slices_S6x2048_S4x2000_1_0) transposes_S4x2000_S2000x4_1_0) (place s.main_v70_4)) (broadcastInDim S1000x4 ![0, 1] bcast_S1000x1_S1000x4_0_1 (broadcastInDim S1000x1 ![0] bcast_S1000_S1000x1_0 (uitofp .f32 (filled s.main_v70_4)))) := rfl

theorem scores_eq (s : State Ideal) (x : FVec Ideal S6x2048 .f32) : R_main_v121 s x =
    mulf (Host.gather gather_S2000_S1000x1_S1000_n_0_n_n_0_1_1 (shapeCast _ (extractStridedSlice S1x2000 ![0, 0] x slices_S6x2048_S1x2000_0_0) shapeCasts_S1x2000_S2000) (place s.main_v70_4)) (uitofp .f32 (filled s.main_v70_4)) := rfl

/-! ### Counting -/

/-- The count up to a box, over all boxes. -/
theorem count_le (K : ℕ → Prop) (i N : ℕ) (h : i < N) : Nat.count (fun n => n ≤ i ∧ K n) N = Nat.count K (i + 1) := by
  obtain ⟨d, rfl⟩ := Nat.exists_eq_add_of_le (show i + 1 ≤ N from h)
  refine (Nat.count_add _ (i + 1) d).trans ?_
  rw [Nat.count_of_forall_not (p := fun n => i + 1 + n ≤ i ∧ K (i + 1 + n)) fun n _ h => by omega, Nat.add_zero]
  rw [Nat.count_eq_card_filter_range, Nat.count_eq_card_filter_range]
  refine congrArg Finset.card (Finset.filter_congr fun n hn => ?_)
  have := Finset.mem_range.mp hn
  exact ⟨fun h => h.2, fun h => ⟨by omega, h⟩⟩

/-- The sum of ones and zeros is the count. -/
theorem sum_count (K : ℕ → Prop) (N : ℕ) : ((List.range N).map fun n => if K n then 1 else 0).sum = Nat.count K N := by
  induction N with
  | zero => rfl
  | succ N ih =>
    rw [List.range_succ, List.map_append, List.sum_append, ih, Nat.count_succ]
    simp

theorem bit_cases : ∀ b : BitVec 1, b = 0#1 ∨ b = 1#1 := by decide

theorem both : ∀ a b : BitVec 1, IntOp.andi a b = 1#1 ↔ a = 1#1 ∧ b = 1#1 := by decide

variable (keep : IVec S2000 1) (K : ℕ → Prop) (hK : ∀ g : Fin 2000, keep (ix1 g) = 1#1 ↔ K g.val)
include hK

theorem below_apply (i : Fin 2000) : below keep (ix1 i) = BitVec.ofNat 32 (Nat.count K (i.val + 1)) := by
  refine (Routing.reduce_count (n := 2000) (m := 2000) (by norm_num) _ natLt_1_32 _ h_S_ i (fun n => n ≤ i.val ∧ K n) ?_).trans ?_
  · intro q
    pointwise
    refine (both _ _).trans (and_congr ?_ (hK q))
    exact WordCmp.cmpi_sle_ofNat_eq_one_iff (w := 32) (a := q.val) (b := i.val) (by omega) (by omega)
  · exact congrArg (BitVec.ofNat 32) (count_le K i.val 2000 i.isLt)

theorem kept_apply (i : Fin 2000) : extui 32 keep natLt_1_32 (ix1 i) = BitVec.ofNat 32 (if K i.val then 1 else 0) := by
  show BitVec.setWidth 32 (keep (ix1 i)) = _
  by_cases h : K i.val
  · rw [if_pos h, (hK i).mpr h]; rfl
  · rw [if_neg h, (bit_cases _).resolve_right fun h' => h ((hK i).mp h')]; rfl

theorem filled_apply (k : Fin 1000) : filled keep (ix1 k) = BitVec.ofBool (decide (k.val < Nat.count K 2000)) := by
  have hc : Nat.count K 2000 ≤ 2000 := Nat.count_le _
  have e := Routing.reduce_sum (N := 2000) (extui 32 keep natLt_1_32) (fun n => if K n then 1 else 0)
    (kept_apply keep K hK) reducesTo_S2000_S_d0 h_S_
  rw [sum_count] at e
  refine Eq.trans ?_ (WordCmp.cmpi_slt_ofNat (w := 32) (a := k.val) (b := Nat.count K 2000) (by omega) (by omega))
  rw [← e]
  rfl

theorem pick_apply (k : Fin 1000) (g : ℕ) (hg : g < 2000) (h1 : K g) (h2 : Nat.count K g = k.val) :
    pick keep (ix1 k) = BitVec.ofNat 32 g := by
  have hk : k.val < Nat.count K 2000 := h2 ▸ Nat.count_strict_mono h1 hg
  refine (Routing.reduce_count (n := 1000) (m := 2000) (by norm_num) _ natLt_1_32 _ h_S_ k (fun n => Nat.count K (n + 1) ≤ k.val) ?_).trans ?_
  · intro q
    pointwise
    refine (both _ _).trans ?_
    rw [below_apply keep K hK q, filled_apply keep K hK k, decide_eq_true hk]
    refine (and_iff_left rfl).trans ?_
    have := Nat.count_le K (n := q.val + 1)
    exact WordCmp.cmpi_sle_ofNat_eq_one_iff (w := 32) (by omega) (by omega)
  · refine congrArg (BitVec.ofNat 32) ?_
    rw [← Routing.card_filter_fin]
    convert Greedy.card_before K hg h1 h2

theorem place_apply (k : Fin 1000) (g : ℕ) (hg : g < 2000) (h1 : K g) (h2 : Nat.count K g = k.val) :
    place keep (ix2 k 0) = BitVec.ofNat 32 g := by
  unfold place
  pointwise
  rw [pick_apply keep K hK k g hg h1 h2]
  exact wrap g (by omega) _

omit hK

/-! ### The results -/

theorem one_bit : FloatOps.uitofp (F := Ideal) .f32 1#1 = (1 : EReal) := by
  show (((1#1 : BitVec 1).toNat : ℝ) : EReal) = 1
  simp

theorem no_bit : FloatOps.uitofp (F := Ideal) .f32 0#1 = (0 : EReal) := by
  show (((0#1 : BitVec 1).toNat : ℝ) : EReal) = 0
  simp

variable (x : FVec Ideal S6x2048 .f32)

/-- An entry of a product with the filled places: the entry where the place is filled, zero elsewhere. -/
theorem lists (f : Fin 2048 → EReal) (k : Fin 1000) (y : EReal)
    (h : ∀ (g : ℕ) (hg : g < 2000), place (states x 2000).main_v70_4 (ix2 k 0) = BitVec.ofNat 32 g → y = f ⟨g, by omega⟩) :
    Lists (ofArray x) f k.val (y * FloatOps.uitofp (F := Ideal) .f32 (filled (states x 2000).main_v70_4 (ix1 k))) := by
  rw [filled_apply _ (Kept (ofArray x)) (states_kept x) k]
  refine ⟨fun g hg h1 h2 => ?_, fun hk => ?_⟩
  · rw [decide_eq_true (show k.val < Nat.count (Kept (ofArray x)) 2000 from h2 ▸ Nat.count_strict_mono h1 hg)]
    rw [h g hg (place_apply _ (Kept (ofArray x)) (states_kept x) k g hg h1 h2)]
    exact (congrArg _ one_bit).trans (mul_one _)
  · rw [decide_eq_false (show ¬ k.val < Nat.count (Kept (ofArray x)) 2000 by omega)]
    exact (congrArg _ no_bit).trans (mul_zero _)

/-- The first result lists the kept boxes' corners. -/
theorem boxes_lists (k : Fin 1000) (q : Fin 4) : Lists (ofArray x) (ofArray x ⟨q.val + 1, by omega⟩) k.val
    (R_main_v111 (states x 2000) x (ix2 k q)) := by
  have h := lists x (ofArray x ⟨q.val + 1, by omega⟩) k _ fun g hg e =>
    (Routing.gather_row gather_S2000x4_S1000x1_S1000x4_1_0_n_n_0_1_14 rfl rfl rfl rfl rfl (transpose S2000x4 [1, 0] (extractStridedSlice S4x2000 ![1, 0] x slices_S6x2048_S4x2000_1_0) transposes_S4x2000_S2000x4_1_0) (place (states x 2000).main_v70_4) k q ⟨g, hg⟩ e (by norm_num)).trans (by
      pointwise
      exact congrArg (fun a => x (ix2 a ⟨g, by omega⟩)) (Fin.ext (Nat.add_comm 1 q.val)))
  have e : broadcastInDim S1000x4 ![0, 1] bcast_S1000x1_S1000x4_0_1 (broadcastInDim S1000x1 ![0] bcast_S1000_S1000x1_0
      (uitofp (F := Ideal) .f32 (filled (states x 2000).main_v70_4))) (ix2 k q)
      = FloatOps.uitofp (F := Ideal) .f32 (filled (states x 2000).main_v70_4 (ix1 k)) := by
    pointwise
  rw [← e] at h
  rw [boxes_eq]
  exact h

/-- The second lists their scores. -/
theorem scores_lists (k : Fin 1000) : Lists (ofArray x) (ofArray x 0) k.val (R_main_v121 (states x 2000) x (ix1 k)) := by
  have h := lists x (ofArray x 0) k _ fun g hg e =>
    (Routing.take_ap gather_S2000_S1000x1_S1000_n_0_n_n_0_1_1 rfl rfl rfl rfl (shapeCast S2000 (extractStridedSlice S1x2000 ![0, 0] x slices_S6x2048_S1x2000_0_0) shapeCasts_S1x2000_S2000) (place (states x 2000).main_v70_4) k hg (by omega) e).trans (by
      pointwise
      rfl)
  rw [scores_eq]
  exact h

end Cert.Nms.Ref

end
-- ==== Proof.NmsEquation.lean ====
/- The kernel's selection and the reference's give the same boxes and the same scores: both list the kept boxes. -/
module

public import proofs.«01_k».proof.Defs
public import proofs.«01_k».proof.Proof.NmsValue
public import proofs.«01_k».proof.Proof.NmsRefPick

@[expose] public section

noncomputable section

namespace Cert.Nms

open Idealize.ShloMosaic Idealize.ShloMosaic.TcCoe Idealize.SL.Sem

/-- The side conditions of the precondition. -/
instance flagFacts : Cert.Pre_flags.Facts := ⟨by decide, by decide, by decide⟩

/-- The precondition entry by entry: the flag of each of the first 2000 places is 0 or 1. -/
theorem flags_apply (x : FVec Ideal Cert.Pre_flags.S6x2048 .f32)
    (h : Cert.Pre_flags.fn (F := Ideal) x = fun _ => 1#1) (g : Fin 2048) (hg : g.val < 2000) :
    ofArray x 5 g = 0 ∨ ofArray x 5 g = 1 := by
  have := congrFun h (ix1 (⟨g.val, hg⟩ : Fin 2000))
  unfold Cert.Pre_flags.fn at this
  pointwise at this
  show x (ix2 5 g) = 0 ∨ x (ix2 5 g) = 1
  by_contra hn
  rw [not_or] at hn
  rw [decide_eq_false hn.1, decide_eq_false hn.2] at this
  exact absurd this (by decide)

variable (m : (ℓ : Loc Cert.Kernel2Ideal.nD Cert.Kernel2Ideal.τ Cert.Kernel2Ideal.sig) → Buf (Elt Ideal) ℓ) (c : Dev Cert.Kernel2Ideal.nD)
  (hf : ∀ g : Fin 2048, g.val < 2000 → ofArray (tbl m c) 5 g = 0 ∨ ofArray (tbl m c) 5 g = 1)
include hf

/-- The boxes are the same. -/
theorem boxes_same : Cert.Reference2Ideal.Step.R_main_v111 (Ref.states (tbl m c) 2000) (tbl m c)
    = boxes (Cert.Kernel2Ideal.Value.reg_main_v1_0 m c) (Cert.Kernel2Ideal.Value.reg_main_v1_1 m c) := by
  funext i
  obtain ⟨k, q, rfl⟩ : ∃ (k : Fin 1000) (q : Fin 4), i = ix2 k q :=
    ⟨i 0, i 1, funext fun a => match a with | ⟨0, _⟩ => rfl | ⟨1, _⟩ => rfl⟩
  exact (Ref.boxes_lists (tbl m c) k q).unique _ (boxes_lists m c hf k q)

/-- The scores are the same. -/
theorem scores_same : Cert.Reference2Ideal.Step.R_main_v121 (Ref.states (tbl m c) 2000) (tbl m c)
    = scores (Cert.Kernel2Ideal.Value.reg_main_v1_0 m c) (Cert.Kernel2Ideal.Value.reg_main_v1_1 m c) := by
  funext i
  obtain ⟨k, rfl⟩ : ∃ k : Fin 1000, i = ix1 k := ⟨i 0, funext fun a => match a with | ⟨0, _⟩ => rfl⟩
  exact (Ref.scores_lists (tbl m c) k).unique _ (scores_lists m c hf k)

end Cert.Nms

end
-- ==== Proof.OrderRun.lean ====
/-
What one run of the second call's body does to its buffers.

The body stores two of the eight planes of its scratch buffer, reads those two in its first loop, then stores
the other six and reads them in its second loop. So the scratch's contents at the start are a parameter here
(`old`); that the result does not depend on them is shown where the loops are read.
-/
module

public import proofs.«01_k».proof.Proof.Gen.Kernel3Ideal.Frame
public import proofs.«01_k».proof.Proof.Gen.Kernel3Ideal.Loops

@[expose] public section

set_option maxRecDepth 16384

noncomputable section

namespace Cert.Order

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The pieces the body leaves in its result buffer, together with the proof that the body, started with its
    inputs in place and the scratch holding `old`, ends with the inputs as they were, the scratch at something,
    and those pieces written to the result buffer. -/
noncomputable def bodyRun (c : Dev nD) (arg0 : Memref sig .tc .vmem S60x128 .f32) (harg0 : arg0.IsWhole) (arg1 : Memref sig .tc .vmem S60x128 .f32) (harg1 : arg1.IsWhole) (arg2 : Memref sig .tc .vmem S60x128 .f32) (harg2 : arg2.IsWhole) (arg3 : Memref sig .tc .vmem S60x128 .f32) (harg3 : arg3.IsWhole) (arg4 : Memref sig .tc .vmem S60x128 .f32) (harg4 : arg4.IsWhole) (arg5 : Memref sig .tc .vmem S60x128 .f32) (harg5 : arg5.IsWhole) (arg6 : Memref sig .tc .vmem S60x128 .f32) (harg6 : arg6.IsWhole) (arg7 : Memref sig .tc .vmem S60x128 .f32) (harg7 : arg7.IsWhole) (arg8 : Memref sig .tc .vmem S60x128 .f32) (harg8 : arg8.IsWhole) (arg9 : Memref sig .tc .vmem S60x128 .f32) (harg9 : arg9.IsWhole) (arg10 : Memref sig .tc .vmem S60x128 .f32) (harg10 : arg10.IsWhole) (arg11 : Memref sig .tc .vmem S6x2048 .f32) (harg11 : arg11.IsWhole) (arg12 : Memref sig .tc .vmem S8x60x128 .f32) (harg12 : arg12.IsWhole)
    (x0 : Vec F S60x128 .f32) (x1 : Vec F S60x128 .f32) (x2 : Vec F S60x128 .f32) (x3 : Vec F S60x128 .f32) (x4 : Vec F S60x128 .f32) (x5 : Vec F S60x128 .f32) (x6 : Vec F S60x128 .f32) (x7 : Vec F S60x128 .f32) (x8 : Vec F S60x128 .f32) (x9 : Vec F S60x128 .f32) (x10 : Vec F S60x128 .f32) (old : BufTy.Contents (Elt F) arg12.view.ty) :
    { L11 : List (View.Piece (Elt F) S6x2048 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (arg12.view.loc (c : Thread nD τ) ↦[arg12.view.set]{fullShare} old)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ d, owns (c : Thread nD τ) arg12 fullShare d)) -∗ K ⟨⟩))
          ⊢ wp frame (wpE (defs₀ (F := F)) Variants.none c none) E (cc0__stage_b arg0 harg0 arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__stage_b_eq_skeleton]; unfold cc0__stage_b_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, HS0, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _, _; isplitr; swap; · iexact HS0
    ipureintro; rfl

end Cert.Order

end
-- ==== Proof.OrderTable.lean ====
/-
The table the second call leaves, in closed form.

The seven planes the body works out, the place of each score among all the scores, and the table built from the
places, 128 columns at a time. Each load of the loops reads a row of a plane stored before, so nothing here
mentions what the scratch held at the start.
-/
module

public import proofs.«01_k».proof.Proof.OrderRun
public import Idealize.ShloMosaic.Lib.WritesUnit
public import Idealize.ShloMosaic.Lib.Pointwise.Index
public import Idealize.ShloMosaic.Lib.WholeRead
public import Idealize.ShloMosaic.Lib.Pipeline.Value
public import Idealize.ShloMosaic.Lib.VecWindow

@[expose] public section

set_option maxRecDepth 16384

noncomputable section

namespace Cert.Order

open Cert.Kernel3Ideal Cert.Kernel3Ideal.Gen Idealize.ShloMosaic Idealize.ShloMosaic.TcCoe

variable {F : FTy → Type} [FloatOps F]

/-- Row `k` of a plane. -/
def line (p : FVec F S60x128 .f32) (k : Fin 60) : FVec F S1x1x128 .f32 := fun i => p (ix2 k (⟨(i 2).val, (i 2).isLt⟩ : Fin 128))

/-- What a load of row `k` of plane `a` finds when plane `a` was the last stored. -/
theorem line_hit (v : View sig .tc .vmem S8x60x128 .f32) (f : v.ty.Contents (Elt F)) (a : ℕ)
    (inb : ∀ d, (![a, 0, 0] : Fin 3 → ℕ) d + S1x60x128.size d ≤ S8x60x128.size d) (p : FVec F S60x128 .f32)
    (L : List (View.Piece (Elt F) S8x60x128 .f32)) (k : Fin 60) (off : Fin 3 → ℕ) (h : off = ![a, k.val, 0])
    (inb' : ∀ d, off d + (![1, 1, 128] : Fin 3 → ℕ) d ≤ S8x60x128.size d) :
    v.readAt (Elt F) (Rect.unit (s := S8x60x128) off ![1, 1, 128] inb').toLoadRect
      (v.writes (Elt F) f (⟨Rect.unit (s := S8x60x128) ![a, 0, 0] S1x60x128.size inb,
        shapeCast S1x60x128 p shapeCasts_S60x128_S1x60x128⟩ :: L)) = line p k := by
  subst h
  funext j
  show v.read (Elt F) _ _ = _
  have h0 : (j 0).val < 1 := (j 0).isLt
  have h1 : (j 1).val < 1 := (j 1).isLt
  rw [View.read_writes_cons_unit_of_mem v f inb _ L _ (ix3 (0 : Fin 1) k (⟨(j 2).val, (j 2).isLt⟩ : Fin 128)) rfl (fun d => by
    match d with
    | ⟨0, _⟩ => show a + 1 * (j 0).val = a + 0; omega
    | ⟨1, _⟩ => show k.val + 1 * (j 1).val = 0 + k.val; omega
    | ⟨2, _⟩ => show 0 + 1 * (j 2).val = 0 + (j 2).val; omega)]
  exact shapeCast_apply _ _ _ (ix2 k (⟨(j 2).val, (j 2).isLt⟩ : Fin 128)) (by
    rewrite [Shape.rowMajor_val_three, Shape.rowMajor_val_two]
    show k.val * 128 + (j 2).val = (0 * 60 + k.val) * 128 + (j 2).val; omega)

/-- A later store of another plane does not change it. -/
theorem line_miss (v : View sig .tc .vmem S8x60x128 .f32) (f : v.ty.Contents (Elt F)) (a b : ℕ) (hab : a ≠ b)
    (inb : ∀ d, (![b, 0, 0] : Fin 3 → ℕ) d + S1x60x128.size d ≤ S8x60x128.size d) (p : FVec F S1x60x128 .f32)
    (L : List (View.Piece (Elt F) S8x60x128 .f32)) (k : Fin 60) (off : Fin 3 → ℕ) (h : off = ![a, k.val, 0])
    (inb' : ∀ d, off d + (![1, 1, 128] : Fin 3 → ℕ) d ≤ S8x60x128.size d) (q : FVec F S60x128 .f32)
    (hq : v.readAt (Elt F) (Rect.unit (s := S8x60x128) off ![1, 1, 128] inb').toLoadRect (v.writes (Elt F) f L) = line q k) :
    v.readAt (Elt F) (Rect.unit (s := S8x60x128) off ![1, 1, 128] inb').toLoadRect
      (v.writes (Elt F) f (⟨Rect.unit (s := S8x60x128) ![b, 0, 0] S1x60x128.size inb, p⟩ :: L)) = line q k := by
  rw [← hq]
  funext j
  show v.read (Elt F) _ _ = v.read (Elt F) _ _
  refine View.read_writes_cons_unit_of_not_mem v f inb _ L _ rfl ⟨0, by decide⟩ ?_
  have h0 : (j 0).val < 1 := (j 0).isLt
  have e : (((Rect.unit (s := S8x60x128) off ![1, 1, 128] inb').toLoadRect.idx j) ⟨0, by decide⟩).val = a := by
    subst h
    show a + 1 * (j 0).val = a
    omega
  show _ < b ∨ b + 1 ≤ _
  rw [e]
  omega

section planes
variable (x0 x1 x2 x3 x4 x5 x6 x7 x8 x9 x10 : Vec F S60x128 .f32)

/-- The score of a place, −1 where the mask is not set. -/
def score (x0 x9 : Vec F S60x128 .f32) : FVec F S60x128 .f32 := k0_pay11 x0 x9
def left (x1 x3 x5 x7 : Vec F S60x128 .f32) : FVec F S60x128 .f32 := k0_pay19 x5 (k0_pay12 x3) (k0_pay14 x5 x1 x7)
def top (x2 x4 x6 x8 : Vec F S60x128 .f32) : FVec F S60x128 .f32 := k0_pay20 x6 (k0_pay13 x4) (k0_pay15 x6 x2) x8
def right (x1 x3 x5 x7 : Vec F S60x128 .f32) : FVec F S60x128 .f32 := k0_pay21 x5 (k0_pay12 x3) (k0_pay14 x5 x1 x7)
def bottom (x2 x4 x6 x8 : Vec F S60x128 .f32) : FVec F S60x128 .f32 := k0_pay22 x6 (k0_pay13 x4) (k0_pay15 x6 x2) x8
/-- Whether a box is wide and high enough and its score not −1. -/
def valid (x0 x1 x2 x3 x4 x5 x6 x7 x8 x9 : Vec F S60x128 .f32) : FVec F S60x128 .f32 :=
  k0_pay24 (k0_pay23 (score x0 x9) x5 x6 (k0_pay12 x3) (k0_pay13 x4) (k0_pay14 x5 x1 x7) (k0_pay15 x6 x2) x8)
    (Scalar.ofBits .f32 0x3F800000#32) (Scalar.ofBits .f32 0x00000000#32)

/-- How many of the first `n` rows' scores come before each score. -/
def before (s i : FVec F S60x128 .f32) : ℕ → FVec F S60x128 .f32
  | 0 => k0_pay27
  | n + 1 => if h : n < 60 then k0_pay28 s i (before s i n) (line s ⟨n, h⟩) (line i ⟨n, h⟩) else before s i n

/-- Where each score goes. -/
def place (s i : FVec F S60x128 .f32) : FVec F S60x128 .f32 := k0_pay29 (before s i 60)

/-- One step of the table: what row `k` adds to it. -/
def added (p0 p1 p2 p3 p4 p5 p6 : FVec F S60x128 .f32) (k : Fin 60) (t : FVec F S6x2048 .f32) : FVec F S6x2048 .f32 :=
  k0_pay5 t (k0_pay6 k0_pay3 (line p6 k)) (k0_pay7 k0_pay3 (line p6 k) (line p0 k)) (k0_pay8 k0_pay3 (line p6 k) (line p1 k))
    (k0_pay9 k0_pay3 (line p6 k) (line p2 k)) (Scalar.ofBits .f32 0x00000000#32) (k0_pay10 (line p3 k)) (line p4 k) (line p5 k)

/-- The table after the first `n` rows. -/
def filled (p0 p1 p2 p3 p4 p5 p6 : FVec F S60x128 .f32) : ℕ → FVec F S6x2048 .f32
  | 0 => k0_pay4
  | n + 1 => if h : n < 60 then added p0 p1 p2 p3 p4 p5 p6 ⟨n, h⟩ (filled p0 p1 p2 p3 p4 p5 p6 n) else filled p0 p1 p2 p3 p4 p5 p6 n

end planes

/-- The whole table. -/
def table (x0 x1 x2 x3 x4 x5 x6 x7 x8 x9 x10 : Vec F S60x128 .f32) : FVec F S6x2048 .f32 :=
  filled (score x0 x9) (left x1 x3 x5 x7) (top x2 x4 x6 x8) (right x1 x3 x5 x7) (bottom x2 x4 x6 x8)
    (valid x0 x1 x2 x3 x4 x5 x6 x7 x8 x9) (place (score x0 x9) x10) 60

/-- A recursion that takes the steps of another, from the same start, is that other. -/
theorem steps_eq {α : Type} (st g : ℕ → α) (N : ℕ) (hN : N = 60) (h0 : st 0 = g 0)
    (hs : ∀ k : Fin 60, st k.val = g k.val → st (k.val + 1) = g (k.val + 1)) : st N = g 60 := by
  subst hN
  have : ∀ n, n ≤ 60 → st n = g n := fun n hn => by
    induction n with
    | zero => exact h0
    | succ n ih => exact hs ⟨n, hn⟩ (ih (by omega))
  exact this 60 le_rfl

variable (c : Dev nD) (arg0 : Memref sig .tc .vmem S60x128 .f32) (harg0 : arg0.IsWhole) (arg1 : Memref sig .tc .vmem S60x128 .f32) (harg1 : arg1.IsWhole) (arg2 : Memref sig .tc .vmem S60x128 .f32) (harg2 : arg2.IsWhole) (arg3 : Memref sig .tc .vmem S60x128 .f32) (harg3 : arg3.IsWhole) (arg4 : Memref sig .tc .vmem S60x128 .f32) (harg4 : arg4.IsWhole) (arg5 : Memref sig .tc .vmem S60x128 .f32) (harg5 : arg5.IsWhole) (arg6 : Memref sig .tc .vmem S60x128 .f32) (harg6 : arg6.IsWhole) (arg7 : Memref sig .tc .vmem S60x128 .f32) (harg7 : arg7.IsWhole) (arg8 : Memref sig .tc .vmem S60x128 .f32) (harg8 : arg8.IsWhole) (arg9 : Memref sig .tc .vmem S60x128 .f32) (harg9 : arg9.IsWhole) (arg10 : Memref sig .tc .vmem S60x128 .f32) (harg10 : arg10.IsWhole)
  (arg11 : Memref sig .tc .vmem S6x2048 .f32) (harg11 : arg11.IsWhole) (arg12 : Memref sig .tc .vmem S8x60x128 .f32) (harg12 : arg12.IsWhole)
  (x0 x1 x2 x3 x4 x5 x6 x7 x8 x9 x10 : Vec F S60x128 .f32) (old : BufTy.Contents (Elt F) arg12.view.ty)

theorem row_val (k : Fin 60) : (Scalar.indexCast (Scf.iv 0#32 1#32 k.val)).toNat = k.val := by revert k; decide

/-- A load of a whole plane finds what the plane holds. -/
theorem whole_load (g : Memref sig .tc .vmem S60x128 .f32) (hg : g.IsWhole) (x : Vec F S60x128 .f32)
    (inb : ∀ d, (![0, 0] : Fin 2 → ℕ) d + S60x128.size d ≤ S60x128.size d) :
    View.readAt (Elt F) g.view (Rect.unit (s := S60x128) ![0, 0] S60x128.size inb).toLoadRect (hg.unread x) = x := by
  funext j
  show g.view.read (Elt F) (hg.unread x) _ = _
  rw [hg.read_unread]
  refine congrArg x (funext fun a => Fin.ext ?_)
  match a with
  | ⟨0, _⟩ => show 0 + 1 * (j 0).val = (j 0).val; omega
  | ⟨1, _⟩ => show 0 + 1 * (j 1).val = (j 1).val; omega

open bodyRun.sl

theorem score_eq : bodyRun.sl.r c arg0 harg0 arg9 harg9 x0 x9 = score x0 x9 := by
  unfold bodyRun.sl.r score
  rw [whole_load, whole_load]

/-- The first loop counts. -/
theorem before_eq : bodyRun.sl.r_14 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 old = place (score x0 x9) x10 := by
  unfold r_14 place
  rw [score_eq, whole_load]
  refine congrArg k0_pay29 (steps_eq _ _ _ (by decide) rfl fun k ih => (st_k0_t1_succ (k := k) ..).trans ?_)
  rw [ih, before, dif_pos k.isLt]
  unfold tripR_k0_t1 trip_k0_t1
  refine congrArg₂ (k0_pay28 _ _ _) ?_ ?_
  · exact line_miss _ _ 0 7 (by decide) _ _ _ k _ (by rw [← row_val k]; rfl) _ _ (line_hit _ _ 0 _ _ _ k _ (by rw [← row_val k]; rfl) _)
  · exact line_hit _ _ 7 _ _ _ k _ (by rw [← row_val k]; rfl) _

/-- The eight planes, the last stored first. -/
def stored (p0 p1 p2 p3 p4 p5 p6 p7 : FVec F S60x128 .f32) : List (View.Piece (Elt F) S8x60x128 .f32) :=
  [⟨Rect.unit (s := S8x60x128) ![6, 0, 0] S1x60x128.size inb_S8x60x128_S1x60x128_6_0_0, shapeCast S1x60x128 p6 shapeCasts_S60x128_S1x60x128⟩,
    ⟨Rect.unit (s := S8x60x128) ![5, 0, 0] S1x60x128.size inb_S8x60x128_S1x60x128_5_0_0, shapeCast S1x60x128 p5 shapeCasts_S60x128_S1x60x128⟩,
    ⟨Rect.unit (s := S8x60x128) ![4, 0, 0] S1x60x128.size inb_S8x60x128_S1x60x128_4_0_0, shapeCast S1x60x128 p4 shapeCasts_S60x128_S1x60x128⟩,
    ⟨Rect.unit (s := S8x60x128) ![3, 0, 0] S1x60x128.size inb_S8x60x128_S1x60x128_3_0_0, shapeCast S1x60x128 p3 shapeCasts_S60x128_S1x60x128⟩,
    ⟨Rect.unit (s := S8x60x128) ![2, 0, 0] S1x60x128.size inb_S8x60x128_S1x60x128_2_0_0, shapeCast S1x60x128 p2 shapeCasts_S60x128_S1x60x128⟩,
    ⟨Rect.unit (s := S8x60x128) ![1, 0, 0] S1x60x128.size inb_S8x60x128_S1x60x128_1_0_0, shapeCast S1x60x128 p1 shapeCasts_S60x128_S1x60x128⟩,
    ⟨Rect.unit (s := S8x60x128) ![7, 0, 0] S1x60x128.size inb_S8x60x128_S1x60x128_7_0_0, shapeCast S1x60x128 p7 shapeCasts_S60x128_S1x60x128⟩,
    ⟨Rect.unit (s := S8x60x128) ![0, 0, 0] S1x60x128.size inb_S8x60x128_S1x60x128_0_0_0, shapeCast S1x60x128 p0 shapeCasts_S60x128_S1x60x128⟩]

section loads
variable (v : View sig .tc .vmem S8x60x128 .f32) (f : v.ty.Contents (Elt F)) (p0 p1 p2 p3 p4 p5 p6 p7 : FVec F S60x128 .f32) (k : Fin 60) (off : Fin 3 → ℕ)
  (inb' : ∀ d, off d + (![1, 1, 128] : Fin 3 → ℕ) d ≤ S8x60x128.size d)

theorem load_0 (h : off = ![0, k.val, 0]) : v.readAt (Elt F) (Rect.unit (s := S8x60x128) off ![1, 1, 128] inb').toLoadRect
    (v.writes (Elt F) f (stored p0 p1 p2 p3 p4 p5 p6 p7)) = line p0 k :=
  line_miss v f 0 6 (by decide) _ _ _ k off h inb' _ (line_miss v f 0 5 (by decide) _ _ _ k off h inb' _ (line_miss v f 0 4 (by decide) _ _ _ k off h inb' _ (line_miss v f 0 3 (by decide) _ _ _ k off h inb' _ (line_miss v f 0 2 (by decide) _ _ _ k off h inb' _ (line_miss v f 0 1 (by decide) _ _ _ k off h inb' _ (line_miss v f 0 7 (by decide) _ _ _ k off h inb' _ (line_hit v f 0 _ _ _ k off h inb')))))))
theorem load_1 (h : off = ![1, k.val, 0]) : v.readAt (Elt F) (Rect.unit (s := S8x60x128) off ![1, 1, 128] inb').toLoadRect
    (v.writes (Elt F) f (stored p0 p1 p2 p3 p4 p5 p6 p7)) = line p1 k :=
  line_miss v f 1 6 (by decide) _ _ _ k off h inb' _ (line_miss v f 1 5 (by decide) _ _ _ k off h inb' _ (line_miss v f 1 4 (by decide) _ _ _ k off h inb' _ (line_miss v f 1 3 (by decide) _ _ _ k off h inb' _ (line_miss v f 1 2 (by decide) _ _ _ k off h inb' _ (line_hit v f 1 _ _ _ k off h inb')))))
theorem load_2 (h : off = ![2, k.val, 0]) : v.readAt (Elt F) (Rect.unit (s := S8x60x128) off ![1, 1, 128] inb').toLoadRect
    (v.writes (Elt F) f (stored p0 p1 p2 p3 p4 p5 p6 p7)) = line p2 k :=
  line_miss v f 2 6 (by decide) _ _ _ k off h inb' _ (line_miss v f 2 5 (by decide) _ _ _ k off h inb' _ (line_miss v f 2 4 (by decide) _ _ _ k off h inb' _ (line_miss v f 2 3 (by decide) _ _ _ k off h inb' _ (line_hit v f 2 _ _ _ k off h inb'))))
theorem load_3 (h : off = ![3, k.val, 0]) : v.readAt (Elt F) (Rect.unit (s := S8x60x128) off ![1, 1, 128] inb').toLoadRect
    (v.writes (Elt F) f (stored p0 p1 p2 p3 p4 p5 p6 p7)) = line p3 k :=
  line_miss v f 3 6 (by decide) _ _ _ k off h inb' _ (line_miss v f 3 5 (by decide) _ _ _ k off h inb' _ (line_miss v f 3 4 (by decide) _ _ _ k off h inb' _ (line_hit v f 3 _ _ _ k off h inb')))
theorem load_4 (h : off = ![4, k.val, 0]) : v.readAt (Elt F) (Rect.unit (s := S8x60x128) off ![1, 1, 128] inb').toLoadRect
    (v.writes (Elt F) f (stored p0 p1 p2 p3 p4 p5 p6 p7)) = line p4 k :=
  line_miss v f 4 6 (by decide) _ _ _ k off h inb' _ (line_miss v f 4 5 (by decide) _ _ _ k off h inb' _ (line_hit v f 4 _ _ _ k off h inb'))
theorem load_5 (h : off = ![5, k.val, 0]) : v.readAt (Elt F) (Rect.unit (s := S8x60x128) off ![1, 1, 128] inb').toLoadRect
    (v.writes (Elt F) f (stored p0 p1 p2 p3 p4 p5 p6 p7)) = line p5 k :=
  line_miss v f 5 6 (by decide) _ _ _ k off h inb' _ (line_hit v f 5 _ _ _ k off h inb')
theorem load_6 (h : off = ![6, k.val, 0]) : v.readAt (Elt F) (Rect.unit (s := S8x60x128) off ![1, 1, 128] inb').toLoadRect
    (v.writes (Elt F) f (stored p0 p1 p2 p3 p4 p5 p6 p7)) = line p6 k :=
  line_hit v f 6 _ _ _ k off h inb'

end loads

/-- The second loop builds the table. -/
theorem filled_eq (f : BufTy.Contents (Elt F) arg12.view.ty) (p0 p1 p2 p3 p4 p5 p6 p7 : FVec F S60x128 .f32) :
    st_k0_t2 Variants.none c none arg0 harg0 arg1 harg1 arg2 harg2 arg3 harg3 arg4 harg4 arg5 harg5 arg6 harg6 arg7 harg7 arg8 harg8 arg9 harg9 arg10 harg10 arg11 harg11 arg12 harg12 (arg12.view.writes (Elt F) f (stored p0 p1 p2 p3 p4 p5 p6 p7)) k0_pay4
      (Scf.trips 0#32 (Scalar.addi 0#32 60#32) 1#32) = filled p0 p1 p2 p3 p4 p5 p6 60 := by
  refine steps_eq _ _ _ (by decide) rfl fun k ih => (st_k0_t2_succ (k := k) ..).trans ?_
  rw [ih, filled, dif_pos k.isLt]
  unfold tripR_k0_t2 trip_k0_t2 trip_k0_t2.sl.r trip_k0_t2.sl.r_1 trip_k0_t2.sl.r_2 trip_k0_t2.sl.r_3 trip_k0_t2.sl.r_4
  dsimp only
  rw [load_6 _ _ _ _ _ _ _ _ _ _ k _ _ (by rw [← row_val k]; rfl), load_0 _ _ _ _ _ _ _ _ _ _ k _ _ (by rw [← row_val k]; rfl),
    load_1 _ _ _ _ _ _ _ _ _ _ k _ _ (by rw [← row_val k]; rfl), load_2 _ _ _ _ _ _ _ _ _ _ k _ _ (by rw [← row_val k]; rfl),
    load_3 _ _ _ _ _ _ _ _ _ _ k _ _ (by rw [← row_val k]; rfl), load_4 _ _ _ _ _ _ _ _ _ _ k _ _ (by rw [← row_val k]; rfl),
    load_5 _ _ _ _ _ _ _ _ _ _ k _ _ (by rw [← row_val k]; rfl)]
  rfl

/-- What the body leaves in its result buffer is the table, whatever the scratch held before. -/
theorem table_eq (v : View sig .tc .vmem S6x2048 .f32) (g : v.ty.Contents (Elt F)) :
    View.read (Elt F) v (v.writes (Elt F) g (bodyRun c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 old).1) = table x0 x1 x2 x3 x4 x5 x6 x7 x8 x9 x10 := by
  unfold bodyRun
  dsimp only
  rw [View.read_writes_full]
  unfold bodyRun.sl.HS0_8
  rw [before_eq, score_eq, whole_load]
  unfold bodyRun.sl.r_13 bodyRun.sl.r_15 bodyRun.sl.r_10 bodyRun.sl.r_9 bodyRun.sl.r_8
  unfold bodyRun.sl.r_11 bodyRun.sl.r_12
  rw [show bodyRun.sl.r_1 c arg5 harg5 x5 = x5 from whole_load _ _ _ _, show bodyRun.sl.r_2 c arg6 harg6 x6 = x6 from whole_load _ _ _ _,
    show bodyRun.sl.r_3 c arg3 harg3 x3 = k0_pay12 x3 from congrArg k0_pay12 (whole_load _ _ _ _),
    show bodyRun.sl.r_4 c arg4 harg4 x4 = k0_pay13 x4 from congrArg k0_pay13 (whole_load _ _ _ _),
    show bodyRun.sl.r_5 c arg1 harg1 arg5 harg5 arg7 harg7 x1 x5 x7 = k0_pay14 x5 x1 x7 by
      unfold bodyRun.sl.r_5; exact congr (congrArg₂ k0_pay14 (whole_load _ _ _ _) (whole_load _ _ _ _)) (whole_load _ _ _ _),
    show bodyRun.sl.r_6 c arg2 harg2 arg6 harg6 x2 x6 = k0_pay15 x6 x2 by
      unfold bodyRun.sl.r_6; exact congrArg₂ k0_pay15 (whole_load _ _ _ _) (whole_load _ _ _ _),
    show bodyRun.sl.r_7 c arg8 harg8 x8 = x8 from whole_load _ _ _ _, score_eq]
  unfold table
  refine Eq.trans ?_ (filled_eq c arg0 harg0 arg1 harg1 arg2 harg2 arg3 harg3 arg4 harg4 arg5 harg5 arg6 harg6 arg7 harg7 arg8 harg8 arg9 harg9 arg10 harg10 arg11 harg11 arg12 harg12 arg12.view.junk (score x0 x9) (left x1 x3 x5 x7) (top x2 x4 x6 x8) (right x1 x3 x5 x7) (bottom x2 x4 x6 x8)
    (valid x0 x1 x2 x3 x4 x5 x6 x7 x8 x9) (place (score x0 x9) x10) x10)
  refine congrArg (fun L => st_k0_t2 Variants.none c none arg0 harg0 arg1 harg1 arg2 harg2 arg3 harg3 arg4 harg4 arg5 harg5 arg6 harg6 arg7 harg7 arg8 harg8 arg9 harg9 arg10 harg10 arg11 harg11 arg12 harg12 (arg12.view.writes (Elt F) arg12.view.junk L) k0_pay4
      (Scf.trips 0#32 (Scalar.addi 0#32 60#32) 1#32)) ?_
  unfold stored
  have e5 : valid x0 x1 x2 x3 x4 x5 x6 x7 x8 x9 = k0_pay24 (k0_pay23 (score x0 x9) x5 x6 (k0_pay12 x3) (k0_pay13 x4)
    (k0_pay14 x5 x1 x7) (k0_pay15 x6 x2) x8) cst_40 cst_41 := rfl
  rw [e5]
  unfold left right top bottom
  generalize k0_pay24 (F := F) _ _ _ = q5
  generalize k0_pay19 (F := F) _ _ _ = q1
  generalize k0_pay20 (F := F) _ _ _ _ = q2
  generalize k0_pay21 (F := F) _ _ _ = q3
  generalize k0_pay22 (F := F) _ _ _ _ = q4
  generalize place (F := F) _ _ = q6
  rfl

end Cert.Order

end
-- ==== Proof.OrderFrame.lean ====
/-
The frame of the second call: from any memory its run ends, the arguments as they were, and the result buffer at
`table` of the blocks.
-/
module

public import proofs.«01_k».proof.Proof.OrderTable
public import Idealize.ShloMosaic.Lib.Claim

@[expose] public section

set_option maxRecDepth 16384

noncomputable section

namespace Cert.Order

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a point -/

abbrev ms0 (t : Fin cfg0.N) : Memref sig .tc .vmem S60x128 .f32 := win0_0.stage (cfg0.slots t 0)
abbrev hs0 (t : Fin cfg0.N) : (ms0 t).IsWhole := hstage0_0 0
abbrev ms1 (t : Fin cfg0.N) : Memref sig .tc .vmem S60x128 .f32 := win0_1.stage (cfg0.slots t 1)
abbrev hs1 (t : Fin cfg0.N) : (ms1 t).IsWhole := hstage0_1 0
abbrev ms2 (t : Fin cfg0.N) : Memref sig .tc .vmem S60x128 .f32 := win0_2.stage (cfg0.slots t 2)
abbrev hs2 (t : Fin cfg0.N) : (ms2 t).IsWhole := hstage0_2 0
abbrev ms3 (t : Fin cfg0.N) : Memref sig .tc .vmem S60x128 .f32 := win0_3.stage (cfg0.slots t 3)
abbrev hs3 (t : Fin cfg0.N) : (ms3 t).IsWhole := hstage0_3 0
abbrev ms4 (t : Fin cfg0.N) : Memref sig .tc .vmem S60x128 .f32 := win0_4.stage (cfg0.slots t 4)
abbrev hs4 (t : Fin cfg0.N) : (ms4 t).IsWhole := hstage0_4 0
abbrev ms5 (t : Fin cfg0.N) : Memref sig .tc .vmem S60x128 .f32 := win0_5.stage (cfg0.slots t 5)
abbrev hs5 (t : Fin cfg0.N) : (ms5 t).IsWhole := hstage0_5 0
abbrev ms6 (t : Fin cfg0.N) : Memref sig .tc .vmem S60x128 .f32 := win0_6.stage (cfg0.slots t 6)
abbrev hs6 (t : Fin cfg0.N) : (ms6 t).IsWhole := hstage0_6 0
abbrev ms7 (t : Fin cfg0.N) : Memref sig .tc .vmem S60x128 .f32 := win0_7.stage (cfg0.slots t 7)
abbrev hs7 (t : Fin cfg0.N) : (ms7 t).IsWhole := hstage0_7 0
abbrev ms8 (t : Fin cfg0.N) : Memref sig .tc .vmem S60x128 .f32 := win0_8.stage (cfg0.slots t 8)
abbrev hs8 (t : Fin cfg0.N) : (ms8 t).IsWhole := hstage0_8 0
abbrev ms9 (t : Fin cfg0.N) : Memref sig .tc .vmem S60x128 .f32 := win0_9.stage (cfg0.slots t 9)
abbrev hs9 (t : Fin cfg0.N) : (ms9 t).IsWhole := hstage0_9 0
abbrev ms10 (t : Fin cfg0.N) : Memref sig .tc .vmem S60x128 .f32 := win0_10.stage (cfg0.slots t 10)
abbrev hs10 (t : Fin cfg0.N) : (ms10 t).IsWhole := hstage0_10 0
abbrev ms11 (t : Fin cfg0.N) : Memref sig .tc .vmem S6x2048 .f32 := win0_11.stage (cfg0.slots t 11)
abbrev hs11 (t : Fin cfg0.N) : (ms11 t).IsWhole := hstage0_11 0
/-- The scratch buffer. -/
abbrev scM : Memref sig .tc .vmem S8x60x128 .f32 := Memref.whole cc0_scratch0

/-- The region's invariant, with the scratch as a buffer holding something. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The table from the blocks of a point. -/
def tableAt (c : Dev nD) (t : Fin cfg0.N) : Vec F S6x2048 .f32 :=
  table (iblk m c 0 t) (iblk m c 1 t) (iblk m c 2 t) (iblk m c 3 t) (iblk m c 4 t) (iblk m c 5 t) (iblk m c 6 t) (iblk m c 7 t) (iblk m c 8 t) (iblk m c 9 t) (iblk m c 10 t)

/-! ## The pipeline's proof data -/

/-- After the body every input buffer holds its block and the output buffer the table. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => tableAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = tableAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-! ## The body -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

/-- The scratch buffer holds something. -/
theorem scratch_open (c : Dev nD) (ds : Vec F S8x60x128 .f32) :
    (owns (c : Thread nD τ) scM fullShare ds : sProp 𝕄)
      ⊢ iprop(∃ old : BufTy.Contents (Elt F) scM.view.ty, scM.view.loc (c : Thread nD τ) ↦[scM.view.set]{fullShare} old) := by
  unfold owns
  iintro ⟨%f, -, H⟩
  iexists f
  iexact H

set_option maxHeartbeats 1200000 in
/-- The body at any point, whatever the scratch held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  rw [show (dats m 0 c).Φ t.castSucc = Pipeline.ΦA spec0 c from rfl, PhiA_eq]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HS := (scratch_open c ds) $$ HS
  icases HS with ⟨%old, HS0⟩
  iapply ((bodyRun c _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) old).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  iintro ⟨H0, H1, H2, H3, H4, H5, H6, H7, H8, H9, H10, ⟨%e11, H11⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact table_eq (F := F) (c := c) (v := (ms11 t).view) (g := e11) ..

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

set_option backward.isDefEq.respectTransparency.types false in
set_option maxHeartbeats 800000 in
/-- Every execution ends, with the arrays at what the proof data give and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Order

end
-- ==== Proof.OrderBits.lean ====
/- The ordering call as it is printed for the words of the machine is the same program as the one read over the extended
   reals, at any reading of the floats: so its run is the run of `Cert.Order.frame`. -/
module

public import proofs.«01_k».proof.Proof.OrderFrame
public import proofs.«01_k».proof.Proof.Gen.Kernel3
public import proofs.«01_k».proof.Proof.Gen.Kernel3.Skeleton

@[expose] public section

set_option maxRecDepth 20000

noncomputable section

namespace Cert.Order

open Idealize.ShloMosaic Idealize.SL.Sem

variable {F : FTy → Type} [FloatOps F]

/-- The two texts' host programs are the same. -/
theorem main_same : @Cert.Kernel3.main F _ _ = @Cert.Kernel3Ideal.main F _ _ := rfl

/-- Their bodies are the same. -/
theorem body_same : @Cert.Kernel3.defs₀ F _ _ = @Cert.Kernel3Ideal.defs₀ F _ _ := by
  refine congrArg Defs.onTc (funext fun l => ?_)
  match l with
  | ⟨0, _⟩ => exact funext fun a => match a with | (_, _) => rfl

/-- Their procedures are the same. -/
theorem defs_same : @Cert.Kernel3.defs F _ _ = @Cert.Kernel3Ideal.defs F _ _ :=
  congrArg (Pipeline.defs (Cert.Kernel3Ideal.pcfgs (F := F))) body_same

/-- The program runs, leaves its arguments as they were, and every counter at zero. -/
theorem frame3 (m : (ℓ : Loc Cert.Kernel3.nD Cert.Kernel3.τ Cert.Kernel3.sig) → Buf (Elt F) ℓ) (ρ : Dev Cert.Kernel3.nD → PrngReg) :
    θ_run (Cert.Kernel3.defs (F := F)) (onTc (τ := Cert.Kernel3.τ) (Cert.Kernel3.main (F := F))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0) := by
  rw [defs_same, main_same]
  exact Cert.Order.frame (F := F) m ρ

end Cert.Order

end
-- ==== Proof.OrderWords.lean ====
/- The entries of the words the second call is made of: what one step adds to the places, and to the table. -/
module

public import proofs.«01_k».proof.Proof.OrderTable
public import proofs.«01_k».proof.Proof.NmsRank
public import Idealize.ShloMosaic.PureOps.Ideal
public import Idealize.ShloMosaic.Lib.Pointwise
public import Idealize.ShloMosaic.Lib.ValueIdx

@[expose] public section

set_option maxRecDepth 16384

noncomputable section

namespace Cert.Order

open Idealize.ShloMosaic Idealize.ShloMosaic.TcCoe
open Cert.Kernel3Ideal Cert.Kernel3Ideal.Gen
open Cert.Nms (num ind num_inj num_lt num_le num_add num_zero num_one ind_true ind_false ite_ind ind_congr sitofp_num andi_bool sum_ind)
open Classical

theorem line_apply (p : FVec Ideal S60x128 .f32) (k : Fin 60) (d : Fin 128) : line p k (ix3 0 0 d) = p (ix2 k d) := rfl

theorem pay28_apply (s i acc : FVec Ideal S60x128 .f32) (x y : FVec Ideal S1x1x128 .f32) (a : Fin 60) (l : Fin 128) :
    k0_pay28 s i acc x y (ix2 a l) = acc (ix2 a l) + ∑ d : Fin 128,
      ((if s (ix2 a l) < x (ix3 0 0 d) then (1 : EReal) else 0)
        + if x (ix3 0 0 d) = s (ix2 a l) ∧ y (ix3 0 0 d) < i (ix2 a l) then 1 else 0) := by
  unfold k0_pay28
  pointwise
  simp only [andi_bool]

theorem pay27_apply (a : Fin 60) (l : Fin 128) : k0_pay27 (F := Ideal) (ix2 a l) = 0 := by
  unfold k0_pay27
  pointwise

theorem pay29_apply (v : FVec Ideal S60x128 .f32) (a : Fin 60) (l : Fin 128) : k0_pay29 v (ix2 a l) = min (v (ix2 a l)) (num 2047) := by
  have e : Ideal.ofBits .f32 0x44FFE000#32 = num 2047 := by
    simp [Ideal.ofBits, Ideal.ieee, num, -EReal.coe_mul]; norm_num
  unfold k0_pay29
  pointwise
  rw [e]

theorem pay4_apply (r : Fin 6) (j : Fin 2048) : k0_pay4 (F := Ideal) (ix2 r j) = 0 := by
  unfold k0_pay4
  pointwise

/-- Column by column, which place of the row goes there. -/
theorem pay6_apply (x : FVec Ideal S1x1x128 .f32) (d : Fin 128) (j : Fin 2048) (u w : EReal) :
    Scalar.select (k0_pay6 (F := Ideal) k0_pay3 x (ix2 d j)) u w = if x (ix3 0 0 d) = num j.val then u else w := by
  unfold k0_pay6 k0_pay3
  pointwise
  rw [sitofp_num _ (by omega)]

theorem pay7_apply (x y : FVec Ideal S1x1x128 .f32) (j : Fin 2048) :
    k0_pay7 (F := Ideal) k0_pay3 x y (ix2 0 j) = ∑ d : Fin 128, if x (ix3 0 0 d) = num j.val then y (ix3 0 0 d) else 0 := by
  simp only [← pay6_apply]
  unfold k0_pay7
  pointwise

/-- The six planes that go into the table. -/
def planes (p0 p1 p2 p3 p4 p5 : FVec Ideal S60x128 .f32) : Fin 6 → FVec Ideal S60x128 .f32 := ![p0, p1, p2, p3, p4, p5]

theorem added_apply (p0 p1 p2 p3 p4 p5 p6 : FVec Ideal S60x128 .f32) (k : Fin 60) (t : FVec Ideal S6x2048 .f32) (r : Fin 6) (j : Fin 2048) :
    added p0 p1 p2 p3 p4 p5 p6 k t (ix2 r j) = t (ix2 r j)
      + ∑ d : Fin 128, if p6 (ix2 k d) = num j.val then planes p0 p1 p2 p3 p4 p5 r (ix2 k d) else 0 := by
  fin_cases r
  all_goals
    unfold added k0_pay5 k0_pay7 k0_pay8 k0_pay9 k0_pay10
    pointwise
    exact congrArg _ (Finset.sum_congr rfl fun d _ => pay6_apply (line p6 k) d j _ _)

end Cert.Order

end
-- ==== Proof.OrderSort.lean ====
/- A stable descending sort puts at place `r` the element before which `r` others come. -/
module

public import Idealize.ShloMosaic.Lib.SortFacts
public import Mathlib.Order.Interval.Finset.Fin
public import Mathlib.Data.EReal.Basic

@[expose] public section

noncomputable section

namespace Cert.Order

open Idealize.ShloMosaic
open Classical

variable {n : ℕ} (key : Fin n → EReal)

/-- The order of the list: the greater key first, the earlier place first where the keys are equal. -/
def Ahead (a b : Fin n) : Prop := key b < key a ∨ key a = key b ∧ a < b

theorem Ahead.irrefl (a : Fin n) : ¬ Ahead key a a := fun h => h.elim (lt_irrefl _) fun h => lt_irrefl _ h.2

theorem Ahead.asymm {a b : Fin n} (h : Ahead key a b) : ¬ Ahead key b a := by
  rintro (h' | ⟨e', h'⟩)
  · rcases h with h | ⟨e, _⟩
    · exact lt_asymm h h'
    · exact lt_irrefl _ (e ▸ h')
  · rcases h with h | ⟨_, h⟩
    · exact lt_irrefl _ (e' ▸ h)
    · exact lt_asymm h h'

theorem Ahead.trans {a b d : Fin n} (h : Ahead key a b) (h' : Ahead key b d) : Ahead key a d := by
  rcases h with h | ⟨e, h⟩
  · rcases h' with h' | ⟨e', _⟩
    · exact Or.inl (h'.trans h)
    · exact Or.inl (e' ▸ h)
  · rcases h' with h' | ⟨e', h'⟩
    · exact Or.inl (e ▸ h')
    · exact Or.inr ⟨e.trans e', h.trans h'⟩

/-- Inserting an element of an earlier place than all the others' keeps the list in order. -/
theorem pairwise_insert (before : Fin n → Fin n → Bool) (hb : ∀ a b, before a b = true ↔ key b < key a) (a : Fin n) (l : List (Fin n))
    (hl : l.Pairwise (Ahead key)) (ha : ∀ b ∈ l, a < b) : (insertBefore before a l).Pairwise (Ahead key) ∧ ∀ d, d ∈ insertBefore before a l ↔ d = a ∨ d ∈ l := by
  induction l with
  | nil => exact ⟨List.pairwise_singleton _ _, fun d => by simp [insertBefore]⟩
  | cons b l ih =>
    obtain ⟨h1, h2⟩ := List.pairwise_cons.mp hl
    obtain ⟨i1, i2⟩ := ih h2 fun d hd => ha d (List.mem_cons_of_mem _ hd)
    unfold insertBefore
    by_cases hba : before b a = true
    · rw [if_pos hba]
      refine ⟨List.pairwise_cons.mpr ⟨fun d hd => ?_, i1⟩, fun d => ?_⟩
      · rcases (i2 d).mp hd with rfl | hd
        · exact Or.inl ((hb _ _).mp hba)
        · exact h1 d hd
      · rw [List.mem_cons, i2, List.mem_cons]
        tauto
    · rw [if_neg hba]
      have hab : Ahead key a b := by
        rcases lt_or_eq_of_le (not_lt.mp fun h => hba ((hb _ _).mpr h)) with h | h
        · exact Or.inl h
        · exact Or.inr ⟨h.symm, ha b List.mem_cons_self⟩
      refine ⟨List.pairwise_cons.mpr ⟨fun d hd => ?_, hl⟩, fun d => List.mem_cons⟩
      rcases List.mem_cons.mp hd with rfl | hd
      · exact hab
      · exact hab.trans key (h1 d hd)

theorem pairwise_sort (before : Fin n → Fin n → Bool) (hb : ∀ a b, before a b = true ↔ key b < key a) (l : List (Fin n))
    (hl : l.Pairwise (· < ·)) : (stableSort before l).Pairwise (Ahead key) ∧ ∀ d, d ∈ stableSort before l ↔ d ∈ l := by
  induction l with
  | nil => exact ⟨List.Pairwise.nil, fun d => Iff.rfl⟩
  | cons a l ih =>
    obtain ⟨h1, h2⟩ := List.pairwise_cons.mp hl
    obtain ⟨i1, i2⟩ := ih h2
    have := pairwise_insert key before hb a _ i1 fun b hd => h1 b ((i2 b).mp hd)
    exact ⟨this.1, fun d => (this.2 d).trans (by rw [i2, List.mem_cons])⟩

/-- How many elements come before one. -/
def rank (a : Fin n) : ℕ := (Finset.univ.filter fun b => Ahead key b a).card

variable (before : Fin n → Fin n → Bool) (hb : ∀ a b, before a b = true ↔ key b < key a)
include hb

theorem sorted_mono {i j : Fin n} (h : i < j) : Ahead key (sortedFrom before i) (sortedFrom before j) :=
  List.pairwise_iff_get.mp (pairwise_sort key before hb (List.finRange n) (List.pairwise_lt_finRange n)).1 _ _ h

theorem sorted_iff (i j : Fin n) : Ahead key (sortedFrom before i) (sortedFrom before j) ↔ i < j := by
  refine ⟨fun h => ?_, sorted_mono key before hb⟩
  rcases lt_trichotomy i j with h' | rfl | h'
  · exact h'
  · exact absurd h (Ahead.irrefl key _)
  · exact absurd h (Ahead.asymm key (sorted_mono key before hb h'))

theorem sorted_inj : Function.Injective (sortedFrom before) := fun i j h => by
  rcases lt_trichotomy i j with h' | h' | h'
  · exact absurd (h ▸ sorted_mono key before hb h') (Ahead.irrefl key _)
  · exact h'
  · exact absurd (h ▸ sorted_mono key before hb h') (Ahead.irrefl key _)

/-- The element at place `r` has `r` elements before it. -/
theorem rank_sorted (r : Fin n) : rank key (sortedFrom before r) = r.val := by
  have hs := Finite.surjective_of_injective (sorted_inj key before hb)
  unfold rank
  rw [← Fin.card_Iio r, ← Finset.card_image_of_injective (Finset.Iio r) (sorted_inj key before hb)]
  refine congrArg Finset.card (Finset.ext fun b => ?_)
  obtain ⟨i, rfl⟩ := hs b
  rw [Finset.mem_filter, Finset.mem_image]
  refine ⟨fun h => ⟨i, Finset.mem_Iio.mpr ((sorted_iff key before hb i r).mp h.2), rfl⟩, ?_⟩
  rintro ⟨j, hj, e⟩
  exact ⟨Finset.mem_univ _, (sorted_iff key before hb i r).mpr (sorted_inj key before hb e ▸ Finset.mem_Iio.mp hj)⟩

/-- And it is the only one. -/
theorem rank_eq_iff (a : Fin n) (r : Fin n) : rank key a = r.val ↔ a = sortedFrom before r := by
  refine ⟨fun h => ?_, fun h => h ▸ rank_sorted key before hb r⟩
  obtain ⟨i, rfl⟩ := Finite.surjective_of_injective (sorted_inj key before hb) a
  rw [rank_sorted key before hb] at h
  exact congrArg _ (Fin.ext h)

end Cert.Order

end
-- ==== Proof.OrderPlace.lean ====
/- The place of each score, counted over the rows, and the table's columns: column `j` holds the values of the score whose
   place is `j`. -/
module

public import proofs.«01_k».proof.Proof.OrderWords
public import proofs.«01_k».proof.Proof.OrderSort
public import Idealize.ShloMosaic.Lib.Routing.Ops

@[expose] public section

set_option maxRecDepth 16384

noncomputable section

namespace Cert.Order

open Idealize.ShloMosaic Idealize.ShloMosaic.TcCoe
open Cert.Kernel3Ideal Cert.Kernel3Ideal.Gen
open Cert.Nms (num ind num_inj num_lt num_le num_add num_zero num_one ind_true ind_false ite_ind ind_congr sum_ind)
open Classical

/-- The entry of a plane with a number, row after row. -/
def entry (p : FVec Ideal S60x128 .f32) (q : Fin 7680) : EReal :=
  p (ix2 (⟨q.val / 128, by omega⟩ : Fin 60) (⟨q.val % 128, by omega⟩ : Fin 128))

theorem entry_row (p : FVec Ideal S60x128 .f32) (k : Fin 60) (d : Fin 128) (h : 128 * k.val + d.val < 7680) :
    entry p ⟨128 * k.val + d.val, h⟩ = p (ix2 k d) := by
  unfold entry
  congr 2 <;> refine Fin.ext ?_
  · show (128 * k.val + d.val) / 128 = k.val; omega
  · show (128 * k.val + d.val) % 128 = d.val; omega

/-- Two statements that exclude each other: one holds or the other. -/
theorem ind_add (p q : Prop) [Decidable p] [Decidable q] (h : ¬ (p ∧ q)) : (if p then (1 : EReal) else 0) + (if q then 1 else 0) = ind (p ∨ q) := by
  by_cases hp : p
  · have hq : ¬ q := fun hq => h ⟨hp, hq⟩
    rw [if_pos hp, if_neg hq, ind_true (.inl hp), add_zero]
  · by_cases hq : q
    · rw [if_neg hp, if_pos hq, ind_true (.inr hq), zero_add]
    · rw [if_neg hp, if_neg hq, ind_false (by tauto), add_zero]

/-- The score with this number comes before the one at `g`. -/
def Over (s : FVec Ideal S60x128 .f32) (g : Fin 7680) (x : ℕ) : Prop := ∃ h : x < 7680, Ahead (entry s) ⟨x, h⟩ g

section
variable (s i : FVec Ideal S60x128 .f32) (hi : ∀ q : Fin 7680, entry i q = num q.val)
include hi

/-- What a place has counted after `n` rows. -/
theorem before_apply (a : Fin 60) (l : Fin 128) (g : Fin 7680) (hg : g.val = 128 * a.val + l.val) (n : ℕ) (hn : n ≤ 60) :
    before s i n (ix2 a l) = num (Nat.count (Over s g) (128 * n)) := by
  have eg : g = ⟨128 * a.val + l.val, by omega⟩ := Fin.ext hg
  induction n with
  | zero => exact (pay27_apply a l).trans num_zero.symm
  | succ n ih =>
    rw [before, dif_pos (show n < 60 from hn), pay28_apply, ih (by omega) eg, Nat.mul_succ, Nat.count_add, ← num_add, ← sum_ind (fun k => Over s g (128 * n + k))]
    refine congrArg _ (Finset.sum_congr rfl fun d _ => ?_)
    have hx : 128 * n + d.val < 7680 := by omega
    rw [line_apply, line_apply, ind_add _ _ fun h => lt_irrefl _ (h.2.1 ▸ h.1)]
    refine ind_congr ?_
    rw [← entry_row s a l (by omega), ← entry_row i a l (by omega), ← entry_row s ⟨n, hn⟩ d hx, ← entry_row i ⟨n, hn⟩ d hx, ← eg, hi, hi, num_lt]
    exact ⟨fun h => ⟨hx, h⟩, fun ⟨_, h⟩ => h⟩

/-- Where a score goes. -/
theorem place_apply (g : Fin 7680) : entry (place s i) g = num (min (rank (entry s) g) 2047) := by
  have hg : g.val = 128 * (g.val / 128) + g.val % 128 := by omega
  have e : entry (place s i) g = k0_pay29 (before s i 60) (ix2 (⟨g.val / 128, by omega⟩ : Fin 60) (⟨g.val % 128, by omega⟩ : Fin 128)) := rfl
  rw [e, pay29_apply, before_apply s i hi _ _ g hg 60 le_rfl]
  have hr : Nat.count (Over s g) (128 * 60) = rank (entry s) g := by
    unfold rank
    rw [← Routing.card_filter_fin]
    refine congrArg Finset.card (Finset.filter_congr fun q _ => ?_)
    exact ⟨fun ⟨_, h⟩ => h, fun h => ⟨q.isLt, h⟩⟩
  rw [show Nat.count (Over s g) (128 * 60) = rank (entry s) g from hr]
  rcases le_total (rank (entry s) g) 2047 with h | h
  · rw [min_eq_left h, min_eq_left (num_le.mpr h)]
  · rw [min_eq_right h, min_eq_right (num_le.mpr h)]

end

section
variable (key : Fin 7680 → EReal) (key' : Fin 7500 → EReal) (h1 : ∀ q : Fin 7500, key ⟨q.val, q.isLt.trans_le (Nat.le_of_ble_eq_true rfl)⟩ = key' q)
  (h2 : ∀ q : Fin 7500, 0 ≤ key' q) (h3 : ∀ q : Fin 7680, 7500 ≤ q.val → key q < 0)
include h1 h2 h3

/-- Behind the last of the 7500 every score has at least 7500 before it. -/
theorem rank_behind (g : Fin 7680) (hg : 7500 ≤ g.val) : 7500 ≤ rank key g := by
  unfold rank
  have : (Finset.univ.map ⟨fun q : Fin 7500 => (⟨q.val, by omega⟩ : Fin 7680), fun a b h => Fin.ext (Fin.mk.inj_iff.mp h)⟩) ⊆
      Finset.univ.filter fun b => Ahead key b g := by
    intro b hb
    obtain ⟨q, _, rfl⟩ := Finset.mem_map.mp hb
    refine Finset.mem_filter.mpr ⟨Finset.mem_univ _, .inl ?_⟩
    show key g < key ⟨q.val, _⟩
    rw [h1]
    exact (h3 g hg).trans_le (h2 q)
  have := Finset.card_le_card this
  rwa [Finset.card_map, Finset.card_univ, Fintype.card_fin] at this

/-- The scores among the 7500 have the same before them as without the rest. -/
theorem rank_among (q : Fin 7500) : rank key ⟨q.val, by omega⟩ = rank key' q := by
  unfold rank
  rw [← Finset.card_map ⟨fun q : Fin 7500 => (⟨q.val, by omega⟩ : Fin 7680), fun a b h => Fin.ext (Fin.mk.inj_iff.mp h)⟩]
  refine congrArg Finset.card (Finset.ext fun b => ?_)
  rw [Finset.mem_filter, Finset.mem_map]
  constructor
  · rintro ⟨_, hb⟩
    have hlt : b.val < 7500 := by
      by_contra hn
      have hneg := h3 b (by omega)
      rcases hb with hb | ⟨e, _⟩
      · exact absurd ((h1 q ▸ hb).trans hneg) (not_lt.mpr (h2 q))
      · exact absurd (h1 q ▸ e ▸ hneg) (not_lt.mpr (h2 q))
    refine ⟨⟨b.val, hlt⟩, Finset.mem_filter.mpr ⟨Finset.mem_univ _, ?_⟩, rfl⟩
    unfold Ahead at hb ⊢
    rw [← h1, ← h1]
    exact hb
  · rintro ⟨a, ha, rfl⟩
    refine ⟨Finset.mem_univ _, ?_⟩
    have := (Finset.mem_filter.mp ha).2
    unfold Ahead at this ⊢
    rw [← h1, ← h1] at this
    exact this

variable (sorted : Fin 7500 → Fin 7500 → Bool) (hb : ∀ a b, sorted a b = true ↔ key' b < key' a)
include hb

/-- One place before the 2000th is filled by one score. -/
theorem place_iff (j : Fin 7500) (hj : j.val < 2000) (g : Fin 7680) :
    num (min (rank key g) 2047) = num j.val ↔ g.val = (sortedFrom sorted j).val := by
  rw [num_inj]
  rcases Nat.lt_or_ge g.val 7500 with hg | hg
  · have e := rank_among key key' h1 h2 h3 ⟨g.val, hg⟩
    have e' : rank key g = rank key' ⟨g.val, hg⟩ := e
    have f := rank_eq_iff key' sorted hb ⟨g.val, hg⟩ j
    rw [e']
    refine Iff.trans ?_ (f.trans Fin.ext_iff)
    omega
  · have := rank_behind key key' h1 h2 h3 g hg
    refine ⟨fun h => ?_, fun h => ?_⟩
    · omega
    · have := (sortedFrom sorted j).isLt
      omega

end

/-- The table, column by column, where one score has the column's place. -/
theorem filled_apply (p0 p1 p2 p3 p4 p5 p6 : FVec Ideal S60x128 .f32) (r : Fin 6) (j : Fin 2048) (g : Fin 7680)
    (h : ∀ q, entry p6 q = num j.val ↔ q = g) (n : ℕ) (hn : n ≤ 60) :
    filled p0 p1 p2 p3 p4 p5 p6 n (ix2 r j) = if g.val < 128 * n then entry (planes p0 p1 p2 p3 p4 p5 r) g else 0 := by
  induction n with
  | zero => exact (pay4_apply r j).trans (if_neg (by omega)).symm
  | succ n ih =>
    have hs : ∀ d : Fin 128, (p6 (ix2 (⟨n, hn⟩ : Fin 60) d) = num j.val) ↔ 128 * n + d.val = g.val := fun d => by
      have hx : 128 * n + d.val < 7680 := by omega
      rw [← entry_row p6 ⟨n, hn⟩ d hx, h]
      exact ⟨fun e => congrArg Fin.val e, fun e => Fin.ext e⟩
    rw [filled, dif_pos (show n < 60 from hn), added_apply, ih (by omega)]
    by_cases h1 : g.val < 128 * n
    · rw [if_pos h1, if_pos (by omega), Finset.sum_eq_zero fun d _ => if_neg fun e => by have := (hs d).mp e; omega, add_zero]
    · rw [if_neg h1, zero_add]
      by_cases h2 : g.val < 128 * (n + 1)
      · rw [if_pos h2]
        have hd : g.val - 128 * n < 128 := by omega
        rw [Finset.sum_eq_single (⟨g.val - 128 * n, hd⟩ : Fin 128)]
        · have hx : 128 * n + (g.val - 128 * n) < 7680 := by omega
          rw [if_pos ((hs _).mpr (show 128 * n + (g.val - 128 * n) = g.val by omega)), ← entry_row (planes p0 p1 p2 p3 p4 p5 r) ⟨n, hn⟩ ⟨g.val - 128 * n, hd⟩ hx]
          exact congrArg _ (Fin.ext (show 128 * n + (g.val - 128 * n) = g.val by omega))
        · intro d _ hne
          exact if_neg fun e => hne (Fin.ext (by have := (hs d).mp e; show d.val = g.val - 128 * n; omega))
        · exact fun hm => absurd (Finset.mem_univ _) hm
      · rw [if_neg h2]
        exact Finset.sum_eq_zero fun d _ => if_neg fun e => by have := (hs d).mp e; omega

end Cert.Order

end
-- ==== Proof.OrderRegion.lean ====
/- What the second call's region is given and what its one result array holds at the end. -/
module

public import proofs.«01_k».proof.Proof.OrderFrame
public import proofs.«01_k».proof.Proof.OrderPlace
public import Idealize.ShloMosaic.Lib.KernelVsHost
public import Idealize.ShloMosaic.Lib.Pipeline.ValueKit
public import Idealize.ShloMosaic.Lib.StableHlo.Run
public import Idealize.ShloMosaic.Lib.StableHlo.RunClose
public import Idealize.ShloMosaic.Lib.Pipeline.FrameSuffix

@[expose] public section

set_option maxRecDepth 16384

noncomputable section

namespace Cert.Order

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-! ### The run -/

/-- What the region's result array holds. -/
def result : FVec Ideal S6x2048 .f32 := (dats m 0 c).arrAt 11 cfg0.N

theorem tail (V1 : Valuation τ sig (Elt Ideal)) :
    StableHlo.after (List.flatten [hostOps1]) V1 (Proc.devRef .tc main_v19)
      = extractStridedSlice S6x2000 ![0, 0] (V1 (Proc.devRef .tc main_v18)) slices_S6x2048_S6x2000_0_0 := by
  simp only [hostOps1, List.flatten_cons, List.flatten_nil, List.append_nil, List.cons_append, List.nil_append]
  after_results

theorem fin : Pipeline.afterTail₀ cfgs (dats m) 0 (V0 m) [hostOps1] c main_v19
    = extractStridedSlice S6x2000 ![0, 0] (result m c) slices_S6x2048_S6x2000_0_0 :=
  (tail (Pipeline.withArrays spec0 c (V0 m c) fun w => (dats m 0 c).arrAt w cfg0.N)).trans
    (congrArg (fun z => extractStridedSlice S6x2000 ![0, 0] z slices_S6x2048_S6x2000_0_0)
      (Pipeline.withArrays_arr spec0 launch0.win.arr_inj c (V0 m c) _ 11))

/-- The program ends with the first 2000 columns of that array as its result and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v19) = extractStridedSlice S6x2000 ![0, 0] (result m c) slices_S6x2048_S6x2000_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v19 (Pipeline.mem_restRefs_of main_v19 (by decide) (by decide))).trans (fin m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 5).trans (((dats m 0 c).arrAt_in 5 rfl _).trans ((A_eq m c 5).trans (V_main_arg2 m c))),
      ((h c).1 6).trans (((dats m 0 c).arrAt_in 6 rfl _).trans ((A_eq m c 6).trans (V_main_arg3 m c))),
      ((h c).1 7).trans (((dats m 0 c).arrAt_in 7 rfl _).trans ((A_eq m c 7).trans (V_main_arg4 m c))),
      ((h c).1 8).trans (((dats m 0 c).arrAt_in 8 rfl _).trans ((A_eq m c 8).trans (V_main_arg5 m c))),
      ((h c).1 9).trans (((dats m 0 c).arrAt_in 9 rfl _).trans ((A_eq m c 9).trans (V_main_arg6 m c))),
      ((h c).1 10).trans (((dats m 0 c).arrAt_in 10 rfl _).trans ((A_eq m c 10).trans (V_main_arg7 m c)))⟩) (run_main m ρ)

/-- The array holds the table. -/
theorem result_eq : result m c = tableAt m c t0_0 := by
  unfold result
  refine (dats m 0 c).arrAt_eq_of_after_last 11 t0_0 (by decide +kernel) _ fun j => ?_
  rw [after_11]
  generalize tableAt m c t0_0 = z
  rfl

/-! ### What the region is given -/

/-- A list of 7500 as a plane, zeros behind. -/
def laid (x : FVec Ideal S7500 .f32) : FVec Ideal S60x128 .f32 :=
  shapeCast _ (pad S7680 ![0] ![180] ![0] x (sitofp (F := Ideal) .f32 (constantI S_ 32 0#32)) pads_S7500_S7680_01800 h_S_) shapeCasts_S7680_S60x128

theorem laid_entry (x : FVec Ideal S7500 .f32) (q : Fin 7500) : entry (laid x) ⟨q.val, by omega⟩ = x (ix1 q) := by
  have hq := q.isLt
  refine (shapeCast_apply _ _ _ (ix1 (⟨q.val, by omega⟩ : Fin 7680)) (by
    rewrite [Shape.rowMajor_val_two, Shape.rowMajor_val_one]
    show q.val = q.val / 128 * 128 + q.val % 128; omega)).trans ?_
  exact pad_apply_of_inside _ _ _ x _ _ _ _ (ix1 q) fun a => match a with
    | ⟨0, _⟩ => by show q.val = 0 + q.val * (0 + 1); omega

/-- The scores' arguments, the four columns, and the other six planes. -/
abbrev objs : FVec Ideal S7500 .f32 := m ((c.tc : Thread nD τ).loc main_arg0)
abbrev cols : FVec Ideal S7500x4 .f32 := m ((c.tc : Thread nD τ).loc main_arg1)

theorem V_v1 : V m c main_v1 = laid (objs m c) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v1) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem V_v5 : V m c main_v5 = laid (shapeCast _ (extractStridedSlice S7500x1 ![0, 0] (cols m c) slices_S7500x4_S7500x1_0_0) shapeCasts_S7500x1_S7500) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v5) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem V_v9 : V m c main_v9 = laid (shapeCast _ (extractStridedSlice S7500x1 ![0, 1] (cols m c) slices_S7500x4_S7500x1_0_1) shapeCasts_S7500x1_S7500) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v9) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem V_v13 : V m c main_v13 = laid (shapeCast _ (extractStridedSlice S7500x1 ![0, 2] (cols m c) slices_S7500x4_S7500x1_0_2) shapeCasts_S7500x1_S7500) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v13) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem V_v17 : V m c main_v17 = laid (shapeCast _ (extractStridedSlice S7500x1 ![0, 3] (cols m c) slices_S7500x4_S7500x1_0_3) shapeCasts_S7500x1_S7500) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v17) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

/-- A window's one block is its array. -/
theorem block_0 : iblk m c 0 t0_0 = V m c main_v1 := by
  have e : win0_0.index t0_0 = ![0, 0] := by decide +kernel
  funext i; blk_simp [iblk]; exact congrArg _ (by blk_ext [e])
theorem block_1 : iblk m c 1 t0_0 = V m c main_v5 := by
  have e : win0_1.index t0_0 = ![0, 0] := by decide +kernel
  funext i; blk_simp [iblk]; exact congrArg _ (by blk_ext [e])
theorem block_2 : iblk m c 2 t0_0 = V m c main_v9 := by
  have e : win0_2.index t0_0 = ![0, 0] := by decide +kernel
  funext i; blk_simp [iblk]; exact congrArg _ (by blk_ext [e])
theorem block_3 : iblk m c 3 t0_0 = V m c main_v13 := by
  have e : win0_3.index t0_0 = ![0, 0] := by decide +kernel
  funext i; blk_simp [iblk]; exact congrArg _ (by blk_ext [e])
theorem block_4 : iblk m c 4 t0_0 = V m c main_v17 := by
  have e : win0_4.index t0_0 = ![0, 0] := by decide +kernel
  funext i; blk_simp [iblk]; exact congrArg _ (by blk_ext [e])
theorem block_5 : iblk m c 5 t0_0 = V m c main_arg2 := by
  have e : win0_5.index t0_0 = ![0, 0] := by decide +kernel
  funext i; blk_simp [iblk]; exact congrArg _ (by blk_ext [e])
theorem block_6 : iblk m c 6 t0_0 = V m c main_arg3 := by
  have e : win0_6.index t0_0 = ![0, 0] := by decide +kernel
  funext i; blk_simp [iblk]; exact congrArg _ (by blk_ext [e])
theorem block_7 : iblk m c 7 t0_0 = V m c main_arg4 := by
  have e : win0_7.index t0_0 = ![0, 0] := by decide +kernel
  funext i; blk_simp [iblk]; exact congrArg _ (by blk_ext [e])
theorem block_8 : iblk m c 8 t0_0 = V m c main_arg5 := by
  have e : win0_8.index t0_0 = ![0, 0] := by decide +kernel
  funext i; blk_simp [iblk]; exact congrArg _ (by blk_ext [e])
theorem block_9 : iblk m c 9 t0_0 = V m c main_arg6 := by
  have e : win0_9.index t0_0 = ![0, 0] := by decide +kernel
  funext i; blk_simp [iblk]; exact congrArg _ (by blk_ext [e])
theorem block_10 : iblk m c 10 t0_0 = V m c main_arg7 := by
  have e : win0_10.index t0_0 = ![0, 0] := by decide +kernel
  funext i; blk_simp [iblk]; exact congrArg _ (by blk_ext [e])

/-- The table of the arguments. -/
theorem result_table : result m c = table (laid (objs m c))
    (laid (shapeCast _ (extractStridedSlice S7500x1 ![0, 0] (cols m c) slices_S7500x4_S7500x1_0_0) shapeCasts_S7500x1_S7500))
    (laid (shapeCast _ (extractStridedSlice S7500x1 ![0, 1] (cols m c) slices_S7500x4_S7500x1_0_1) shapeCasts_S7500x1_S7500))
    (laid (shapeCast _ (extractStridedSlice S7500x1 ![0, 2] (cols m c) slices_S7500x4_S7500x1_0_2) shapeCasts_S7500x1_S7500))
    (laid (shapeCast _ (extractStridedSlice S7500x1 ![0, 3] (cols m c) slices_S7500x4_S7500x1_0_3) shapeCasts_S7500x1_S7500))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  rw [result_eq, ← V_v1 m c, ← V_v5 m c, ← V_v9 m c, ← V_v13 m c, ← V_v17 m c, ← V_main_arg2 m c, ← V_main_arg3 m c, ← V_main_arg4 m c, ← V_main_arg5 m c, ← V_main_arg6 m c, ← V_main_arg7 m c,
    ← block_0 m c, ← block_1 m c, ← block_2 m c, ← block_3 m c, ← block_4 m c, ← block_5 m c, ← block_6 m c, ← block_7 m c, ← block_8 m c, ← block_9 m c, ← block_10 m c]
  rfl

end Cert.Order

end
-- ==== Proof.OrderPlanes.lean ====
/- The planes of scores and boxes, entry by entry. -/
module

public import proofs.«01_k».proof.Proof.OrderPlace

@[expose] public section

set_option maxRecDepth 16384

noncomputable section

namespace Cert.Order

open Idealize.ShloMosaic Idealize.ShloMosaic.TcCoe
open Cert.Kernel3Ideal Cert.Kernel3Ideal.Gen
open Cert.Nms (num ind num_inj num_lt num_le num_add num_zero num_one ind_true ind_false ite_ind ind_congr sum_ind)
open Classical

/-- A score. -/
def prob (o : EReal) : EReal := Ideal.div 1 (1 + Ideal.exp (-o))

/-- A number brought between 0 and 800. -/
def cut (y : EReal) : EReal := min (Ideal.ofBits .f32 0x44480000#32) (max 0 y)

/-- Half a side of a box: its logarithm cut above, times the side it is relative to. -/
def half (d w : EReal) : EReal := Ideal.ofBits .f32 0x3F000000#32 * (Ideal.exp (min d (Ideal.ofBits .f32 0x40845349#32)) * w)

/-- A box's two ends on one axis. -/
def low (d e w a : EReal) : EReal := cut (d * w + a - half e w)
def high (d e w a : EReal) : EReal := cut (d * w + a + half e w)

theorem one_word : Ideal.ofBits .f32 0x3F800000#32 = (1 : EReal) := by
  simp [Ideal.ofBits, Ideal.ieee, -EReal.coe_mul]; norm_num
theorem minus_word : Ideal.ofBits .f32 0xBF800000#32 = (-1 : EReal) := by
  simp [Ideal.ofBits, Ideal.ieee, -EReal.coe_mul]; norm_num
theorem zero_word : Ideal.ofBits .f32 0x00000000#32 = (0 : EReal) := by
  simp [Ideal.ofBits, Ideal.ieee, -EReal.coe_mul]

theorem exp_nonneg (x : EReal) : 0 ≤ Ideal.exp x := by
  induction x with
  | bot => exact le_of_eq rfl
  | top => exact le_top
  | coe r => exact EReal.coe_nonneg.mpr (Real.exp_pos r).le

theorem prob_nonneg (o : EReal) : 0 ≤ prob o := by
  unfold prob Ideal.div
  have h := exp_nonneg (-o)
  split
  · split
    · exact le_top
    · rename_i h1; exact absurd zero_lt_one h1
  · exact mul_nonneg zero_le_one (EReal.inv_nonneg_of_nonneg (add_nonneg zero_le_one h))

/-- Three bits together choose one or zero. -/
theorem choose (p q r : Prop) [Decidable p] [Decidable q] [Decidable r] :
    Scalar.select (IntOp.andi (IntOp.andi (BitVec.ofBool (decide p)) (BitVec.ofBool (decide q))) (BitVec.ofBool (decide r))) (1 : EReal) 0
      = ind ((p ∧ q) ∧ r) := by
  have e : ∀ a b d : Bool, IntOp.andi (IntOp.andi (BitVec.ofBool a) (BitVec.ofBool b)) (BitVec.ofBool d) = BitVec.ofBool (a && b && d) := by decide
  rw [e]
  by_cases h : (p ∧ q) ∧ r
  · rw [ind_true h, decide_eq_true h.1.1, decide_eq_true h.1.2, decide_eq_true h.2]
    rfl
  · rw [ind_false h]
    have : (decide p && decide q && decide r) = false := by
      by_contra hn
      refine h ?_
      simpa [and_assoc] using hn
    rw [this]
    rfl

variable (x0 x1 x2 x3 x4 x5 x6 x7 x8 x9 : FVec Ideal S60x128 .f32) (g : Fin 7680)

theorem score_entry : entry (score x0 x9) g = if 0 < entry x9 g then prob (entry x0 g) else -1 := by
  unfold entry score k0_pay11
  generalize (⟨g.val / 128, _⟩ : Fin 60) = b
  generalize (⟨g.val % 128, _⟩ : Fin 128) = l
  pointwise
  rw [minus_word, zero_sub]
  rfl

theorem left_entry : entry (left x1 x3 x5 x7) g = low (entry x1 g) (entry x3 g) (entry x5 g) (entry x7 g) := by
  unfold entry left k0_pay19 k0_pay17 k0_pay14 k0_pay12 low half cut
  generalize (⟨g.val / 128, _⟩ : Fin 60) = b
  generalize (⟨g.val % 128, _⟩ : Fin 128) = l
  pointwise

theorem top_entry : entry (top x2 x4 x6 x8) g = low (entry x2 g) (entry x4 g) (entry x6 g) (entry x8 g) := by
  unfold entry top k0_pay20 k0_pay18 k0_pay16 k0_pay15 k0_pay13 low half cut
  generalize (⟨g.val / 128, _⟩ : Fin 60) = b
  generalize (⟨g.val % 128, _⟩ : Fin 128) = l
  pointwise

theorem right_entry : entry (right x1 x3 x5 x7) g = high (entry x1 g) (entry x3 g) (entry x5 g) (entry x7 g) := by
  unfold entry right k0_pay21 k0_pay17 k0_pay14 k0_pay12 high half cut
  generalize (⟨g.val / 128, _⟩ : Fin 60) = b
  generalize (⟨g.val % 128, _⟩ : Fin 128) = l
  pointwise

theorem bottom_entry : entry (bottom x2 x4 x6 x8) g = high (entry x2 g) (entry x4 g) (entry x6 g) (entry x8 g) := by
  unfold entry bottom k0_pay22 k0_pay18 k0_pay16 k0_pay15 k0_pay13 high half cut
  generalize (⟨g.val / 128, _⟩ : Fin 60) = b
  generalize (⟨g.val % 128, _⟩ : Fin 128) = l
  pointwise

theorem valid_entry : entry (valid x0 x1 x2 x3 x4 x5 x6 x7 x8 x9) g = ind
      ((1 ≤ entry (right x1 x3 x5 x7) g - entry (left x1 x3 x5 x7) g ∧ 1 ≤ entry (bottom x2 x4 x6 x8) g - entry (top x2 x4 x6 x8) g)
        ∧ 0 ≤ entry (score x0 x9) g) := by
  unfold entry valid k0_pay24 k0_pay23
  generalize (⟨g.val / 128, _⟩ : Fin 60) = b
  generalize (⟨g.val % 128, _⟩ : Fin 128) = l
  pointwise
  exact choose _ _ _

/-! ### A box's six values -/

/-- The values of a box with score argument `o`, shifts `d0 … d3` and anchor sides and centre `w h a b`, one to a row of the table. -/
def values (o d0 d1 d2 d3 w h a b : EReal) : Fin 6 → EReal
  | ⟨0, _⟩ => prob o
  | ⟨1, _⟩ => low d0 d2 w a
  | ⟨2, _⟩ => low d1 d3 h b
  | ⟨3, _⟩ => high d0 d2 w a
  | ⟨4, _⟩ => high d1 d3 h b
  | ⟨_ + 5, _⟩ => ind ((1 ≤ high d0 d2 w a - low d0 d2 w a ∧ 1 ≤ high d1 d3 h b - low d1 d3 h b) ∧ 0 ≤ prob o)

theorem planes_entry (h : 0 < entry x9 g) (r : Fin 6) :
    entry (planes (score x0 x9) (left x1 x3 x5 x7) (top x2 x4 x6 x8) (right x1 x3 x5 x7) (bottom x2 x4 x6 x8) (valid x0 x1 x2 x3 x4 x5 x6 x7 x8 x9) r) g
      = values (entry x0 g) (entry x1 g) (entry x2 g) (entry x3 g) (entry x4 g) (entry x5 g) (entry x6 g) (entry x7 g) (entry x8 g) r := by
  have hs := score_entry x0 x9 g
  rw [if_pos h] at hs
  match r with
  | ⟨0, _⟩ => exact hs
  | ⟨1, _⟩ => exact left_entry x1 x3 x5 x7 g
  | ⟨2, _⟩ => exact top_entry x2 x4 x6 x8 g
  | ⟨3, _⟩ => exact right_entry x1 x3 x5 x7 g
  | ⟨4, _⟩ => exact bottom_entry x2 x4 x6 x8 g
  | ⟨5, _⟩ =>
    have hv := valid_entry x0 x1 x2 x3 x4 x5 x6 x7 x8 x9 g
    rw [hs, left_entry, top_entry, right_entry, bottom_entry] at hv
    exact hv

end Cert.Order

end
-- ==== Proof.OrderRef.lean ====
/- What the reference of the second call computes: the sorted scores, and the boxes gathered in that order. -/
module

public import proofs.«01_k».proof.Proof.OrderPlanes
public import proofs.«01_k».proof.Proof.NmsRefPick
public import proofs.«01_k».proof.Proof.Gen.Reference3Ideal.Read
public import Idealize.ShloMosaic.Lib.Routing.SortLink

@[expose] public section

set_option maxRecDepth 16384

noncomputable section

namespace Cert.Order.Ref

open Idealize.ShloMosaic Idealize.ShloMosaic.TcCoe
open Cert.Reference3Ideal Cert.Reference3Ideal.Gen Cert.Reference3Ideal.Read
open Cert.Order (prob prob_nonneg cut half low high values entry one_word zero_word)
open Cert.Nms (ind ind_true ind_false)
open Cert.Nms.Ref (wrap one_bit no_bit)
open Classical

variable (o : FVec Ideal S7500 .f32) (d : FVec Ideal S7500x4 .f32) (w h a b : FVec Ideal S60x128 .f32)

/-! ### The order -/

/-- The score of each box. -/
def key (q : Fin 7500) : EReal := prob (o (ix1 q))

theorem scores_apply (q : Fin 7500) : val_main_v50 (F := Ideal) o (ix1 q) = key o q := by
  have e : val_main_v50 (F := Ideal) o (ix1 q) = Ideal.div (Ideal.ofBits .f32 0x3F800000#32) (Ideal.ofBits .f32 0x3F800000#32 + Ideal.exp (-(o (ix1 q)))) := rfl
  rw [e, one_word]
  rfl

/-- The comparison the sort makes. -/
def sorted (p q : Fin 7500) : Bool :=
  FloatOps.cmpfTotal (F := Ideal) (φ := .f32) .gt (val_main_v50 (F := Ideal) o (ix1 p)) (val_main_v50 (F := Ideal) o (ix1 q)) == 1#1

theorem sorted_iff (p q : Fin 7500) : sorted o p q = true ↔ key o q < key o p := by
  unfold sorted
  rw [scores_apply, scores_apply]
  have e : FloatOps.cmpfTotal (F := Ideal) (φ := .f32) .gt (key o p) (key o q) = BitVec.ofBool (decide (key o q < key o p)) := rfl
  rw [e]
  by_cases hl : key o q < key o p
  · rw [decide_eq_true hl]
    exact ⟨fun _ => hl, fun _ => rfl⟩
  · rw [decide_eq_false hl]
    exact ⟨fun h => absurd h (by decide), fun h => absurd h hl⟩

/-- The box in each place of the sorted list. -/
def at_ (j : Fin 2000) : Fin 7500 := sortedFrom (sorted o) ⟨j.val, by omega⟩

/-- A stable sort of a list along with another. -/
theorem sort_read {n : ℕ} {α β : Type} (cmp : α × β → α × β → BitVec 1) (x : (⟨1, ![n]⟩ : Shape).Idx → α) (y : (⟨1, ![n]⟩ : Shape).Idx → β) (r : Fin n) :
    (Host.sort2 (⟨1, ![n]⟩ : Shape) 0 cmp x y).1 (ix1 r)
        = x (ix1 (sortedFrom (fun p q => cmp (x (ix1 p), y (ix1 p)) (x (ix1 q), y (ix1 q)) == 1#1) r))
      ∧ (Host.sort2 (⟨1, ![n]⟩ : Shape) 0 cmp x y).2 (ix1 r)
        = y (ix1 (sortedFrom (fun p q => cmp (x (ix1 p), y (ix1 p)) (x (ix1 q), y (ix1 q)) == 1#1) r)) := by
  have hd : 0 < (⟨1, ![n]⟩ : Shape).rank := Nat.zero_lt_one
  have e : ∀ (j : (⟨1, ![n]⟩ : Shape).Idx) (k : Fin n), j.along (⟨0, hd⟩ : Fin (⟨1, ![n]⟩ : Shape).rank) k = ix1 k := fun j k =>
    (Shape.Idx.along_rank1 j k).trans (Routing.ofFin_eq_ix1 k)
  have hb : (fun p q : Fin n => cmp (x ((ix1 r).along ⟨0, hd⟩ p), y ((ix1 r).along ⟨0, hd⟩ p)) (x ((ix1 r).along ⟨0, hd⟩ q), y ((ix1 r).along ⟨0, hd⟩ q)) == 1#1)
      = fun p q => cmp (x (ix1 p), y (ix1 p)) (x (ix1 q), y (ix1 q)) == 1#1 := by
    funext p q
    rw [e, e]
  rw [← hb]
  unfold Host.sort2
  rw [dif_pos hd]
  exact ⟨congrArg x (e _ _), congrArg y (e _ _)⟩

/-- The greatest of a list and their places. -/
theorem top_read {n k : ℕ} {α : Type} (gt : α → α → BitVec 1) (x : (⟨1, ![n]⟩ : Shape).Idx → α)
    (h : (⟨1, ![n]⟩ : Shape).Slices (fun _ => 0) ⟨1, ![k]⟩) (j : Fin k) (hj : j.val < n) :
    (Host.topK (⟨1, ![k]⟩ : Shape) 0 gt x h).1 (ix1 j) = x (ix1 (sortedFrom (fun p q => gt (x (ix1 p)) (x (ix1 q)) == 1#1) ⟨j.val, hj⟩))
      ∧ (Host.topK (⟨1, ![k]⟩ : Shape) 0 gt x h).2 (ix1 j)
        = BitVec.ofNat 32 (sortedFrom (fun p q => gt (x (ix1 p)) (x (ix1 q)) == 1#1) ⟨j.val, hj⟩).val := by
  have e : ∀ {γ : Type} (z : (⟨1, ![n]⟩ : Shape).Idx → γ), extractStridedSlice (⟨1, ![k]⟩ : Shape) (fun _ => 0) z h (ix1 j) = z (ix1 (⟨j.val, hj⟩ : Fin n)) := fun z =>
    extractStridedSlice_apply (fun _ => 0) z h (ix1 j) (ix1 (⟨j.val, hj⟩ : Fin n)) fun a => match a with
      | ⟨0, _⟩ => by show j.val = 0 + j.val; omega
  have hs := sort_read (fun l r : α × BitVec 32 => gt l.1 r.1) x
    (fun i => if hd : 0 < (⟨1, ![n]⟩ : Shape).rank then iotaInDim (⟨1, ![n]⟩ : Shape) 32 ⟨0, hd⟩ i else 0#32) ⟨j.val, hj⟩
  refine ⟨(e _).trans hs.1, (e _).trans (hs.2.trans ?_)⟩
  exact dif_pos (show 0 < (⟨1, ![n]⟩ : Shape).rank from Nat.zero_lt_one)

theorem top_apply (j : Fin 2000) : val_main_values (F := Ideal) o (ix1 j) = key o (at_ o j)
    ∧ val_main_indices (F := Ideal) o (ix1 j) = BitVec.ofNat 32 (at_ o j).val := by
  rw [← scores_apply]
  unfold val_main_values val_main_indices at_ sorted
  generalize val_main_v50 (F := Ideal) o = x
  exact top_read (n := 7500) (k := 2000) (FloatOps.cmpfTotal (F := Ideal) (φ := .f32) .gt) x sliceFits_S7500_S2000 j (by omega)

/-- The places read. -/
theorem place_read (j : Fin 2000) : val_main_v56 (F := Ideal) o (ix2 j (0 : Fin 1)) = BitVec.ofNat 32 (at_ o j).val := by
  have hlt : (at_ o j).val < 2 ^ 31 := lt_trans (at_ o j).isLt (by norm_num)
  have e : idx_main_v56 (ix2 j (0 : Fin 1)) = ix1 j := funext fun k => match k with | ⟨0, _⟩ => rfl
  have z : val_main_v51 (F := Ideal) (ix1 j) = 0#32 := (val_main_v51_apply _).trans rfl
  rw [val_main_v56_apply, e, val_main_v55_apply, val_main_v52_apply, z, (top_apply o j).2]
  generalize (at_ o j).val = g at hlt
  exact wrap g hlt _

/-! ### The boxes -/

theorem w_apply (q : Fin 7500) : val_main_v1 (F := Ideal) w (ix1 q) = entry w ⟨q.val, by omega⟩ := by
  rw [val_main_v1_apply, val_main_v0_apply]
  exact congrArg w (funext fun k => match k with | ⟨0, _⟩ => rfl | ⟨1, _⟩ => rfl)
theorem h_apply (q : Fin 7500) : val_main_v3 (F := Ideal) h (ix1 q) = entry h ⟨q.val, by omega⟩ := by
  rw [val_main_v3_apply, val_main_v2_apply]
  exact congrArg h (funext fun k => match k with | ⟨0, _⟩ => rfl | ⟨1, _⟩ => rfl)
theorem a_apply (q : Fin 7500) : val_main_v5 (F := Ideal) a (ix1 q) = entry a ⟨q.val, by omega⟩ := by
  rw [val_main_v5_apply, val_main_v4_apply]
  exact congrArg a (funext fun k => match k with | ⟨0, _⟩ => rfl | ⟨1, _⟩ => rfl)
theorem b_apply (q : Fin 7500) : val_main_v7 (F := Ideal) b (ix1 q) = entry b ⟨q.val, by omega⟩ := by
  rw [val_main_v7_apply, val_main_v6_apply]
  exact congrArg b (funext fun k => match k with | ⟨0, _⟩ => rfl | ⟨1, _⟩ => rfl)

theorem d0_apply (q : Fin 7500) : val_main_v9 (F := Ideal) d (ix1 q) = d (ix2 q (0 : Fin 4)) := by
  rw [val_main_v9_apply, val_main_v8_apply]
  exact congrArg d (funext fun k => match k with | ⟨0, _⟩ => Fin.ext (Nat.div_one q.val) | ⟨1, _⟩ => rfl)
theorem d1_apply (q : Fin 7500) : val_main_v13 (F := Ideal) d (ix1 q) = d (ix2 q (1 : Fin 4)) := by
  rw [val_main_v13_apply, val_main_v12_apply]
  exact congrArg d (funext fun k => match k with | ⟨0, _⟩ => Fin.ext (Nat.div_one q.val) | ⟨1, _⟩ => rfl)
theorem d2_apply (q : Fin 7500) : val_main_v17 (F := Ideal) d (ix1 q) = d (ix2 q (2 : Fin 4)) := by
  rw [val_main_v17_apply, val_main_v16_apply]
  exact congrArg d (funext fun k => match k with | ⟨0, _⟩ => Fin.ext (Nat.div_one q.val) | ⟨1, _⟩ => rfl)
theorem d3_apply (q : Fin 7500) : val_main_v23 (F := Ideal) d (ix1 q) = d (ix2 q (3 : Fin 4)) := by
  rw [val_main_v23_apply, val_main_v22_apply]
  exact congrArg d (funext fun k => match k with | ⟨0, _⟩ => Fin.ext (Nat.div_one q.val) | ⟨1, _⟩ => rfl)

/-- The four ends of a box before they are cut. -/
def ends (d0 d1 d2 d3 w h a b : EReal) : Fin 4 → EReal
  | ⟨0, _⟩ => d0 * w + a - half d2 w
  | ⟨1, _⟩ => d1 * h + b - half d3 h
  | ⟨2, _⟩ => d0 * w + a + half d2 w
  | ⟨_ + 3, _⟩ => d1 * h + b + half d3 h

/-- The ends of box `q`. -/
def endsAt (q : Fin 7500) : Fin 4 → EReal :=
  ends (d (ix2 q (0 : Fin 4))) (d (ix2 q (1 : Fin 4))) (d (ix2 q (2 : Fin 4))) (d (ix2 q (3 : Fin 4))) (entry w ⟨q.val, by omega⟩)
    (entry h ⟨q.val, by omega⟩) (entry a ⟨q.val, by omega⟩) (entry b ⟨q.val, by omega⟩)

/-- Four columns side by side. -/
theorem columns_apply (u0 u1 u2 u3 : FVec Ideal S7500x1 .f32) (q : Fin 7500) (k : Fin 4) :
    concatenate S7500x4 1 [⟨S7500x1, u0⟩, ⟨S7500x1, u1⟩, ⟨S7500x1, u2⟩, ⟨S7500x1, u3⟩] concatenates_S7500x1_S7500x1_S7500x1_S7500x1_S7500x4_d1 (ix2 q k)
      = (![u0, u1, u2, u3] : Fin 4 → FVec Ideal S7500x1 .f32) k (ix2 q (0 : Fin 1)) := by
  match k with
  | ⟨0, _⟩ =>
    exact concatenate_apply_piece (t := S7500x4) 1 [⟨S7500x1, u0⟩, ⟨S7500x1, u1⟩, ⟨S7500x1, u2⟩, ⟨S7500x1, u3⟩] concatenates_S7500x1_S7500x1_S7500x1_S7500x1_S7500x4_d1
      (ix2 q (⟨0, by omega⟩ : Fin 4)) 0 (show 0 < 4 by omega) S7500x1 u0 rfl rfl 0 rfl (ix2 q (0 : Fin 1))
      (fun x hx => match x with | ⟨0, _⟩ => rfl | ⟨1, _⟩ => absurd rfl hx) rfl
  | ⟨1, _⟩ =>
    exact concatenate_apply_piece (t := S7500x4) 1 [⟨S7500x1, u0⟩, ⟨S7500x1, u1⟩, ⟨S7500x1, u2⟩, ⟨S7500x1, u3⟩] concatenates_S7500x1_S7500x1_S7500x1_S7500x1_S7500x4_d1
      (ix2 q (⟨1, by omega⟩ : Fin 4)) 1 (show 1 < 4 by omega) S7500x1 u1 rfl rfl 1 rfl (ix2 q (0 : Fin 1))
      (fun x hx => match x with | ⟨0, _⟩ => rfl | ⟨1, _⟩ => absurd rfl hx) rfl
  | ⟨2, _⟩ =>
    exact concatenate_apply_piece (t := S7500x4) 1 [⟨S7500x1, u0⟩, ⟨S7500x1, u1⟩, ⟨S7500x1, u2⟩, ⟨S7500x1, u3⟩] concatenates_S7500x1_S7500x1_S7500x1_S7500x1_S7500x4_d1
      (ix2 q (⟨2, by omega⟩ : Fin 4)) 2 (show 2 < 4 by omega) S7500x1 u2 rfl rfl 2 rfl (ix2 q (0 : Fin 1))
      (fun x hx => match x with | ⟨0, _⟩ => rfl | ⟨1, _⟩ => absurd rfl hx) rfl
  | ⟨3, _⟩ =>
    exact concatenate_apply_piece (t := S7500x4) 1 [⟨S7500x1, u0⟩, ⟨S7500x1, u1⟩, ⟨S7500x1, u2⟩, ⟨S7500x1, u3⟩] concatenates_S7500x1_S7500x1_S7500x1_S7500x1_S7500x4_d1
      (ix2 q (⟨3, by omega⟩ : Fin 4)) 3 (show 3 < 4 by omega) S7500x1 u3 rfl rfl 3 rfl (ix2 q (0 : Fin 1))
      (fun x hx => match x with | ⟨0, _⟩ => rfl | ⟨1, _⟩ => absurd rfl hx) rfl

theorem boxes_apply (q : Fin 7500) (k : Fin 4) : val_main_v44 (F := Ideal) d w h a b (ix2 q k) = endsAt d w h a b q k := by
  unfold val_main_v44 endsAt
  rw [← w_apply w q, ← h_apply h q, ← a_apply a q, ← b_apply b q, ← d0_apply d q, ← d1_apply d q, ← d2_apply d q, ← d3_apply d q, columns_apply]
  have e : ∀ x : S7500x1.Idx, x = ix2 q (0 : Fin 1) → (idx_main_v40 x) = ix1 q := fun x hx => by
    subst hx
    exact funext fun t => match t with | ⟨0, _⟩ => rfl
  match k with
  | ⟨0, _⟩ => exact (val_main_v40_apply (F := Ideal) d w a _).trans (congrArg _ (e _ rfl))
  | ⟨1, _⟩ => exact (val_main_v41_apply (F := Ideal) d h b _).trans (congrArg _ (e _ rfl))
  | ⟨2, _⟩ => exact (val_main_v42_apply (F := Ideal) d w a _).trans (congrArg _ (e _ rfl))
  | ⟨3, _⟩ => exact (val_main_v43_apply (F := Ideal) d h b _).trans (congrArg _ (e _ rfl))

/-- The boxes in the order of the scores, cut. -/
theorem cut_apply (j : Fin 2000) (k : Fin 4) : val_main_v61 (F := Ideal) o d w h a b (ix2 j k) = cut (endsAt d w h a b (at_ o j) k) := by
  have g : val_main_v57 (F := Ideal) o d w h a b (ix2 j k) = val_main_v44 (F := Ideal) d w h a b (ix2 (at_ o j) k) :=
    Routing.gather_row gather_S7500x4_S2000x1_S2000x4_1_0_n_n_0_1_14 rfl rfl rfl rfl rfl _ _ j k (at_ o j) (place_read o j) (by norm_num)
  have e : val_main_v61 (F := Ideal) o d w h a b (ix2 j k)
      = min (max (val_main_v57 (F := Ideal) o d w h a b (ix2 j k)) (Ideal.ofBits .f32 0x00000000#32)) (Ideal.ofBits .f32 0x44480000#32) := rfl
  rw [e, g, boxes_apply, zero_word, min_comm, max_comm]
  rfl

/-- Three bits together as a number. -/
theorem number (p q r : Prop) [Decidable p] [Decidable q] [Decidable r] :
    FloatOps.uitofp (F := Ideal) .f32 (IntOp.andi (IntOp.andi (BitVec.ofBool (decide p)) (BitVec.ofBool (decide q))) (BitVec.ofBool (decide r)))
      = ind ((p ∧ q) ∧ r) := by
  have e : ∀ a b d : Bool, IntOp.andi (IntOp.andi (BitVec.ofBool a) (BitVec.ofBool b)) (BitVec.ofBool d) = BitVec.ofBool (a && b && d) := by decide
  rw [e]
  by_cases h : (p ∧ q) ∧ r
  · rw [ind_true h, decide_eq_true h.1.1, decide_eq_true h.1.2, decide_eq_true h.2]
    exact one_bit
  · rw [ind_false h]
    have : (decide p && decide q && decide r) = false := by
      by_contra hn
      refine h ?_
      simpa [and_assoc] using hn
    rw [this]
    exact no_bit

theorem x1_apply (j : Fin 2000) : val_main_v63 (F := Ideal) o d w h a b (ix1 j) = val_main_v61 (F := Ideal) o d w h a b (ix2 j (2 : Fin 4)) := by
  rw [val_main_v63_apply, val_main_v62_apply]
  exact congrArg _ (funext fun k => match k with | ⟨0, _⟩ => Fin.ext (Nat.div_one j.val) | ⟨1, _⟩ => rfl)
theorem x0_apply (j : Fin 2000) : val_main_v65 (F := Ideal) o d w h a b (ix1 j) = val_main_v61 (F := Ideal) o d w h a b (ix2 j (0 : Fin 4)) := by
  rw [val_main_v65_apply, val_main_v64_apply]
  exact congrArg _ (funext fun k => match k with | ⟨0, _⟩ => Fin.ext (Nat.div_one j.val) | ⟨1, _⟩ => rfl)
theorem y1_apply (j : Fin 2000) : val_main_v70 (F := Ideal) o d w h a b (ix1 j) = val_main_v61 (F := Ideal) o d w h a b (ix2 j (3 : Fin 4)) := by
  rw [val_main_v70_apply, val_main_v69_apply]
  exact congrArg _ (funext fun k => match k with | ⟨0, _⟩ => Fin.ext (Nat.div_one j.val) | ⟨1, _⟩ => rfl)
theorem y0_apply (j : Fin 2000) : val_main_v72 (F := Ideal) o d w h a b (ix1 j) = val_main_v61 (F := Ideal) o d w h a b (ix2 j (1 : Fin 4)) := by
  rw [val_main_v72_apply, val_main_v71_apply]
  exact congrArg _ (funext fun k => match k with | ⟨0, _⟩ => Fin.ext (Nat.div_one j.val) | ⟨1, _⟩ => rfl)

/-- The six values of box `q`. -/
def valuesAt (q : Fin 7500) : Fin 6 → EReal :=
  values (o (ix1 q)) (d (ix2 q (0 : Fin 4))) (d (ix2 q (1 : Fin 4))) (d (ix2 q (2 : Fin 4))) (d (ix2 q (3 : Fin 4))) (entry w ⟨q.val, by omega⟩)
    (entry h ⟨q.val, by omega⟩) (entry a ⟨q.val, by omega⟩) (entry b ⟨q.val, by omega⟩)

theorem flag_apply (j : Fin 2000) : val_main_v82 (F := Ideal) o d w h a b (ix1 j) = valuesAt o d w h a b (at_ o j) 5 := by
  have e : val_main_v82 (F := Ideal) o d w h a b (ix1 j) = FloatOps.uitofp (F := Ideal) .f32 (IntOp.andi (IntOp.andi
      (BitVec.ofBool (decide (Ideal.ofBits .f32 0x3F800000#32 ≤ val_main_v63 (F := Ideal) o d w h a b (ix1 j) - val_main_v65 (F := Ideal) o d w h a b (ix1 j))))
      (BitVec.ofBool (decide (Ideal.ofBits .f32 0x3F800000#32 ≤ val_main_v70 (F := Ideal) o d w h a b (ix1 j) - val_main_v72 (F := Ideal) o d w h a b (ix1 j)))))
      (BitVec.ofBool (decide (Ideal.ofBits .f32 0x00000000#32 ≤ val_main_values (F := Ideal) o (ix1 j))))) := rfl
  rw [e, number, x1_apply, x0_apply, y1_apply, y0_apply, cut_apply, cut_apply, cut_apply, cut_apply, (top_apply o j).1, one_word, zero_word]
  rfl

section
variable (u : FVec Ideal S1x2000 .f32) (v : FVec Ideal S4x2000 .f32) (z : FVec Ideal S1x2000 .f32) (j : Fin 2000)

/-- Scores, boxes and flags one above the other. -/
theorem rows_first : concatenate S6x2000 0 [⟨S1x2000, u⟩, ⟨S4x2000, v⟩, ⟨S1x2000, z⟩] concatenates_S1x2000_S4x2000_S1x2000_S6x2000_d0 (ix2 (0 : Fin 6) j) = u (ix2 (0 : Fin 1) j) :=
  concatenate_apply_piece (t := S6x2000) 0 [⟨S1x2000, u⟩, ⟨S4x2000, v⟩, ⟨S1x2000, z⟩] concatenates_S1x2000_S4x2000_S1x2000_S6x2000_d0
    (ix2 (0 : Fin 6) j) 0 (show 0 < 3 by omega) S1x2000 u rfl rfl 0 rfl (ix2 (0 : Fin 1) j)
    (fun x hx => match x with | ⟨0, _⟩ => absurd rfl hx | ⟨1, _⟩ => rfl) (rfl)
theorem rows_box (k : Fin 4) : concatenate S6x2000 0 [⟨S1x2000, u⟩, ⟨S4x2000, v⟩, ⟨S1x2000, z⟩] concatenates_S1x2000_S4x2000_S1x2000_S6x2000_d0 (ix2 (⟨k.val + 1, by omega⟩ : Fin 6) j) = v (ix2 k j) :=
  concatenate_apply_piece (t := S6x2000) 0 [⟨S1x2000, u⟩, ⟨S4x2000, v⟩, ⟨S1x2000, z⟩] concatenates_S1x2000_S4x2000_S1x2000_S6x2000_d0
    (ix2 (⟨k.val + 1, by omega⟩ : Fin 6) j) 1 (show 1 < 3 by omega) S4x2000 v rfl rfl 1 rfl (ix2 k j)
    (fun x hx => match x with | ⟨0, _⟩ => absurd rfl hx | ⟨1, _⟩ => rfl) (show 1 + k.val = k.val + 1 by omega)
theorem rows_last : concatenate S6x2000 0 [⟨S1x2000, u⟩, ⟨S4x2000, v⟩, ⟨S1x2000, z⟩] concatenates_S1x2000_S4x2000_S1x2000_S6x2000_d0 (ix2 (5 : Fin 6) j) = z (ix2 (0 : Fin 1) j) :=
  concatenate_apply_piece (t := S6x2000) 0 [⟨S1x2000, u⟩, ⟨S4x2000, v⟩, ⟨S1x2000, z⟩] concatenates_S1x2000_S4x2000_S1x2000_S6x2000_d0
    (ix2 (5 : Fin 6) j) 2 (show 2 < 3 by omega) S1x2000 z rfl rfl 5 rfl (ix2 (0 : Fin 1) j)
    (fun x hx => match x with | ⟨0, _⟩ => absurd rfl hx | ⟨1, _⟩ => rfl) (rfl)

end

theorem corner (j : Fin 2000) (k : Fin 4) : val_main_v84 (F := Ideal) o d w h a b (ix2 (⟨k.val + 1, by omega⟩ : Fin 6) j) = cut (endsAt d w h a b (at_ o j) k) := by
  unfold val_main_v84
  rw [rows_box, val_main_v81_apply, ← cut_apply o d w h a b j k]
  exact congrArg _ (funext fun x => match x with | ⟨0, _⟩ => rfl | ⟨1, _⟩ => rfl)

theorem valuesAt_corner (q : Fin 7500) (k : Fin 4) : valuesAt o d w h a b q (⟨k.val + 1, by omega⟩ : Fin 6) = cut (endsAt d w h a b q k) :=
  match k with
  | ⟨0, _⟩ => rfl
  | ⟨1, _⟩ => rfl
  | ⟨2, _⟩ => rfl
  | ⟨3, _⟩ => rfl

/-- The table of the reference. -/
theorem table_apply (r : Fin 6) (j : Fin 2000) : val_main_v84 (F := Ideal) o d w h a b (ix2 r j) = valuesAt o d w h a b (at_ o j) r := by
  have hc : ∀ k : Fin 4, val_main_v84 (F := Ideal) o d w h a b (ix2 (⟨k.val + 1, by omega⟩ : Fin 6) j)
      = valuesAt o d w h a b (at_ o j) ⟨k.val + 1, by omega⟩ := fun k => (corner o d w h a b j k).trans (valuesAt_corner o d w h a b _ k).symm
  have e80 : idx_main_v80 (ix2 (0 : Fin 1) j) = ix1 j := funext fun k => match k with | ⟨0, _⟩ => rfl
  have e83 : idx_main_v83 (ix2 (0 : Fin 1) j) = ix1 j := funext fun k => match k with | ⟨0, _⟩ => rfl
  have t := top_apply o j
  have f := flag_apply o d w h a b j
  generalize at_ o j = q at hc t f ⊢
  match r with
  | ⟨0, _⟩ =>
    unfold val_main_v84
    refine (rows_first _ _ _ j).trans ?_
    rw [val_main_v80_apply, e80, t.1]
    rfl
  | ⟨1, _⟩ => exact hc 0
  | ⟨2, _⟩ => exact hc 1
  | ⟨3, _⟩ => exact hc 2
  | ⟨4, _⟩ => exact hc 3
  | ⟨5, _⟩ =>
    unfold val_main_v84
    refine (rows_last _ _ _ j).trans ?_
    rw [val_main_v83_apply, e83]
    exact f

end Cert.Order.Ref

end
-- ==== Proof.OrderEquation.lean ====
/- The kernel's ordered table and the reference's are the same where the padding is laid out as the precondition says. -/
module

public import proofs.«01_k».proof.Defs
public import proofs.«01_k».proof.Proof.OrderRegion
public import proofs.«01_k».proof.Proof.OrderRef

@[expose] public section

set_option maxRecDepth 16384

noncomputable section

namespace Cert.Order

open Idealize.ShloMosaic Idealize.ShloMosaic.TcCoe Idealize.SL.Sem
open Cert.Nms (num ind ind_true ind_false sitofp_num num_zero)

/-- The side conditions of the precondition. -/
instance layoutFacts : Cert.Pre_layout.Facts := ⟨by decide, by decide⟩

/-- Two comparisons that both hold. -/
theorem both_equal (x y z t : EReal) (h : IntOp.andi (FloatOps.cmpf (F := Ideal) (φ := .f32) .oeq x y) (FloatOps.cmpf (F := Ideal) (φ := .f32) .oeq z t) = 1#1) :
    x = y ∧ z = t := by
  have e : ∀ u v : EReal, FloatOps.cmpf (F := Ideal) (φ := .f32) .oeq u v = BitVec.ofBool (decide (u = v)) := fun _ _ => rfl
  rw [e, e] at h
  by_contra hn
  by_cases hx : x = y
  · rw [decide_eq_false fun hz => hn ⟨hx, hz⟩] at h
    rw [decide_eq_true hx] at h
    exact absurd h (by decide)
  · rw [decide_eq_false hx] at h
    by_cases hz : z = t
    · rw [decide_eq_true hz] at h
      exact absurd h (by decide)
    · rw [decide_eq_false hz] at h
      exact absurd h (by decide)

/-- Whether a position is one of the 7500, as a number. -/
theorem inside_number (n : ℕ) (h : n < 7680) :
    FloatOps.uitofp (F := Ideal) .f32 (IntOp.cmpi .slt (BitVec.ofNat 32 n) 7500#32) = if n < 7500 then 1 else 0 := by
  have e : IntOp.cmpi .slt (BitVec.ofNat 32 n) 7500#32 = BitVec.ofBool (decide (n < 7500)) := by
    have h1 : (BitVec.ofNat 32 n).toInt = (n : ℤ) := by
      rw [BitVec.toInt_eq_toNat_of_lt] <;> rw [BitVec.toNat_ofNat, Nat.mod_eq_of_lt (by omega)]
      omega
    have h2 : (7500#32).toInt = 7500 := by decide
    show BitVec.ofBool (BitVec.slt _ _) = _
    rw [BitVec.slt, h1, h2]
    exact congrArg BitVec.ofBool (decide_eq_decide.mpr (by omega))
  rw [e]
  by_cases hn : n < 7500
  · rw [if_pos hn, decide_eq_true hn]
    exact Cert.Nms.Ref.one_bit
  · rw [if_neg hn, decide_eq_false hn]
    exact Cert.Nms.Ref.no_bit

/-- The precondition entry by entry: the mask marks the first 7500 positions, the list of positions counts them. -/
theorem layout_apply (x0 : FVec Ideal Cert.Pre_layout.S7500 .f32) (x1 : FVec Ideal Cert.Pre_layout.S7500x4 .f32)
    (x2 x3 x4 x5 x6 x7 : FVec Ideal Cert.Pre_layout.S60x128 .f32)
    (h : Cert.Pre_layout.fn (F := Ideal) x0 x1 x2 x3 x4 x5 x6 x7 = fun _ => 1#1) (q : Fin 7680) :
    entry x6 q = (if q.val < 7500 then 1 else 0) ∧ entry x7 q = num q.val := by
  have hq := q.isLt
  have h' := congrFun h (ix2 (⟨q.val / 128, by omega⟩ : Fin 60) (⟨q.val % 128, by omega⟩ : Fin 128))
  have e : shapeCast Cert.Pre_layout.S60x128 (iotaInDim Cert.Pre_layout.S7680 32 0) Cert.Pre_layout.Facts.shapeCasts_S7680_S60x128
      (ix2 (⟨q.val / 128, by omega⟩ : Fin 60) (⟨q.val % 128, by omega⟩ : Fin 128)) = BitVec.ofNat 32 q.val :=
    (shapeCast_apply _ _ _ (ix1 q) (by
      rewrite [Shape.rowMajor_val_two, Shape.rowMajor_val_one]
      show q.val = q.val / 128 * 128 + q.val % 128; omega)).trans rfl
  have t : IntOp.andi (FloatOps.cmpf (F := Ideal) (φ := .f32) .oeq (entry x6 q) (FloatOps.uitofp (F := Ideal) .f32 (IntOp.cmpi .slt
        (shapeCast Cert.Pre_layout.S60x128 (iotaInDim Cert.Pre_layout.S7680 32 0) Cert.Pre_layout.Facts.shapeCasts_S7680_S60x128
          (ix2 (⟨q.val / 128, by omega⟩ : Fin 60) (⟨q.val % 128, by omega⟩ : Fin 128))) 7500#32)))
      (FloatOps.cmpf (F := Ideal) (φ := .f32) .oeq (entry x7 q) (FloatOps.sitofp (F := Ideal) .f32
        (shapeCast Cert.Pre_layout.S60x128 (iotaInDim Cert.Pre_layout.S7680 32 0) Cert.Pre_layout.Facts.shapeCasts_S7680_S60x128
          (ix2 (⟨q.val / 128, by omega⟩ : Fin 60) (⟨q.val % 128, by omega⟩ : Fin 128))))) = 1#1 := h'
  rw [e, inside_number _ hq] at t
  obtain ⟨h6, h7⟩ := both_equal _ _ _ _ t
  exact ⟨h6, h7.trans (sitofp_num _ (by omega))⟩

/-- The table of a list of boxes, at a place before the 2000th, is the box the reference puts there. -/
theorem table_order (o : FVec Ideal Cert.Reference3Ideal.S7500 .f32) (d : FVec Ideal Cert.Reference3Ideal.S7500x4 .f32)
    (x0 x1 x2 x3 x4 w h a b v i : FVec Ideal Cert.Kernel3Ideal.S60x128 .f32)
    (h0 : ∀ q : Fin 7500, entry x0 ⟨q.val, by omega⟩ = o (ix1 q))
    (h1 : ∀ q : Fin 7500, entry x1 ⟨q.val, by omega⟩ = d (ix2 q (0 : Fin 4)))
    (h2 : ∀ q : Fin 7500, entry x2 ⟨q.val, by omega⟩ = d (ix2 q (1 : Fin 4)))
    (h3 : ∀ q : Fin 7500, entry x3 ⟨q.val, by omega⟩ = d (ix2 q (2 : Fin 4)))
    (h4 : ∀ q : Fin 7500, entry x4 ⟨q.val, by omega⟩ = d (ix2 q (3 : Fin 4)))
    (hv : ∀ q, entry v q = if q.val < 7500 then 1 else 0) (hi : ∀ q, entry i q = num q.val) (r : Fin 6) (j : Fin 2000) :
    table (F := Ideal) x0 x1 x2 x3 x4 w h a b v i (ix2 r (⟨j.val, by omega⟩ : Fin 2048))
      = Cert.Reference3Ideal.Read.val_main_v84 (F := Ideal) o d w h a b (ix2 r j) := by
  rw [Ref.table_apply]
  have pos : ∀ q : Fin 7680, q.val < 7500 → 0 < entry v q := fun q hq => by
    rw [hv, if_pos hq]
    exact zero_lt_one
  have k1 : ∀ q : Fin 7500, entry (score x0 v) ⟨q.val, by omega⟩ = Ref.key o q := fun q => by
    rw [score_entry, if_pos (pos _ q.isLt), h0]
    rfl
  have k3 : ∀ q : Fin 7680, 7500 ≤ q.val → entry (score x0 v) q < 0 := fun q hq => by
    rw [score_entry, hv, if_neg (Nat.not_lt.mpr hq), if_neg (lt_irrefl _)]
    exact EReal.neg_lt_comm.mp (by rw [neg_zero]; exact zero_lt_one)
  have hj : j.val < 7500 := lt_trans j.isLt (by norm_num)
  have hat : Ref.at_ o j = sortedFrom (Ref.sorted o) ⟨j.val, hj⟩ := by unfold Ref.at_; rfl
  have hk := place_iff (entry (score x0 v)) (Ref.key o) k1 (fun q => prob_nonneg _) k3 (Ref.sorted o) (Ref.sorted_iff o) ⟨j.val, hj⟩ j.isLt
  rw [← hat] at hk
  clear hat
  generalize Ref.at_ o j = q at hk ⊢
  have hq := q.isLt
  have hp : ∀ g : Fin 7680, entry (place (score x0 v) i) g = num j.val ↔ g = ⟨q.val, by omega⟩ := fun g => by
    rw [place_apply _ _ hi]
    exact (hk g).trans ⟨fun e => Fin.ext e, fun e => congrArg Fin.val e⟩
  unfold table
  refine (filled_apply _ _ _ _ _ _ _ r ⟨j.val, by omega⟩ ⟨q.val, by omega⟩ hp 60 le_rfl).trans ?_
  rw [if_pos (show q.val < 128 * 60 by omega), planes_entry _ _ _ _ _ _ _ _ _ _ _ (pos _ hq), h0, h1, h2, h3, h4]
  rfl

section
open Cert.Kernel3Ideal Cert.Kernel3Ideal.Gen

/-- A column of the deltas as a list. -/
theorem column (x : FVec Ideal S7500x4 .f32) (q : Fin 7500) :
    shapeCast S7500 (extractStridedSlice S7500x1 ![0, 0] x slices_S7500x4_S7500x1_0_0) shapeCasts_S7500x1_S7500 (ix1 q) = x (ix2 q (0 : Fin 4))
    ∧ shapeCast S7500 (extractStridedSlice S7500x1 ![0, 1] x slices_S7500x4_S7500x1_0_1) shapeCasts_S7500x1_S7500 (ix1 q) = x (ix2 q (1 : Fin 4))
    ∧ shapeCast S7500 (extractStridedSlice S7500x1 ![0, 2] x slices_S7500x4_S7500x1_0_2) shapeCasts_S7500x1_S7500 (ix1 q) = x (ix2 q (2 : Fin 4))
    ∧ shapeCast S7500 (extractStridedSlice S7500x1 ![0, 3] x slices_S7500x4_S7500x1_0_3) shapeCasts_S7500x1_S7500 (ix1 q) = x (ix2 q (3 : Fin 4)) := by
  have e : ∀ y : FVec Ideal S7500x1 .f32, shapeCast S7500 y shapeCasts_S7500x1_S7500 (ix1 q) = y (ix2 q (0 : Fin 1)) := fun y =>
    shapeCast_apply _ _ _ (ix2 q (0 : Fin 1)) (by
      rewrite [Shape.rowMajor_val_two, Shape.rowMajor_val_one]
      show q.val * 1 + 0 = q.val; omega)
  refine ⟨(e _).trans ?_, (e _).trans ?_, (e _).trans ?_, (e _).trans ?_⟩
  all_goals
    refine extractStridedSlice_apply _ _ _ _ _ fun t => match t with
      | ⟨0, _⟩ => ?_
      | ⟨1, _⟩ => ?_
    · show q.val = 0 + q.val; omega
    · rfl

variable (m : (ℓ : Loc nD τ sig) → Buf (Elt Ideal) ℓ) (c : Dev nD)

/-- The two programs' tables are the same. -/
theorem table_same (h : Cert.Pre_layout.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) = fun _ => 1#1) :
    Cert.Reference3Ideal.Read.val_main_v84 (F := Ideal) (objs m c) (cols m c) (m ((c.tc : Thread nD τ).loc main_arg2))
        (m ((c.tc : Thread nD τ).loc main_arg3)) (m ((c.tc : Thread nD τ).loc main_arg4)) (m ((c.tc : Thread nD τ).loc main_arg5))
      = extractStridedSlice S6x2000 ![0, 0] (result m c) slices_S6x2048_S6x2000_0_0 := by
  funext i
  obtain ⟨r, j, rfl⟩ : ∃ (r : Fin 6) (j : Fin 2000), i = ix2 r j := ⟨i 0, i 1, funext fun a => match a with | ⟨0, _⟩ => rfl | ⟨1, _⟩ => rfl⟩
  have hl := layout_apply _ _ _ _ _ _ _ _ h
  refine (Eq.trans (extractStridedSlice_apply ![0, 0] (result m c) slices_S6x2048_S6x2000_0_0 (ix2 r j) (ix2 r (⟨j.val, by omega⟩ : Fin 2048)) fun t => match t with
    | ⟨0, _⟩ => by show r.val = 0 + r.val; omega
    | ⟨1, _⟩ => by show j.val = 0 + j.val; omega) ?_).symm
  rw [result_table m c]
  exact table_order (objs m c) (cols m c) _ _ _ _ _ _ _ _ _ _ _ (fun q => laid_entry _ q) (fun q => (laid_entry _ q).trans (column _ q).1)
    (fun q => (laid_entry _ q).trans (column _ q).2.1) (fun q => (laid_entry _ q).trans (column _ q).2.2.1)
    (fun q => (laid_entry _ q).trans (column _ q).2.2.2) (fun q => (hl q).1) (fun q => (hl q).2) r j

end

end Cert.Order

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.KernelIdeal.Read
public import proofs.«01_k».proof.Proof.Gen.ReferenceIdeal.Run
public import proofs.«01_k».proof.Proof.Gen.ReferenceIdeal.Read
public import proofs.«01_k».proof.Proof.Equation
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Run
public import proofs.«01_k».proof.Proof.Gen.Kernel2Ideal.Read
public import proofs.«01_k».proof.Proof.Gen.Reference2Ideal
public import proofs.«01_k».proof.Proof.Gen.Reference2Ideal.Step
public import proofs.«01_k».proof.Proof.Gen.Reference2Ideal.StepRun
public import proofs.«01_k».proof.Proof.NmsEquation
public import proofs.«01_k».proof.Proof.OrderBits
public import proofs.«01_k».proof.Proof.OrderEquation
public import proofs.«01_k».proof.Proof.Gen.Kernel3Ideal.Frame
public import proofs.«01_k».proof.Proof.Gen.Kernel3Ideal.Loops
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two programs run and end with equal objectness and equal box deltas. -/
theorem values : Cert.algebraic_KernelIdeal_ReferenceIdeal := by
  intro m g m' g' _ hargs
  refine ⟨fun c => Cert.KernelIdeal.Read.val_main_v62 (F := Ideal) (Cert.KernelIdeal.Value.reg_main_v57 m c),
    fun c => Cert.KernelIdeal.Read.val_main_v64 (F := Ideal) (Cert.KernelIdeal.Value.reg_main_v57 m c), ?_, ?_⟩
  · refine (θ_run _ _ _).mono (fun r h c => ?_) (Cert.KernelIdeal.Value.run (F := Ideal) m g)
    obtain ⟨h0, h1, ha⟩ := h c
    exact ⟨h0, h1, ha⟩
  · refine (θ_run _ _ _).mono (fun r h c => ?_) (Cert.ReferenceIdeal.Value.run (F := Ideal) m' g')
    obtain ⟨h0, h1, ha⟩ := h c
    obtain ⟨a0, a1, a2, a3, a4, a5, a6⟩ := hargs c
    refine ⟨h0.trans ?_, h1.trans ?_, ha⟩
    · rw [Cert.ReferenceIdeal.Read.val_main_v64_eq, a0, a1, a2, a3, a4]
      exact funext fun i => (Cert.Equation.obj m c i).symm
    · rw [Cert.ReferenceIdeal.Read.val_main_v67_eq, a0, a1, a2, a5, a6]
      exact funext fun i => (Cert.Equation.box m c i).symm

/-- The reference of the selection runs and leaves its argument as it was. -/
theorem reference2_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ fun r => (∀ c : Dev Cert.Reference2Ideal.nD,
        r.2.mem ((c.tc : Thread Cert.Reference2Ideal.nD Cert.Reference2Ideal.τ).loc Cert.Reference2Ideal.main_arg0)
          = m ((c.tc : Thread Cert.Reference2Ideal.nD Cert.Reference2Ideal.τ).loc Cert.Reference2Ideal.main_arg0)) ∧ r.2.sem = fun _ => 0 :=
  (θ_run Cert.Reference2Ideal.defs _ _).mono (fun r h => ⟨fun c => (h c).2.2, sem_eq_zero_of_no_sems (by decide) r.2⟩)
    (Cert.Reference2Ideal.StepRun.run_iter (F := Ideal) m ρ
      (fun c => Cert.Nms.Ref.states (m ((c.tc : Thread Cert.Reference2Ideal.nD Cert.Reference2Ideal.τ).loc Cert.Reference2Ideal.main_arg0)))
      (fun _ => rfl) (fun _ _ => rfl))

/-- From the sorted scores, boxes and flags the two programs run and end with equal boxes and equal scores. -/
theorem values2 : Cert.algebraic_Kernel2Ideal_Reference2Ideal_pre_flags := by
  intro m g m' g' hpre hargs
  have hf := fun c => Cert.Nms.flags_apply _ (hpre c)
  refine ⟨fun c => Cert.Nms.boxes (Cert.Kernel2Ideal.Value.reg_main_v1_0 m c) (Cert.Kernel2Ideal.Value.reg_main_v1_1 m c),
    fun c => Cert.Nms.scores (Cert.Kernel2Ideal.Value.reg_main_v1_0 m c) (Cert.Kernel2Ideal.Value.reg_main_v1_1 m c), ?_, ?_⟩
  · refine (θ_run _ _ _).mono (fun r h c => ?_) (Cert.Kernel2Ideal.Value.run (F := Ideal) m g)
    obtain ⟨h0, h1, ha⟩ := h c
    exact ⟨h0, h1, ha⟩
  · refine (θ_run _ _ _).mono (fun r h c => ?_) (Cert.Reference2Ideal.StepRun.run_iter (F := Ideal) m' g'
      (fun c => Cert.Nms.Ref.states (m' ((c.tc : Thread Cert.Reference2Ideal.nD Cert.Reference2Ideal.τ).loc Cert.Reference2Ideal.main_arg0)))
      (fun _ => rfl) (fun _ _ => rfl))
    obtain ⟨h0, h1, ha⟩ := h c
    have e := hargs c
    refine ⟨h0.trans ?_, h1.trans ?_, ha⟩
    · rw [e]; exact Cert.Nms.boxes_same m c (hf c)
    · rw [e]; exact Cert.Nms.scores_same m c (hf c)

/-- The reference of the ordering runs and leaves its arguments as they were. -/
theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From the objectness, the deltas and the anchors the two programs run and end with equal tables. -/
theorem values3 : Cert.algebraic_Kernel3Ideal_Reference3Ideal_pre_layout := by
  intro m g m' g' hpre hargs
  refine ⟨fun c => extractStridedSlice Cert.Kernel3Ideal.S6x2000 ![0, 0] (Cert.Order.result m c) Cert.Kernel3Ideal.Gen.slices_S6x2048_S6x2000_0_0, ?_, ?_⟩
  · exact Cert.Order.run m g
  · refine (θ_run _ _ _).mono (fun r h c => ?_) (Cert.Reference3Ideal.Value.run (F := Ideal) m' g')
    obtain ⟨h0, ha⟩ := h c
    obtain ⟨a0, a1, a2, a3, a4, a5, _, _⟩ := hargs c
    refine ⟨h0.trans ?_, ha⟩
    rw [Cert.Reference3Ideal.Read.val_main_v84_eq, a0, a1, a2, a3, a4, a5]
    exact Cert.Order.table_same m c (hpre c)

/-- The frames, the kernel kept as it is, and the results equal. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Nms.flagFacts, Cert.Order.layoutFacts,
  fun m ρ _ => Cert.Kernel.Gen.frame m ρ, fun m ρ _ => Cert.KernelIdeal.Gen.frame m ρ,
  fun m ρ _ => (θ_run Cert.ReferenceIdeal.defs _ _).mono (fun r h => ⟨fun c => (h c).2.2,
    sem_eq_zero_of_no_sems (by decide) r.2⟩) (Cert.ReferenceIdeal.Value.run (F := Ideal) m ρ),
  fun m ρ _ => Cert.Kernel2.Gen.frame m ρ, fun m ρ _ => Cert.Kernel2Ideal.Gen.frame m ρ, fun m ρ _ => Cert.Kernel2Ideal.Gen.frame m ρ,
  fun m ρ _ => reference2_frame m ρ, fun m ρ _ => reference2_frame m ρ,
  fun m ρ _ => Cert.Order.frame3 m ρ, fun m ρ _ => Cert.Order.frame m ρ, fun m ρ _ => Cert.Order.frame m ρ,
  reference3_frame, fun m ρ _ => reference3_frame m ρ trivial,
  trivial, values, trivial, values2, trivial, values3⟩

end Cert.Proof

end
